-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 512, 8, 64]⟩ ⟨4, ![2, 8192, 8, 64]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 8, 64]⟩ ⟨4, ![2, 8192, 8, 64]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x768 : Shape := ⟨3, ![2, 256, 768]⟩
abbrev S768x512 : Shape := ⟨2, ![768, 512]⟩
abbrev S2x512x8x64 : Shape := ⟨4, ![2, 512, 8, 64]⟩
abbrev S512x768 : Shape := ⟨2, ![512, 768]⟩
abbrev S2x4x2x16x64x512 : Shape := ⟨6, ![2, 4, 2, 16, 64, 512]⟩
abbrev S2x8 : Shape := ⟨2, ![2, 8]⟩
abbrev S2x7 : Shape := ⟨2, ![2, 7]⟩
abbrev S1x512x1x64 : Shape := ⟨4, ![1, 512, 1, 64]⟩
abbrev S512x64 : Shape := ⟨2, ![512, 64]⟩
abbrev S64x512 : Shape := ⟨2, ![64, 512]⟩
abbrev S1x1x1x1x64x512 : Shape := ⟨6, ![1, 1, 1, 1, 64, 512]⟩
abbrev S_ : Shape := ⟨0, ![]⟩
abbrev S1x1 : Shape := ⟨2, ![1, 1]⟩
abbrev S1x1x1x16x64x512 : Shape := ⟨6, ![1, 1, 1, 16, 64, 512]⟩
abbrev S16x64x512 : Shape := ⟨3, ![16, 64, 512]⟩
abbrev S512x512 : Shape := ⟨2, ![512, 512]⟩
abbrev S256x64 : Shape := ⟨2, ![256, 64]⟩
abbrev S1x256x64 : Shape := ⟨3, ![1, 256, 64]⟩
abbrev S16x256x64 : Shape := ⟨3, ![16, 256, 64]⟩
abbrev S16x256x1 : Shape := ⟨3, ![16, 256, 1]⟩
abbrev S16x256x512 : Shape := ⟨3, ![16, 256, 512]⟩
abbrev S16x256 : Shape := ⟨2, ![16, 256]⟩
abbrev S256x512 : Shape := ⟨2, ![256, 512]⟩
abbrev S256x768 : Shape := ⟨2, ![256, 768]⟩
abbrev S1x256x768 : Shape := ⟨3, ![1, 256, 768]⟩

abbrev nBuf : Space → Nat
  | .hbm => 6
  | .vmem => 7
  | .smem => 0
  | _ => 0

abbrev bufTy : (tb : Table) → Fin (tcTables nBuf tb) → BufTy
  | .hbm, ⟨0, _⟩ => ⟨S2x256x768, .bf16⟩
  | .hbm, ⟨1, _⟩ => ⟨S768x512, .bf16⟩
  | .hbm, ⟨2, _⟩ => ⟨S2x512x8x64, .bf16⟩
  | .hbm, ⟨3, _⟩ => ⟨S2x512x8x64, .bf16⟩
  | .hbm, ⟨4, _⟩ => ⟨S512x768, .bf16⟩
  | .hbm, ⟨5, _⟩ => ⟨S2x256x768, .f32⟩
  | .local _ .vmem, ⟨0, _⟩ => ⟨S2x256x768, .bf16⟩
  | .local _ .vmem, ⟨1, _⟩ => ⟨S768x512, .bf16⟩
  | .local _ .vmem, ⟨2, _⟩ => ⟨S512x768, .bf16⟩
  | .local _ .vmem, ⟨3, _⟩ => ⟨S2x512x8x64, .bf16⟩
  | .local _ .vmem, ⟨4, _⟩ => ⟨S2x512x8x64, .bf16⟩
  | .local _ .vmem, ⟨5, _⟩ => ⟨S2x256x768, .f32⟩
  | .local _ .vmem, ⟨6, _⟩ => ⟨S2x4x2x16x64x512, .bf16⟩
  | _, _ => ⟨S2x256x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_246 : BitVec 32 := 1#32
  let v153 : BitVec 32 := Scalar.muli v5 c1_i32_246
  let v154 : BitVec 32 := Scalar.addi c0_i32 v153
  v154.toNat
def k0_dev2 (d0 : Dev nD) : Nat :=
  let c0_i32_249 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_248 : BitVec 32 := 1#32
  let v155 : BitVec 32 := Scalar.muli v7 c1_i32_248
  let v156 : BitVec 32 := Scalar.addi c0_i32_249 v155
  v156.toNat
def k0_off1 (c1_i32_251 : BitVec 32) : Fin 6 → Nat :=
  let c0_i32_255 : BitVec 32 := 0#32
  let c4_i32_252 : BitVec 32 := 4#32
  let v158 : BitVec 32 := Scalar.remsi c1_i32_251 c4_i32_252
  let c0_i32_256 : BitVec 32 := 0#32
  let c0_i32_263 : BitVec 32 := 0#32
  let c0_i32_264 : BitVec 32 := 0#32
  let c0_i32_265 : BitVec 32 := 0#32
  ![0, v158.toNat, 0, 0, 0, 0]
def k0_off1_at (r : Fin 5) : BitVec 32 :=
  if r.val < 2 then
    if r.val < 1 then
      1#32
    else
      0#32
  else
    if r.val < 3 then
      7#32
    else
      if r.val < 4 then
        6#32
      else
        8#32
def k0_dev3 (d0 : Dev nD) : Nat :=
  let c0_i32_262 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_261 : BitVec 32 := 1#32
  let v159 : BitVec 32 := Scalar.muli v7 c1_i32_261
  let v160 : BitVec 32 := Scalar.addi c0_i32_262 v159
  v160.toNat
def k0_off2 (c1_i32_271 : BitVec 32) : Fin 6 → Nat :=
  let c1_i32_275 : BitVec 32 := 1#32
  let c4_i32_272 : BitVec 32 := 4#32
  let v170 : BitVec 32 := Scalar.remsi c1_i32_271 c4_i32_272
  let c0_i32_276 : BitVec 32 := 0#32
  let c0_i32_283 : BitVec 32 := 0#32
  let c0_i32_284 : BitVec 32 := 0#32
  let c0_i32_285 : BitVec 32 := 0#32
  ![1, v170.toNat, 0, 0, 0, 0]
def k0_off2_at (r : Fin 4) : BitVec 32 :=
  if r.val < 2 then
    if r.val < 1 then
      1#32
    else
      0#32
  else
    if r.val < 3 then
      7#32
    else
      6#32
def k0_dev4 (d0 : Dev nD) : Nat :=
  let c0_i32_282 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_281 : BitVec 32 := 1#32
  let v171 : BitVec 32 := Scalar.muli v5 c1_i32_281
  let v172 : BitVec 32 := Scalar.addi c0_i32_282 v171
  v172.toNat
def k0_off3 (c1_i32_547 : BitVec 32) : Fin 6 → Nat :=
  let c0_i32_551 : BitVec 32 := 0#32
  let c4_i32_548 : BitVec 32 := 4#32
  let v326 : BitVec 32 := Scalar.remsi c1_i32_547 c4_i32_548
  let c1_i32_552 : BitVec 32 := 1#32
  let c0_i32_559 : BitVec 32 := 0#32
  let c0_i32_560 : BitVec 32 := 0#32
  let c0_i32_561 : BitVec 32 := 0#32
  ![0, v326.toNat, 1, 0, 0, 0]
def k0_off3_at (r : Fin 5) : BitVec 32 :=
  if r.val < 2 then
    if r.val < 1 then
      1#32
    else
      0#32
  else
    if r.val < 3 then
      7#32
    else
      if r.val < 4 then
        6#32
      else
        8#32
def k0_dev5 (d0 : Dev nD) : Nat :=
  let c0_i32_558 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_557 : BitVec 32 := 1#32
  let v327 : BitVec 32 := Scalar.muli v7 c1_i32_557
  let v328 : BitVec 32 := Scalar.addi c0_i32_558 v327
  v328.toNat
def k0_off4 (c1_i32_567 : BitVec 32) : Fin 6 → Nat :=
  let c1_i32_571 : BitVec 32 := 1#32
  let c4_i32_568 : BitVec 32 := 4#32
  let v338 : BitVec 32 := Scalar.remsi c1_i32_567 c4_i32_568
  let c1_i32_572 : BitVec 32 := 1#32
  let c0_i32_579 : BitVec 32 := 0#32
  let c0_i32_580 : BitVec 32 := 0#32
  let c0_i32_581 : BitVec 32 := 0#32
  ![1, v338.toNat, 1, 0, 0, 0]
def k0_off4_at (r : Fin 4) : BitVec 32 :=
  if r.val < 2 then
    if r.val < 1 then
      1#32
    else
      0#32
  else
    if r.val < 3 then
      7#32
    else
      6#32
def k0_dev6 (d0 : Dev nD) : Nat :=
  let c0_i32_578 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_577 : BitVec 32 := 1#32
  let v339 : BitVec 32 := Scalar.muli v5 c1_i32_577
  let v340 : BitVec 32 := Scalar.addi c0_i32_578 v339
  v340.toNat
@[reducible] def k0_t1_loop : Scf.Loop 32 :=
  let c0_i32_610 : BitVec 32 := 0#32
  let c6_i32 : BitVec 32 := 6#32
  let v416 : BitVec 32 := Scalar.addi c0_i32_610 c6_i32
  let c1_i32_611 : BitVec 32 := 1#32
  ⟨c0_i32_610, v416, c1_i32_611⟩
def k0_off5 (k0_t1 : Fin k0_t1_loop.trips) : Fin 2 → Nat :=
  let c0_i32_933 : BitVec 32 := 0#32
  let c0_i32_610 : BitVec 32 := 0#32
  let c1_i32_611 : BitVec 32 := 1#32
  let arg11 : BitVec 32 := Scf.iv c0_i32_610 c1_i32_611 k0_t1
  ![0, arg11.toNat]
def k0_off6 (k0_t1 : Fin k0_t1_loop.trips) : Fin 6 → Nat :=
  let c0_i32_931 : BitVec 32 := 0#32
  let c0_i32_610 : BitVec 32 := 0#32
  let c1_i32_611 : BitVec 32 := 1#32
  let arg11 : BitVec 32 := Scf.iv c0_i32_610 c1_i32_611 k0_t1
  let c1_i32_927 : BitVec 32 := 1#32
  let v663 : BitVec 32 := Scalar.addi arg11 c1_i32_927
  let c4_i32_928 : BitVec 32 := 4#32
  let v664 : BitVec 32 := Scalar.remsi v663 c4_i32_928
  let c0_i32_932 : BitVec 32 := 0#32
  let c0_i32_937 : BitVec 32 := 0#32
  let c0_i32_938 : BitVec 32 := 0#32
  let c0_i32_939 : BitVec 32 := 0#32
  ![0, v664.toNat, 0, 0, 0, 0]
def k0_off7 (k0_t1 : Fin k0_t1_loop.trips) : Fin 6 → Nat :=
  let c0_i32_929 : BitVec 32 := 0#32
  let c0_i32_610 : BitVec 32 := 0#32
  let c1_i32_611 : BitVec 32 := 1#32
  let arg11 : BitVec 32 := Scf.iv c0_i32_610 c1_i32_611 k0_t1
  let c4_i32_926 : BitVec 32 := 4#32
  let v662 : BitVec 32 := Scalar.remsi arg11 c4_i32_926
  let c0_i32_930 : BitVec 32 := 0#32
  let c0_i32_940 : BitVec 32 := 0#32
  let c0_i32_941 : BitVec 32 := 0#32
  let c0_i32_942 : BitVec 32 := 0#32
  ![0, v662.toNat, 0, 0, 0, 0]
def k0_off8 (k0_t1 : Fin k0_t1_loop.trips) : Fin 2 → Nat :=
  let c0_i32_952 : BitVec 32 := 0#32
  let c0_i32_610 : BitVec 32 := 0#32
  let c1_i32_611 : BitVec 32 := 1#32
  let arg11 : BitVec 32 := Scf.iv c0_i32_610 c1_i32_611 k0_t1
  let c1_i32_943 : BitVec 32 := 1#32
  let v673 : BitVec 32 := Scalar.addi arg11 c1_i32_943
  ![0, v673.toNat]
def k0_off9 (k0_t1 : Fin k0_t1_loop.trips) : Fin 6 → Nat :=
  let c0_i32_949 : BitVec 32 := 0#32
  let c0_i32_610 : BitVec 32 := 0#32
  let c1_i32_611 : BitVec 32 := 1#32
  let arg11 : BitVec 32 := Scf.iv c0_i32_610 c1_i32_611 k0_t1
  let c1_i32_943 : BitVec 32 := 1#32
  let v673 : BitVec 32 := Scalar.addi arg11 c1_i32_943
  let c1_i32_945 : BitVec 32 := 1#32
  let v675 : BitVec 32 := Scalar.addi v673 c1_i32_945
  let c4_i32_946 : BitVec 32 := 4#32
  let v676 : BitVec 32 := Scalar.remsi v675 c4_i32_946
  let c0_i32_950 : BitVec 32 := 0#32
  let c0_i32_955 : BitVec 32 := 0#32
  let c0_i32_956 : BitVec 32 := 0#32
  let c0_i32_957 : BitVec 32 := 0#32
  ![0, v676.toNat, 0, 0, 0, 0]
def k0_dev7 (d0 : Dev nD) : Nat :=
  let c0_i32_954 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_953 : BitVec 32 := 1#32
  let v677 : BitVec 32 := Scalar.muli v7 c1_i32_953
  let v678 : BitVec 32 := Scalar.addi c0_i32_954 v677
  v678.toNat
def k0_off10 (k0_t1 : Fin k0_t1_loop.trips) : Fin 2 → Nat :=
  let c0_i32_981 : BitVec 32 := 0#32
  let c0_i32_610 : BitVec 32 := 0#32
  let c1_i32_611 : BitVec 32 := 1#32
  let arg11 : BitVec 32 := Scf.iv c0_i32_610 c1_i32_611 k0_t1
  ![0, arg11.toNat]
def k0_off11 (k0_t1 : Fin k0_t1_loop.trips) : Fin 6 → Nat :=
  let c1_i32_979 : BitVec 32 := 1#32
  let c0_i32_610 : BitVec 32 := 0#32
  let c1_i32_611 : BitVec 32 := 1#32
  let arg11 : BitVec 32 := Scf.iv c0_i32_610 c1_i32_611 k0_t1
  let c1_i32_975 : BitVec 32 := 1#32
  let v694 : BitVec 32 := Scalar.addi arg11 c1_i32_975
  let c4_i32_976 : BitVec 32 := 4#32
  let v695 : BitVec 32 := Scalar.remsi v694 c4_i32_976
  let c0_i32_980 : BitVec 32 := 0#32
  let c0_i32_985 : BitVec 32 := 0#32
  let c0_i32_986 : BitVec 32 := 0#32
  let c0_i32_987 : BitVec 32 := 0#32
  ![1, v695.toNat, 0, 0, 0, 0]
def k0_off12 (k0_t1 : Fin k0_t1_loop.trips) : Fin 6 → Nat :=
  let c1_i32_977 : BitVec 32 := 1#32
  let c0_i32_610 : BitVec 32 := 0#32
  let c1_i32_611 : BitVec 32 := 1#32
  let arg11 : BitVec 32 := Scf.iv c0_i32_610 c1_i32_611 k0_t1
  let c4_i32_974 : BitVec 32 := 4#32
  let v693 : BitVec 32 := Scalar.remsi arg11 c4_i32_974
  let c0_i32_978 : BitVec 32 := 0#32
  let c0_i32_988 : BitVec 32 := 0#32
  let c0_i32_989 : BitVec 32 := 0#32
  let c0_i32_990 : BitVec 32 := 0#32
  ![1, v693.toNat, 0, 0, 0, 0]
def k0_off13 (k0_t1 : Fin k0_t1_loop.trips) : Fin 2 → Nat :=
  let c0_i32_1000 : BitVec 32 := 0#32
  let c0_i32_610 : BitVec 32 := 0#32
  let c1_i32_611 : BitVec 32 := 1#32
  let arg11 : BitVec 32 := Scf.iv c0_i32_610 c1_i32_611 k0_t1
  let c1_i32_991 : BitVec 32 := 1#32
  let v704 : BitVec 32 := Scalar.addi arg11 c1_i32_991
  ![0, v704.toNat]
def k0_off14 (k0_t1 : Fin k0_t1_loop.trips) : Fin 6 → Nat :=
  let c1_i32_997 : BitVec 32 := 1#32
  let c0_i32_610 : BitVec 32 := 0#32
  let c1_i32_611 : BitVec 32 := 1#32
  let arg11 : BitVec 32 := Scf.iv c0_i32_610 c1_i32_611 k0_t1
  let c1_i32_991 : BitVec 32 := 1#32
  let v704 : BitVec 32 := Scalar.addi arg11 c1_i32_991
  let c1_i32_993 : BitVec 32 := 1#32
  let v706 : BitVec 32 := Scalar.addi v704 c1_i32_993
  let c4_i32_994 : BitVec 32 := 4#32
  let v707 : BitVec 32 := Scalar.remsi v706 c4_i32_994
  let c0_i32_998 : BitVec 32 := 0#32
  let c0_i32_1003 : BitVec 32 := 0#32
  let c0_i32_1004 : BitVec 32 := 0#32
  let c0_i32_1005 : BitVec 32 := 0#32
  ![1, v707.toNat, 0, 0, 0, 0]
def k0_dev8 (d0 : Dev nD) : Nat :=
  let c0_i32_1002 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1001 : BitVec 32 := 1#32
  let v708 : BitVec 32 := Scalar.muli v5 c1_i32_1001
  let v709 : BitVec 32 := Scalar.addi c0_i32_1002 v708
  v709.toNat
def k0_off15 (k0_t1 : Fin k0_t1_loop.trips) : Fin 6 → Nat :=
  let c0_1022 : Index := 0#32
  let c0_i32_610 : BitVec 32 := 0#32
  let c1_i32_611 : BitVec 32 := 1#32
  let arg11 : BitVec 32 := Scf.iv c0_i32_610 c1_i32_611 k0_t1
  let c1_i32_924 : BitVec 32 := 1#32
  let v660 : BitVec 32 := Scalar.addi arg11 c1_i32_924
  let c4_i32_925 : BitVec 32 := 4#32
  let v661 : BitVec 32 := Scalar.remsi v660 c4_i32_925
  let v724 : Index := Scalar.indexCast v661
  let c0_1023 : Index := 0#32
  let c0_1024 : Index := 0#32
  let c0_1025 : Index := 0#32
  let c0_1026 : Index := 0#32
  ![0, v724.toNat, 0, 0, 0, 0]
def k0_off16 (k0_t1 : Fin k0_t1_loop.trips) : Fin 2 → Nat :=
  let c1_i32_1038 : BitVec 32 := 1#32
  let c0_i32_610 : BitVec 32 := 0#32
  let c1_i32_611 : BitVec 32 := 1#32
  let arg11 : BitVec 32 := Scf.iv c0_i32_610 c1_i32_611 k0_t1
  ![1, arg11.toNat]
def k0_off17 (k0_t1 : Fin k0_t1_loop.trips) : Fin 6 → Nat :=
  let c0_i32_1036 : BitVec 32 := 0#32
  let c0_i32_610 : BitVec 32 := 0#32
  let c1_i32_611 : BitVec 32 := 1#32
  let arg11 : BitVec 32 := Scf.iv c0_i32_610 c1_i32_611 k0_t1
  let c1_i32_1032 : BitVec 32 := 1#32
  let v744 : BitVec 32 := Scalar.addi arg11 c1_i32_1032
  let c4_i32_1033 : BitVec 32 := 4#32
  let v745 : BitVec 32 := Scalar.remsi v744 c4_i32_1033
  let c1_i32_1037 : BitVec 32 := 1#32
  let c0_i32_1042 : BitVec 32 := 0#32
  let c0_i32_1043 : BitVec 32 := 0#32
  let c0_i32_1044 : BitVec 32 := 0#32
  ![0, v745.toNat, 1, 0, 0, 0]
def k0_off18 (k0_t1 : Fin k0_t1_loop.trips) : Fin 6 → Nat :=
  let c0_i32_1034 : BitVec 32 := 0#32
  let c0_i32_610 : BitVec 32 := 0#32
  let c1_i32_611 : BitVec 32 := 1#32
  let arg11 : BitVec 32 := Scf.iv c0_i32_610 c1_i32_611 k0_t1
  let c4_i32_1031 : BitVec 32 := 4#32
  let v743 : BitVec 32 := Scalar.remsi arg11 c4_i32_1031
  let c1_i32_1035 : BitVec 32 := 1#32
  let c0_i32_1045 : BitVec 32 := 0#32
  let c0_i32_1046 : BitVec 32 := 0#32
  let c0_i32_1047 : BitVec 32 := 0#32
  ![0, v743.toNat, 1, 0, 0, 0]
def k0_off19 (k0_t1 : Fin k0_t1_loop.trips) : Fin 2 → Nat :=
  let c1_i32_1057 : BitVec 32 := 1#32
  let c0_i32_610 : BitVec 32 := 0#32
  let c1_i32_611 : BitVec 32 := 1#32
  let arg11 : BitVec 32 := Scf.iv c0_i32_610 c1_i32_611 k0_t1
  let c1_i32_1048 : BitVec 32 := 1#32
  let v754 : BitVec 32 := Scalar.addi arg11 c1_i32_1048
  ![1, v754.toNat]
def k0_off20 (k0_t1 : Fin k0_t1_loop.trips) : Fin 6 → Nat :=
  let c0_i32_1054 : BitVec 32 := 0#32
  let c0_i32_610 : BitVec 32 := 0#32
  let c1_i32_611 : BitVec 32 := 1#32
  let arg11 : BitVec 32 := Scf.iv c0_i32_610 c1_i32_611 k0_t1
  let c1_i32_1048 : BitVec 32 := 1#32
  let v754 : BitVec 32 := Scalar.addi arg11 c1_i32_1048
  let c1_i32_1050 : BitVec 32 := 1#32
  let v756 : BitVec 32 := Scalar.addi v754 c1_i32_1050
  let c4_i32_1051 : BitVec 32 := 4#32
  let v757 : BitVec 32 := Scalar.remsi v756 c4_i32_1051
  let c1_i32_1055 : BitVec 32 := 1#32
  let c0_i32_1060 : BitVec 32 := 0#32
  let c0_i32_1061 : BitVec 32 := 0#32
  let c0_i32_1062 : BitVec 32 := 0#32
  ![0, v757.toNat, 1, 0, 0, 0]
def k0_dev9 (d0 : Dev nD) : Nat :=
  let c0_i32_1059 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1058 : BitVec 32 := 1#32
  let v758 : BitVec 32 := Scalar.muli v7 c1_i32_1058
  let v759 : BitVec 32 := Scalar.addi c0_i32_1059 v758
  v759.toNat
def k0_off21 (k0_t1 : Fin k0_t1_loop.trips) : Fin 6 → Nat :=
  let c0_1079 : Index := 0#32
  let c0_i32_610 : BitVec 32 := 0#32
  let c1_i32_611 : BitVec 32 := 1#32
  let arg11 : BitVec 32 := Scf.iv c0_i32_610 c1_i32_611 k0_t1
  let c1_i32_924 : BitVec 32 := 1#32
  let v660 : BitVec 32 := Scalar.addi arg11 c1_i32_924
  let c4_i32_925 : BitVec 32 := 4#32
  let v661 : BitVec 32 := Scalar.remsi v660 c4_i32_925
  let v774 : Index := Scalar.indexCast v661
  let c1_1080 : Index := 1#32
  let c0_1081 : Index := 0#32
  let c0_1082 : Index := 0#32
  let c0_1083 : Index := 0#32
  ![0, v774.toNat, 1, 0, 0, 0]
def k0_off22 (k0_t1 : Fin k0_t1_loop.trips) : Fin 6 → Nat :=
  let c1_1085 : Index := 1#32
  let c0_i32_610 : BitVec 32 := 0#32
  let c1_i32_611 : BitVec 32 := 1#32
  let arg11 : BitVec 32 := Scf.iv c0_i32_610 c1_i32_611 k0_t1
  let c1_i32_924 : BitVec 32 := 1#32
  let v660 : BitVec 32 := Scalar.addi arg11 c1_i32_924
  let c4_i32_925 : BitVec 32 := 4#32
  let v661 : BitVec 32 := Scalar.remsi v660 c4_i32_925
  let v781 : Index := Scalar.indexCast v661
  let c0_1086 : Index := 0#32
  let c0_1087 : Index := 0#32
  let c0_1088 : Index := 0#32
  let c0_1089 : Index := 0#32
  ![1, v781.toNat, 0, 0, 0, 0]
def k0_off23 (k0_t1 : Fin k0_t1_loop.trips) : Fin 2 → Nat :=
  let c1_i32_1101 : BitVec 32 := 1#32
  let c0_i32_610 : BitVec 32 := 0#32
  let c1_i32_611 : BitVec 32 := 1#32
  let arg11 : BitVec 32 := Scf.iv c0_i32_610 c1_i32_611 k0_t1
  ![1, arg11.toNat]
def k0_off24 (k0_t1 : Fin k0_t1_loop.trips) : Fin 6 → Nat :=
  let c1_i32_1099 : BitVec 32 := 1#32
  let c0_i32_610 : BitVec 32 := 0#32
  let c1_i32_611 : BitVec 32 := 1#32
  let arg11 : BitVec 32 := Scf.iv c0_i32_610 c1_i32_611 k0_t1
  let c1_i32_1095 : BitVec 32 := 1#32
  let v801 : BitVec 32 := Scalar.addi arg11 c1_i32_1095
  let c4_i32_1096 : BitVec 32 := 4#32
  let v802 : BitVec 32 := Scalar.remsi v801 c4_i32_1096
  let c1_i32_1100 : BitVec 32 := 1#32
  let c0_i32_1105 : BitVec 32 := 0#32
  let c0_i32_1106 : BitVec 32 := 0#32
  let c0_i32_1107 : BitVec 32 := 0#32
  ![1, v802.toNat, 1, 0, 0, 0]
def k0_off25 (k0_t1 : Fin k0_t1_loop.trips) : Fin 6 → Nat :=
  let c1_i32_1097 : BitVec 32 := 1#32
  let c0_i32_610 : BitVec 32 := 0#32
  let c1_i32_611 : BitVec 32 := 1#32
  let arg11 : BitVec 32 := Scf.iv c0_i32_610 c1_i32_611 k0_t1
  let c4_i32_1094 : BitVec 32 := 4#32
  let v800 : BitVec 32 := Scalar.remsi arg11 c4_i32_1094
  let c1_i32_1098 : BitVec 32 := 1#32
  let c0_i32_1108 : BitVec 32 := 0#32
  let c0_i32_1109 : BitVec 32 := 0#32
  let c0_i32_1110 : BitVec 32 := 0#32
  ![1, v800.toNat, 1, 0, 0, 0]
def k0_off26 (k0_t1 : Fin k0_t1_loop.trips) : Fin 2 → Nat :=
  let c1_i32_1120 : BitVec 32 := 1#32
  let c0_i32_610 : BitVec 32 := 0#32
  let c1_i32_611 : BitVec 32 := 1#32
  let arg11 : BitVec 32 := Scf.iv c0_i32_610 c1_i32_611 k0_t1
  let c1_i32_1111 : BitVec 32 := 1#32
  let v811 : BitVec 32 := Scalar.addi arg11 c1_i32_1111
  ![1, v811.toNat]
def k0_off27 (k0_t1 : Fin k0_t1_loop.trips) : Fin 6 → Nat :=
  let c1_i32_1117 : BitVec 32 := 1#32
  let c0_i32_610 : BitVec 32 := 0#32
  let c1_i32_611 : BitVec 32 := 1#32
  let arg11 : BitVec 32 := Scf.iv c0_i32_610 c1_i32_611 k0_t1
  let c1_i32_1111 : BitVec 32 := 1#32
  let v811 : BitVec 32 := Scalar.addi arg11 c1_i32_1111
  let c1_i32_1113 : BitVec 32 := 1#32
  let v813 : BitVec 32 := Scalar.addi v811 c1_i32_1113
  let c4_i32_1114 : BitVec 32 := 4#32
  let v814 : BitVec 32 := Scalar.remsi v813 c4_i32_1114
  let c1_i32_1118 : BitVec 32 := 1#32
  let c0_i32_1123 : BitVec 32 := 0#32
  let c0_i32_1124 : BitVec 32 := 0#32
  let c0_i32_1125 : BitVec 32 := 0#32
  ![1, v814.toNat, 1, 0, 0, 0]
def k0_dev10 (d0 : Dev nD) : Nat :=
  let c0_i32_1122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1121 : BitVec 32 := 1#32
  let v815 : BitVec 32 := Scalar.muli v5 c1_i32_1121
  let v816 : BitVec 32 := Scalar.addi c0_i32_1122 v815
  v816.toNat
def k0_off28 (k0_t1 : Fin k0_t1_loop.trips) : Fin 6 → Nat :=
  let c1_1142 : Index := 1#32
  let c0_i32_610 : BitVec 32 := 0#32
  let c1_i32_611 : BitVec 32 := 1#32
  let arg11 : BitVec 32 := Scf.iv c0_i32_610 c1_i32_611 k0_t1
  let c1_i32_924 : BitVec 32 := 1#32
  let v660 : BitVec 32 := Scalar.addi arg11 c1_i32_924
  let c4_i32_925 : BitVec 32 := 4#32
  let v661 : BitVec 32 := Scalar.remsi v660 c4_i32_925
  let v831 : Index := Scalar.indexCast v661
  let c1_1143 : Index := 1#32
  let c0_1144 : Index := 0#32
  let c0_1145 : Index := 0#32
  let c0_1146 : Index := 0#32
  ![1, v831.toNat, 1, 0, 0, 0]
def k0_dev11 (d0 : Dev nD) : Nat :=
  let c0_i32_644 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_643 : BitVec 32 := 1#32
  let v430 : BitVec 32 := Scalar.muli v7 c1_i32_643
  let v431 : BitVec 32 := Scalar.addi c0_i32_644 v430
  v431.toNat
def k0_dev12 (d0 : Dev nD) : Nat :=
  let c0_i32_744 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_743 : BitVec 32 := 1#32
  let v492 : BitVec 32 := Scalar.muli v7 c1_i32_743
  let v493 : BitVec 32 := Scalar.addi c0_i32_744 v492
  v493.toNat
abbrev stage0_0 : Fin 1 → Memref sig .tc .vmem S2x256x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x8x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x512x8x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x768 : Shape := ⟨3, ![2, 256, 768]⟩
abbrev S768x512 : Shape := ⟨2, ![768, 512]⟩
abbrev S2x8192x8x64 : Shape := ⟨4, ![2, 8192, 8, 64]⟩
abbrev S512x768 : Shape := ⟨2, ![512, 768]⟩
abbrev S2x256x512 : Shape := ⟨3, ![2, 256, 512]⟩
abbrev S2x256x8x64 : Shape := ⟨4, ![2, 256, 8, 64]⟩
abbrev S2x8x256x8192 : Shape := ⟨4, ![2, 8, 256, 8192]⟩
abbrev S_ : Shape := ⟨0, ![]⟩
abbrev S2x8x256 : Shape := ⟨3, ![2, 8, 256]⟩
abbrev S2x8x256x1 : Shape := ⟨4, ![2, 8, 256, 1]⟩
abbrev S2x8x64x256 : Shape := ⟨4, ![2, 8, 64, 256]⟩
abbrev S2x256x8x1 : Shape := ⟨4, ![2, 256, 8, 1]⟩

abbrev nBuf : Space → Nat
  | .hbm => 32
  | .vmem => 0
  | .smem => 0
  | _ => 0

abbrev bufTy : (tb : Table) → Fin (tcTables nBuf tb) → BufTy
  | .hbm, ⟨0, _⟩ => ⟨S2x256x768, .bf16⟩
  | .hbm, ⟨1, _⟩ => ⟨S768x512, .bf16⟩
  | .hbm, ⟨2, _⟩ => ⟨S2x8192x8x64, .bf16⟩
  | .hbm, ⟨3, _⟩ => ⟨S2x8192x8x64, .bf16⟩
  | .hbm, ⟨4, _⟩ => ⟨S512x768, .bf16⟩
  | .hbm, ⟨5, _⟩ => ⟨S2x256x768, .f32⟩
  | .hbm, ⟨6, _⟩ => ⟨S768x512, .f32⟩
  | .hbm, ⟨7, _⟩ => ⟨S2x8192x8x64, .f32⟩
  | .hbm, ⟨8, _⟩ => ⟨S2x8192x8x64, .f32⟩
  | .hbm, ⟨9, _⟩ => ⟨S512x768, .f32⟩
  | .hbm, ⟨10, _⟩ => ⟨S2x256x512, .f32⟩
  | .hbm, ⟨11, _⟩ => ⟨S2x256x8x64, .f32⟩
  | .hbm, ⟨12, _⟩ => ⟨S2x8x256x8192, .f32⟩
  | .hbm, ⟨13, _⟩ => ⟨S_, .f32⟩
  | .hbm, ⟨14, _⟩ => ⟨S2x8x256x8192, .f32⟩
  | .hbm, ⟨15, _⟩ => ⟨S2x8x256x8192, .f32⟩
  | .hbm, ⟨16, _⟩ => ⟨S_, .f32⟩
  | .hbm, ⟨17, _⟩ => ⟨S2x8x256, .f32⟩
  | .hbm, ⟨18, _⟩ => ⟨S2x8x256x1, .f32⟩
  | .hbm, ⟨19, _⟩ => ⟨S2x8x256x8192, .f32⟩
  | .hbm, ⟨20, _⟩ => ⟨S2x8x256x8192, .f32⟩
  | .hbm, ⟨21, _⟩ => ⟨S2x8x256x8192, .f32⟩
  | .hbm, ⟨22, _⟩ => ⟨S_, .f32⟩
  | .hbm, ⟨23, _⟩ => ⟨S2x8x256, .f32⟩
  | .hbm, ⟨24, _⟩ => ⟨S2x8x256x1, .f32⟩
  | .hbm, ⟨25, _⟩ => ⟨S2x8x64x256, .f32⟩
  | .hbm, ⟨26, _⟩ => ⟨S2x256x8x64, .f32⟩
  | .hbm, ⟨27, _⟩ => ⟨S2x256x8x1, .f32⟩
  | .hbm, ⟨28, _⟩ => ⟨S2x256x8x64, .f32⟩
  | .hbm, ⟨29, _⟩ => ⟨S2x256x8x64, .f32⟩
  | .hbm, ⟨30, _⟩ => ⟨S2x256x512, .f32⟩
  | .hbm, ⟨31, _⟩ => ⟨S2x256x768, .f32⟩
  | _, _ => ⟨S2x256x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Proof.Common.lean ====
/-
# The ring, its windows, its cells and the schedule

Sixteen devices sit on a ring. Each device's scratch buffer is two directions × four slots × (K, V) windows of
16×64×512 elements. Direction 0 travels up the ring in eight hops, direction 1 down in seven; each of the sixty
DMA cells of a device is used exactly once, so one round per cell suffices. This module names the windows and cells,
the contents a window holds, and what each cell's completion hands its owner.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties `Unit`) and the ring's (duties `Bool`) -/

/-- The ring protocol's own ghost state: rounds whose duties carry a Boolean name. -/
abbrev UB : Type := URounds (GSem nD τ sig) Bool
/-- The pipeline's ghost state next to the ring protocol's. -/
abbrev UU : Type := UR sig nD τ × UB

local notation "𝕄" => MT nD τ sig Unit (Elt F) ℕ UU ℕ

/-- The pipeline's part of the ghost state. -/
abbrev EP : Emb (UR sig nD τ) (MT nD τ sig Unit (Elt F) ℕ UU ℕ) := embL
/-- The ring protocol's part of the ghost state. -/
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- No loop needs a variant. -/
abbrev 𝒱₀ : Variants := Variants.none

/-! ## The ring -/

set_option backward.proofsInPublic true in
/-- The next device up the ring. -/
def nxt (c : Dev nD) : Dev nD := ⟨(c.val + 1) % 16, Nat.mod_lt _ (by decide)⟩
set_option backward.proofsInPublic true in
/-- The next device down the ring. -/
def prv (c : Dev nD) : Dev nD := ⟨(c.val + 15) % 16, Nat.mod_lt _ (by decide)⟩

/-- The device below the device above `c` is `c`. -/
theorem prv_nxt (c : Dev nD) : prv (nxt c) = c := by revert c; decide
/-- The device above the device below `c` is `c`. -/
theorem nxt_prv (c : Dev nD) : nxt (prv c) = c := by revert c; decide
/-- A device's two neighbours differ. -/
theorem nxt_ne_prv (c : Dev nD) : nxt c ≠ prv c := by revert c; decide

/-- One step up the ring, as a bijection. -/
def ring : Dev nD ≃ Dev nD := ⟨nxt, prv, prv_nxt, nxt_prv⟩

/-- The device a transfer of direction `d` goes to: up for 0, down for 1. -/
def toD (d : Fin 2) (c : Dev nD) : Dev nD := if d = 0 then nxt c else prv c
/-- The device a transfer of direction `d` comes from. -/
def fromD (d : Fin 2) (c : Dev nD) : Dev nD := if d = 0 then prv c else nxt c

/-- A transfer from `c` comes from `c` where it lands. -/
theorem fromD_toD (d : Fin 2) (c : Dev nD) : fromD d (toD d c) = c := by revert d c; decide
/-- What reaches `c` was sent to `c`. -/
theorem toD_fromD (d : Fin 2) (c : Dev nD) : toD d (fromD d c) = c := by revert d c; decide
@[simp] theorem toD_zero (c : Dev nD) : toD 0 c = nxt c := rfl
@[simp] theorem toD_one (c : Dev nD) : toD 1 c = prv c := rfl
@[simp] theorem fromD_zero (c : Dev nD) : fromD 0 c = prv c := rfl
@[simp] theorem fromD_one (c : Dev nD) : fromD 1 c = nxt c := rfl

/-- The devices one direction pairs up. -/
def ringD (d : Fin 2) : Dev nD ≃ Dev nD := ⟨toD d, fromD d, fromD_toD d, toD_fromD d⟩

set_option backward.proofsInPublic true in
/-- The device whose block sits in device `c`'s direction-`d` slot after `r` hops. -/
def srcAt (d : Fin 2) (c : Dev nD) (r : ℕ) : Dev nD :=
  if d = 0 then ⟨(c.val + 15 * r) % 16, Nat.mod_lt _ (by decide)⟩ else ⟨(c.val + r) % 16, Nat.mod_lt _ (by decide)⟩

/-- Before any hop the slot holds the device's own block. -/
theorem srcAt_zero (d : Fin 2) (c : Dev nD) : srcAt d c 0 = c := by revert d c; decide
/-- What has made `h` hops when it leaves `c` has made `h + 1` where it lands. -/
theorem srcAt_toD (d : Fin 2) (c : Dev nD) (h : ℕ) : srcAt d (toD d c) (h + 1) = srcAt d c h := by
  obtain ⟨c, hc⟩ := c
  have hc' : c < 16 := hc
  fin_cases d
  · refine Fin.ext ?_
    show ((c + 1) % 16 + 15 * (h + 1)) % 16 = (c + 15 * h) % 16
    omega
  · refine Fin.ext ?_
    show ((c + 15) % 16 + (h + 1)) % 16 = (c + h) % 16
    omega

/-! ## The buffers -/

/-- The staged inputs of the queries. -/
abbrev xM : Memref sig .tc .vmem S2x256x768 .bf16 := Memref.whole cc0_stg0_0
/-- The staged query projection. -/
abbrev wqM : Memref sig .tc .vmem S768x512 .bf16 := Memref.whole cc0_stg1_0
/-- The staged output projection. -/
abbrev woM : Memref sig .tc .vmem S512x768 .bf16 := Memref.whole cc0_stg2_0
/-- The staged keys. -/
abbrev kM : Memref sig .tc .vmem S2x512x8x64 .bf16 := Memref.whole cc0_stg3_0
/-- The staged values. -/
abbrev vM : Memref sig .tc .vmem S2x512x8x64 .bf16 := Memref.whole cc0_stg4_0
/-- The staging buffer of the result. -/
abbrev oM : Memref sig .tc .vmem S2x256x768 .f32 := Memref.whole cc0_stg5_0
/-- The scratch buffer: direction, slot, K or V, head, feature, key. -/
abbrev kvM : Memref sig .tc .vmem S2x4x2x16x64x512 .bf16 := Memref.whole cc0_scratch0

/-- The scratch buffer's place on device `c`. -/
abbrev kvL (c : Dev nD) : Loc nD τ sig := (c : Thread nD τ).loc cc0_scratch0

/-- The scratch contents of a device: one element for each index. -/
abbrev KVBuf (F : FTy → Type) : Type := S2x4x2x16x64x512.Idx → Elt F .bf16

/-- The elements of direction `d`, slot `s` (taken modulo 4), K (0) or V (1). -/
def W (d : Fin 2) (s : ℕ) (kv : Fin 2) : Finset S2x4x2x16x64x512.Idx :=
  Finset.univ.filter fun i => (i 0).val = d.val ∧ (i 1).val = s % 4 ∧ (i 2).val = kv.val

/-- An element is in a window when its first three coordinates are the window's. -/
theorem mem_W {d : Fin 2} {s : ℕ} {kv : Fin 2} {i : S2x4x2x16x64x512.Idx} :
    i ∈ W d s kv ↔ ((i 0).val = d.val ∧ (i 1).val = s % 4 ∧ (i 2).val = kv.val) := by
  unfold W; rw [Finset.mem_filter]; exact and_iff_right (Finset.mem_univ _)

/-- A window depends on its slot number modulo 4 only. -/
theorem W_mod (d : Fin 2) (s s' : ℕ) (kv : Fin 2) (h : s % 4 = s' % 4) : W d s kv = W d s' kv := by
  unfold W; rw [h]

/-- A window's rectangle lies inside the scratch buffer. -/
theorem slot_inb (d : Fin 2) (s : ℕ) (kv : Fin 2) :
    ∀ a, (![d.val, s % 4, kv.val, 0, 0, 0] : Fin 6 → ℕ) a + S1x1x1x16x64x512.size a ≤ S2x4x2x16x64x512.size a := by
  have hs : s % 4 < 4 := Nat.mod_lt _ (by decide)
  have hd := d.isLt
  have hkv := kv.isLt
  intro a
  fin_cases a
  · show d.val + 1 ≤ 2; omega
  · show s % 4 + 1 ≤ 4; omega
  · show kv.val + 1 ≤ 2; omega
  · show 0 + 16 ≤ 16; omega
  · show 0 + 64 ≤ 64; omega
  · show 0 + 512 ≤ 512; omega

set_option backward.proofsInPublic true in
/-- The rectangle of one window. -/
abbrev slotR (d : Fin 2) (s : ℕ) (kv : Fin 2) : Rect S2x4x2x16x64x512 :=
  Rect.unit (s := S2x4x2x16x64x512) ![d.val, s % 4, kv.val, 0, 0, 0] S1x1x1x16x64x512.size (slot_inb d s kv)

/-- One window as the transfers name it. -/
abbrev slotM (d : Fin 2) (s : ℕ) (kv : Fin 2) : Memref sig .tc .vmem S16x64x512 .bf16 :=
  (kvM.slice (slotR d s kv) (fun _ => rfl)).squeeze S16x64x512 squeezes_S1x1x1x16x64x512_S16x64x512

/-- The rectangle of a window has the window's elements; -/
theorem mem_slotR {d : Fin 2} {s : ℕ} {kv : Fin 2} {i : S2x4x2x16x64x512.Idx} : i ∈ (slotR d s kv).set ↔ i ∈ W d s kv := by
  rw [Rect.mem_set_unit, mem_W]
  have h3 := (i 3).isLt
  have h4 := (i 4).isLt
  have h5 := (i 5).isLt
  constructor
  · intro h
    have h0 := h 0
    have h1 := h 1
    have h2 := h 2
    change d.val ≤ (i 0).val ∧ (i 0).val < d.val + 1 at h0
    change s % 4 ≤ (i 1).val ∧ (i 1).val < s % 4 + 1 at h1
    change kv.val ≤ (i 2).val ∧ (i 2).val < kv.val + 1 at h2
    omega
  · rintro ⟨h0, h1, h2⟩ a
    fin_cases a
    · show d.val ≤ (i 0).val ∧ (i 0).val < d.val + 1; omega
    · show s % 4 ≤ (i 1).val ∧ (i 1).val < s % 4 + 1; omega
    · show kv.val ≤ (i 2).val ∧ (i 2).val < kv.val + 1; omega
    · exact ⟨Nat.zero_le _, lt_of_lt_of_eq h3 (Nat.zero_add _).symm⟩
    · exact ⟨Nat.zero_le _, lt_of_lt_of_eq h4 (Nat.zero_add _).symm⟩
    · exact ⟨Nat.zero_le _, lt_of_lt_of_eq h5 (Nat.zero_add _).symm⟩

/-- as a set; -/
theorem slotR_set (d : Fin 2) (s : ℕ) (kv : Fin 2) : (slotR d s kv).set = W d s kv := Finset.ext fun _ => mem_slotR

/-- and so has the window as the transfers name it. -/
theorem slotM_set (d : Fin 2) (s : ℕ) (kv : Fin 2) : (slotM d s kv).view.set = W d s kv := by
  refine (View.set_reshape _ _).trans ?_
  refine (View.set_slice_whole cc0_scratch0 (slotR d s kv)).trans ?_
  exact slotR_set d s kv

/-! ## What the windows hold -/

/-- Where a scratch element comes from in a device's K or V block: batch and head are fused in the scratch. -/
def srcIx (i : S2x4x2x16x64x512.Idx) : S2x512x8x64.Idx := fun a => match a with
  | ⟨0, _⟩ => ⟨(i 3).val / 8, by have h : (i 3).val < 16 := (i 3).isLt; show (i 3).val / 8 < 2; omega⟩
  | ⟨1, _⟩ => ⟨(i 5).val, by have h : (i 5).val < 512 := (i 5).isLt; exact h⟩
  | ⟨2, _⟩ => ⟨(i 3).val % 8, Nat.mod_lt _ (by decide)⟩
  | ⟨3, _⟩ => ⟨(i 4).val, by have h : (i 4).val < 64 := (i 4).isLt; exact h⟩

/-- A K or V block laid out as every window of the scratch would hold it. -/
def kvBuf (x : S2x512x8x64.Idx → Elt F .bf16) : KVBuf F := fun i => x (srcIx i)

/-- Device `c`'s staged blocks. -/
def xstg (c : Dev nD) : (cc0_stg0_0 : Ref sig .tc).ty.Contents (Elt F) :=
  (win0_0.blk (0 : Fin 1)).view.read (Elt F) ((s₀ m ρ).mem ((c : Thread nD τ).loc main_arg0))
/-- The staged query projection's contents. -/
def wqstg (c : Dev nD) : (cc0_stg1_0 : Ref sig .tc).ty.Contents (Elt F) :=
  (win0_1.blk (0 : Fin 1)).view.read (Elt F) ((s₀ m ρ).mem ((c : Thread nD τ).loc main_arg1))
/-- The staged output projection's contents. -/
def wostg (c : Dev nD) : (cc0_stg2_0 : Ref sig .tc).ty.Contents (Elt F) :=
  (win0_2.blk (0 : Fin 1)).view.read (Elt F) ((s₀ m ρ).mem ((c : Thread nD τ).loc main_arg4))
/-- The staged keys' contents. -/
def kstg (c : Dev nD) : (cc0_stg3_0 : Ref sig .tc).ty.Contents (Elt F) :=
  (win0_3.blk (0 : Fin 1)).view.read (Elt F) ((s₀ m ρ).mem ((c : Thread nD τ).loc main_arg2))
/-- The staged values' contents. -/
def vstg (c : Dev nD) : (cc0_stg4_0 : Ref sig .tc).ty.Contents (Elt F) :=
  (win0_4.blk (0 : Fin 1)).view.read (Elt F) ((s₀ m ρ).mem ((c : Thread nD τ).loc main_arg3))

/-- The scratch layout of device `e`'s K block (`kv = 0`) or V block (`kv = 1`). -/
def cont (e : Dev nD) (kv : Fin 2) : KVBuf F := if kv = 0 then kvBuf (kstg m ρ e) else kvBuf (vstg m ρ e)

/-- Share `q` of one window of device `c`, holding `f`. -/
def slotP (c : Dev nD) (d : Fin 2) (s : ℕ) (kv : Fin 2) (q : PosShare TreeShare) (f : KVBuf F) : sProp 𝕄 :=
  kvL c ↦[W d s kv]{q} f

/-- One window of device `c` outright, at any contents. -/
def slotE (c : Dev nD) (d : Fin 2) (s : ℕ) (kv : Fin 2) : sProp 𝕄 := iprop(∃ f : KVBuf F, slotP c d s kv fullShare f)

/-- Both windows of a slot outright, at any contents. -/
def slotB (c : Dev nD) (d : Fin 2) (s : ℕ) : sProp 𝕄 := iprop(slotE c d s 0 ∗ slotE c d s 1)

omit [FloatOps F] in
instance slotP_storable (c : Dev nD) (d : Fin 2) (s : ℕ) (kv : Fin 2) (q : PosShare TreeShare) (f : KVBuf F) :
    BI.Storable (upEmb : UEmb _ 𝕄) (slotP (F := F) c d s kv q f) := by unfold slotP; infer_instance
omit [FloatOps F] in
instance slotE_storable (c : Dev nD) (d : Fin 2) (s : ℕ) (kv : Fin 2) :
    BI.Storable (upEmb : UEmb _ 𝕄) (slotE (F := F) c d s kv) := by unfold slotE; infer_instance
omit [FloatOps F] in
instance slotB_storable (c : Dev nD) (d : Fin 2) (s : ℕ) :
    BI.Storable (upEmb : UEmb _ 𝕄) (slotB (F := F) c d s) := by unfold slotB; infer_instance

omit [FloatOps F] in
/-- Owning a window depends on its slot number modulo 4 only; -/
theorem slotP_mod (c : Dev nD) (d : Fin 2) (s s' : ℕ) (kv : Fin 2) (q : PosShare TreeShare) (f : KVBuf F) (h : s % 4 = s' % 4) :
    (slotP c d s kv q f : sProp 𝕄) = slotP c d s' kv q f := by unfold slotP; rw [W_mod d s s' kv h]
omit [FloatOps F] in
/-- so does owning a slot. -/
theorem slotB_mod (c : Dev nD) (d : Fin 2) (s s' : ℕ) (h : s % 4 = s' % 4) :
    (slotB c d s : sProp 𝕄) = slotB c d s' := by
  unfold slotB slotE; simp only [slotP_mod c d s s' _ _ _ h]

omit [FloatOps F] in
/-- A window outright is its two halves. -/
theorem slotP_halves (c : Dev nD) (d : Fin 2) (s : ℕ) (kv : Fin 2) (f : KVBuf F) :
    (slotP c d s kv fullShare f : sProp 𝕄) ⊣⊢ iprop(slotP c d s kv fullShare.left f ∗ slotP c d s kv fullShare.right f) := by
  unfold slotP
  exact pointsTo_share (PosShare.mem_left_op_right fullShare)

omit [FloatOps F] in
/-- A window at known contents is a window at some contents. -/
theorem slotE_intro (c : Dev nD) (d : Fin 2) (s : ℕ) (kv : Fin 2) (f : KVBuf F) :
    (slotP c d s kv fullShare f : sProp 𝕄) ⊢ slotE c d s kv := by
  unfold slotE; iintro H; iexists f; iexact H

/-! ## The cells -/

/-- The runtime's barrier semaphore (collective id 0). -/
abbrev barS : Sem sig := (SemArray.scalar (sig.barrier 0 rfl) : Sems sig S_).sem
/-- The barrier's cell on device `c`. -/
abbrev barCell (c : Dev nD) : GSem nD τ sig := ((c : Thread nD τ), .reg barS)

set_option backward.proofsInPublic true in
/-- The sixty transfer semaphores: number 6 and up, after the staging buffers' six. -/
def dsem (k : Fin 60) : DmaSem sig := ⟨6 + k.val, by have := k.isLt; show 6 + k.val < 66; omega⟩
/-- The cell of transfer semaphore `k` on device `c`. -/
abbrev kcell (c : Dev nD) (k : Fin 60) : GSem nD τ sig := ((c : Thread nD τ), .dma (dsem k))

/-- Different numbers name different transfer semaphores. -/
theorem dsem_inj {k k' : Fin 60} (h : dsem k = dsem k') : k = k' := by
  have := congrArg Fin.val h; simp only [dsem] at this; exact Fin.ext (by omega)

/-- Is cell `k` a receive cell? -/
def isRecv (k : Fin 60) : Bool := (16 ≤ k.val ∧ k.val < 32) ∨ 46 ≤ k.val
/-- Its direction. -/
def dirK (k : Fin 60) : Fin 2 := if k.val < 32 then 0 else 1
/-- K or V. -/
def kvK (k : Fin 60) : Fin 2 :=
  if k.val < 8 then 0 else if k.val < 16 then 1 else if k.val < 24 then 0 else if k.val < 32 then 1
  else if k.val < 39 then 0 else if k.val < 46 then 1 else if k.val < 53 then 0 else 1
/-- Its hop. -/
def hopK (k : Fin 60) : ℕ := if k.val < 32 then k.val % 8 else (k.val - 32) % 7

/-- Hops of a direction: eight up, seven down. -/
def nh (d : Fin 2) : ℕ := if d = 0 then 8 else 7

set_option backward.proofsInPublic true in
/-- The send cell of hop `h` (below `nh d`) of direction `d`. -/
def sK (d kv : Fin 2) (h : ℕ) : Fin 60 :=
  if d = 0 then ⟨(kv.val * 8 + h) % 60, Nat.mod_lt _ (by decide)⟩ else ⟨(32 + kv.val * 7 + h) % 60, Nat.mod_lt _ (by decide)⟩
set_option backward.proofsInPublic true in
/-- The receive cell of hop `h` (below `nh d`) of direction `d`. -/
def rK (d kv : Fin 2) (h : ℕ) : Fin 60 :=
  if d = 0 then ⟨(16 + kv.val * 8 + h) % 60, Nat.mod_lt _ (by decide)⟩ else ⟨(46 + kv.val * 7 + h) % 60, Nat.mod_lt _ (by decide)⟩

/-- The send cell of a hop is a send cell of that direction, of K or V as asked, and of that hop. -/
theorem sK_spec (d kv : Fin 2) (h : ℕ) (hh : h < nh d) :
    isRecv (sK d kv h) = false ∧ dirK (sK d kv h) = d ∧ kvK (sK d kv h) = kv ∧ hopK (sK d kv h) = h := by
  have key : ∀ d kv : Fin 2, ∀ h : Fin 8, h.val < nh d →
      isRecv (sK d kv h.val) = false ∧ dirK (sK d kv h.val) = d ∧ kvK (sK d kv h.val) = kv ∧ hopK (sK d kv h.val) = h.val := by decide
  have h8 : h < 8 := by unfold nh at hh; split at hh <;> omega
  exact key d kv ⟨h, h8⟩ hh
/-- The receive cell of a hop is a receive cell of that direction, of K or V as asked, and of that hop. -/
theorem rK_spec (d kv : Fin 2) (h : ℕ) (hh : h < nh d) :
    isRecv (rK d kv h) = true ∧ dirK (rK d kv h) = d ∧ kvK (rK d kv h) = kv ∧ hopK (rK d kv h) = h := by
  have key : ∀ d kv : Fin 2, ∀ h : Fin 8, h.val < nh d →
      isRecv (rK d kv h.val) = true ∧ dirK (rK d kv h.val) = d ∧ kvK (rK d kv h.val) = kv ∧ hopK (rK d kv h.val) = h.val := by decide
  have h8 : h < 8 := by unfold nh at hh; split at hh <;> omega
  exact key d kv ⟨h, h8⟩ hh

/-! ## The payloads -/

/-- What a hop's landing hands its receiver `c` besides the block: a slot of the sender's that its back-pressure
    frees. Up-going K hops hand over the sender's down slot two past the hop, down-going V hops its up slot three past. -/
def extra (c : Dev nD) (d kv : Fin 2) (h : ℕ) : sProp 𝕄 :=
  if d = 0 ∧ kv = 0 ∧ h < 6 then slotB (fromD 0 c) 1 (h + 2)
  else if d = 1 ∧ kv = 1 ∧ h < 6 then slotB (fromD 1 c) 0 (h + 3)
  else iprop(emp)

/-- A receive cell's completion: the window landed in, at the block that has now made one hop more; and `extra`. -/
def recvPay (c : Dev nD) (d kv : Fin 2) (h : ℕ) : sProp 𝕄 :=
  iprop(slotP c d (h + 1) kv fullShare (cont m ρ (srcAt d c (h + 1)) kv) ∗ extra c d kv h)

/-- A send cell's completion: the half of the source window lent to the transfer. -/
def sendPay (c : Dev nD) (d kv : Fin 2) (h : ℕ) : sProp 𝕄 :=
  slotP c d h kv fullShare.right (cont m ρ (srcAt d c h) kv)

/-- What `c`'s barrier cell collects: `false`, from `nxt c`, its up slots 1 and 2; `true`, from `prv c`, its down slot 1. -/
def barPay (c : Dev nD) (d : Bool) : sProp 𝕄 :=
  if d then slotB (prv c) 1 1 else iprop(slotB (nxt c) 0 1 ∗ slotB (nxt c) 0 2)

/-- What a transfer cell's completion hands over: a receive cell's or a send cell's. -/
def kPay (c : Dev nD) (k : Fin 60) : sProp 𝕄 :=
  if isRecv k then recvPay m ρ c (dirK k) (kvK k) (hopK k) else sendPay m ρ c (dirK k) (kvK k) (hopK k)

/-- The number of a transfer cell. -/
def kOf (g : GSem nD τ sig) : Option (Fin 60) := match g with
  | (_, .dma q) => if h : 6 ≤ q.val then some ⟨q.val - 6, by have : q.val < 66 := q.isLt; omega⟩ else none
  | _ => none

/-- A transfer cell's number is read back from it. -/
theorem kOf_kcell (c : Dev nD) (k : Fin 60) : kOf (kcell c k) = some k := by
  show (if h : 6 ≤ (dsem k).val then some (⟨(dsem k).val - 6, _⟩ : Fin 60) else none) = some k
  rw [dif_pos (by show 6 ≤ 6 + k.val; omega)]
  exact congrArg some (Fin.ext (by show 6 + k.val - 6 = k.val; omega))

/-- Every transfer moves one window: its credit. -/
abbrev N : ℕ := (slotM 0 0 0).view.dmaCredit
/-- A transfer's credit is not zero. -/
theorem N_pos : 0 < N := View.dmaCredit_pos _ (by decide)

/-- One round, round 0: a barrier cell's two duties of one unit, a transfer cell's one duty of a window's credit. -/
def ringRd : Rounds.Schedule (GSem nD τ sig) Bool 𝕄 where
  duties g r := if r = 0 ∧ g.1.2 = .tc ∧ g.2 = .reg barS then Finset.univ
    else if r = 0 ∧ g.1.2 = .tc ∧ (kOf g).isSome then {false} else ∅
  unitless _ := False
  amount g _ _ := if g.2 = .reg barS then 1 else N
  payload g _ d := if g.2 = .reg barS then barPay g.1.1 d else match kOf g with
    | some k => kPay m ρ g.1.1 k
    | none => iprop(emp)
  amount_pos g _ _ _ := by
    by_cases h : g.2 = .reg barS
    · rw [if_pos h]; exact Nat.one_pos
    · rw [if_neg h]; exact N_pos

instance extra_storable (c : Dev nD) (d kv : Fin 2) (h : ℕ) : BI.Storable (upEmb : UEmb _ 𝕄) (extra (F := F) c d kv h) := by
  unfold extra; (repeat' split) <;> infer_instance
instance kPay_storable (c : Dev nD) (k : Fin 60) : BI.Storable (upEmb : UEmb _ 𝕄) (kPay (F := F) m ρ c k) := by
  unfold kPay recvPay sendPay; split <;> infer_instance
instance barPay_storable (c : Dev nD) (d : Bool) : BI.Storable (upEmb : UEmb _ 𝕄) (barPay (F := F) c d) := by
  unfold barPay; split <;> infer_instance

instance ringRd_payload_storable (g : GSem nD τ sig) (r : ℕ) (d : Bool) :
    BI.Storable (upEmb : UEmb _ 𝕄) ((ringRd (F := F) m ρ).payload g r d) := by
  show BI.Storable upEmb (if g.2 = .reg barS then barPay g.1.1 d else match kOf g with
    | some k => kPay m ρ g.1.1 k
    | none => iprop(emp))
  split
  · infer_instance
  · split <;> infer_instance

section Sched
variable (c : Dev nD) (k : Fin 60)

/-- A transfer semaphore is not the barrier. -/
theorem k_ne_bar : (SemLoc.dma (dsem k) : SemLoc sig) ≠ .reg barS := fun h => by cases h

omit [FloatOps F] in
/-- The barrier's cell collects both its duties in round 0. -/
theorem duties_bar : (ringRd (F := F) m ρ).duties (barCell c) 0 = Finset.univ := by dsimp only [ringRd]; exact if_pos ⟨rfl, rfl, rfl⟩
omit [FloatOps F] in
/-- A transfer cell has one duty in round 0. -/
theorem duties_k : (ringRd (F := F) m ρ).duties (kcell c k) 0 = {false} := by
  dsimp only [ringRd]; rw [if_neg (fun h => k_ne_bar k h.2.2)]; exact if_pos ⟨rfl, rfl, by rw [kOf_kcell]; rfl⟩
omit [FloatOps F] in
/-- No cell has a duty after round 0. -/
theorem duties_later (g : GSem nD τ sig) : ∀ r, 1 ≤ r → (ringRd (F := F) m ρ).duties g r = ∅ :=
  fun r hr => by dsimp only [ringRd]; rw [if_neg fun h => by omega, if_neg fun h => by omega]
omit [FloatOps F] in
/-- A duty of the barrier is one unit. -/
theorem amount_bar (d : Bool) : (ringRd (F := F) m ρ).amount (barCell c) 0 d = 1 := by dsimp only [ringRd]; exact if_pos rfl
omit [FloatOps F] in
/-- A duty of a transfer cell is one window's credit. -/
theorem amount_k (d : Bool) : (ringRd (F := F) m ρ).amount (kcell c k) 0 d = N := by dsimp only [ringRd]; exact if_neg (k_ne_bar k)
omit [FloatOps F] in
/-- The barrier's wait takes two units. -/
theorem expect_bar : (ringRd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
omit [FloatOps F] in
/-- A transfer cell's wait takes one window's credit. -/
theorem expect_k : (ringRd (F := F) m ρ).expect (kcell c k) 0 = N := by
  unfold Schedule.expect Schedule.amountOf; rw [duties_k, Finset.sum_singleton, amount_k]
omit [FloatOps F] in
/-- What a duty of the barrier hands over. -/
theorem payload_bar (d : Bool) : (ringRd (F := F) m ρ).payload (barCell c) 0 d = barPay c d := by dsimp only [ringRd]; rw [if_pos rfl]
omit [FloatOps F] in
/-- What a transfer cell's duty hands over. -/
theorem payload_k (d : Bool) : (ringRd (F := F) m ρ).payload (kcell c k) 0 d = kPay m ρ c k := by
  dsimp only [ringRd]; rw [if_neg (k_ne_bar k), kOf_kcell]
omit [FloatOps F] in
/-- What the barrier's wait takes home: both neighbours' payloads. -/
theorem rest_bar : bigSep ((ringRd (F := F) m ρ).duties (barCell c) 0 \ ∅) (fun d => (ringRd (F := F) m ρ).payload (barCell c) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl
omit [FloatOps F] in
/-- What the wait on a transfer cell takes home. -/
theorem rest_k : bigSep ((ringRd (F := F) m ρ).duties (kcell c k) 0 \ ∅) (fun d => (ringRd (F := F) m ρ).payload (kcell c k) 0 d) = kPay m ρ c k := by
  rw [Finset.sdiff_empty, duties_k, bigSep_singleton, payload_k]

end Sched

omit [FloatOps F] in
/-- The payload of a send cell is the lent half of the source window. -/
theorem kPay_send (c : Dev nD) (d kv : Fin 2) (h : ℕ) (hh : h < nh d) : (kPay m ρ c (sK d kv h) : sProp 𝕄) = sendPay m ρ c d kv h := by
  obtain ⟨h1, h2, h3, h4⟩ := sK_spec d kv h hh
  unfold kPay; rw [h1, h2, h3, h4]; exact if_neg Bool.false_ne_true
omit [FloatOps F] in
/-- The payload of a receive cell is the window that landed, and what comes with it. -/
theorem kPay_recv (c : Dev nD) (d kv : Fin 2) (h : ℕ) (hh : h < nh d) : (kPay m ρ c (rK d kv h) : sProp 𝕄) = recvPay m ρ c d kv h := by
  obtain ⟨h1, h2, h3, h4⟩ := rK_spec d kv h hh
  unfold kPay; rw [h1, h2, h3, h4]; exact if_pos rfl

end Cert.RingProof

end
-- ==== Proof.Steps.lean ====
/-
# The protocol's state on one device, and the rules that move it

`A` is the set of the device's own transfer cells it has not yet waited on, `D` the set of completions it still has to
bring about (its own sends' and its neighbours' receives'). Starting hop `h` removes one send and one receive from `D`,
a wait removes a cell from `A`.
-/
module

public import proofs.«01_k».proof.Proof.Common

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Taking one factor out of a product and putting one in -/

omit [FloatOps F] in
/-- One cell is taken out of a conjunction over cells; -/
theorem big_take {S : Finset (Fin 60)} {k : Fin 60} (h : k ∈ S) (Φ : Fin 60 → sProp 𝕄) :
    bigSep S Φ ⊢ iprop(Φ k ∗ bigSep (S.erase k) Φ) := Entails.of_eq (bigSep_erase h)
omit [FloatOps F] in
/-- or put back into it. -/
theorem big_put {S : Finset (Fin 60)} {k : Fin 60} (h : k ∉ S) (Φ : Fin 60 → sProp 𝕄) :
    iprop(Φ k ∗ bigSep S Φ) ⊢ bigSep (insert k S) Φ := Entails.of_eq (bigSep_insert h).symm

/-! ## The shared records -/

/-- All cells: a device's barrier (`none`) and its sixty transfer cells. -/
abbrev ccell (ck : Dev nD × Option (Fin 60)) : GSem nD τ sig := match ck.2 with
  | none => barCell ck.1
  | some k => kcell ck.1 k

/-- Every cell's invariant, under the names `K`, and that every cell's round 0 has been reached. -/
def recs (K : Dev nD × Option (Fin 60) → ℕ) : sProp 𝕄 :=
  iprop((bigSep Finset.univ fun ck => cellInv ER (ringRd m ρ) (K ck) (ccell ck)) ∗ bigSep Finset.univ fun ck => reached ER (ccell ck) 0)

instance recs_persistent (K : Dev nD × Option (Fin 60) → ℕ) : BI.Persistent (recs m ρ K) := by unfold recs; infer_instance

/-- The records give every cell's invariant, -/
theorem inv_at (K : Dev nD × Option (Fin 60) → ℕ) (ck : Dev nD × Option (Fin 60)) :
    recs m ρ K ⊢ cellInv ER (ringRd m ρ) (K ck) (ccell ck) := by
  have h : (bigSep Finset.univ fun ck => (cellInv ER (ringRd m ρ) (K ck) (ccell ck) : sProp 𝕄)) ⊢ cellInv ER (ringRd m ρ) (K ck) (ccell ck) :=
    bigSep_elim (Finset.mem_univ ck)
  unfold recs; iintro ⟨H, -⟩; iapply h; iexact H
/-- and that its round 0 has been reached. -/
theorem reached_at (K : Dev nD × Option (Fin 60) → ℕ) (ck : Dev nD × Option (Fin 60)) :
    recs m ρ K ⊢ reached ER (ccell ck) 0 := by
  have h : (bigSep Finset.univ fun ck => (reached ER (ccell ck) 0 : sProp 𝕄)) ⊢ reached ER (ccell ck) 0 :=
    bigSep_elim (Finset.mem_univ ck)
  unfold recs; iintro ⟨-, H⟩; iapply h; iexact H

/-! ## Levels -/

/-- The tensor core's cells are the ones with a level. -/
def L (g : GSem nD τ sig) : Finset Unit := if g.1.2 = .tc then {()} else ∅
/-- A receive cell of hop `h` at `2 + h`, the barrier at 1, everything else at 0. -/
def lv (g : GSem nD τ sig) (_ : Unit) : ℕ := if g.2 = .reg barS then 1 else match kOf g with
  | some k => if isRecv k then 2 + hopK k else 0
  | none => 0

/-- Other cores' cells have no level. -/
theorem L_of_ne (g : GSem nD τ sig) (h : g.1.2 ≠ .tc) : L g = ∅ := if_neg h
/-- The tensor core's cells have one. -/
theorem L_tc (c : Dev nD) (sm : SemLoc sig) : L ((c : Thread nD τ), sm) = {()} := if_pos rfl
/-- The barrier is at level 1. -/
theorem lv_bar (c : Dev nD) (u : Unit) : lv (barCell c) u = 1 := if_pos rfl
/-- A receive cell of hop `h` is at level `2 + h`, a send cell at 0. -/
theorem lv_k (c : Dev nD) (k : Fin 60) (u : Unit) : lv (kcell c k) u = if isRecv k then 2 + hopK k else 0 := by
  unfold lv; rw [if_neg (k_ne_bar k), kOf_kcell]

/-- Everything owed lies above level `l`. -/
def Above (l : ℕ) (O : CellTallies nD τ sig Unit) : Prop := ∀ g u, 0 < O g u → g.1.2 = .tc ∧ l < lv g u

/-- Owing nothing lies above every level. -/
theorem Above.zero (l : ℕ) : Above l 0 := fun g u h => absurd h (Nat.lt_irrefl 0)
/-- Two debts above a level are above it together. -/
theorem Above.add {l : ℕ} {O O' : CellTallies nD τ sig Unit} (h : Above l O) (h' : Above l O') : Above l (O + O') := fun g u hg => by
  rw [Pi.add_apply, Finsupp.add_apply] at hg
  rcases Nat.eq_zero_or_pos (O g u) with h0 | h0
  · exact h' g u (by omega)
  · exact h g u h0
/-- A debt to one cell lies above every level below the cell's. -/
theorem Above.tally {l : ℕ} (c : Dev nD) (sm : SemLoc sig) (n : ℕ) (h : l < lv ((c : Thread nD τ), sm) ()) :
    Above l (tallyAt ((c : Thread nD τ), sm) () n) := fun g u hg => by
  rw [tallyAt_apply] at hg
  by_cases h' : g = ((c : Thread nD τ), sm) ∧ u = ()
  · rw [h'.1]; exact ⟨rfl, h⟩
  · rw [if_neg h'] at hg; exact absurd hg (Nat.lt_irrefl 0)
/-- A sum of debts above a level is above it. -/
theorem Above.sum {l : ℕ} (S : Finset (Fin 60)) (f : Fin 60 → CellTallies nD τ sig Unit) (h : ∀ k ∈ S, Above l (f k)) :
    Above l (∑ k ∈ S, f k) := by
  classical
  revert h
  refine Finset.induction_on S (fun _ => ?_) fun a s ha ih h => ?_
  · rw [Finset.sum_empty]; exact Above.zero l
  · rw [Finset.sum_insert ha]
    exact (h a (Finset.mem_insert_self _ _)).add (ih fun k hk => h k (Finset.mem_insert_of_mem hk))

omit [FloatOps F] in
/-- A wait on a cell at level `l` is allowed while everything owed lies above. -/
theorem mayWait_above (c : Dev nD) (sm : SemLoc sig) (l : ℕ) (hl : lv ((c : Thread nD τ), sm) () ≤ l) (O : CellTallies nD τ sig Unit) (hO : Above l O) :
    (levAts L lv : sProp 𝕄) ⊢ MayWait (c : Thread nD τ) sm () O :=
  MayOwe.of_cut (L := L) (lev := lv) l (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hl)
    (fun g u hg => (hO g u hg).2)

/-! ## The state -/

/-- The device whose cell `k` device `c` completes: itself for its sends, its neighbour for a receive. -/
def dst (c : Dev nD) (k : Fin 60) : Dev nD := if isRecv k then toD (dirK k) c else c

/-- What `c` owes while the completions `D` are outstanding: a window's credit on each receive cell among them. -/
def owedK (c : Dev nD) (D : Finset (Fin 60)) : CellTallies nD τ sig Unit :=
  ∑ k ∈ D.filter (fun k => isRecv k = true), tallyAt (kcell (toD (dirK k) c) k) () N

/-- The cells of `A` whose credit is already dealt: receives from the start, sends once started. -/
def credS (A D : Finset (Fin 60)) : Finset (Fin 60) := A.filter fun k => isRecv k = true ∨ k ∉ D

/-- The cells' part of the state. -/
def hopG (c : Dev nD) (A D : Finset (Fin 60)) : sProp 𝕄 :=
  iprop((bigSep A fun k => atPos ER (kcell c k) 0 ∅ 0) ∗ (bigSep Aᶜ fun k => semVal (kcell c k) 0)
    ∗ (bigSep D fun k => dutyTok ER (kcell (dst c k) k) 0 false)
    ∗ bigSep (credS A D) fun k => cred (tallyAt (kcell c k) () N))

/-- The protocol's state on device `c`. -/
def hopSt (c : Dev nD) (A D : Finset (Fin 60)) : sProp 𝕄 :=
  iprop(hopG c A D ∗ ∃ Wt, owes (c : Thread nD τ) (owedK c D) Wt)

/-- Starting a hop deals its send cell's credit. -/
theorem credS_start {A D : Finset (Fin 60)} {s r : Fin 60} (hs : s ∈ A) (hsD : s ∈ D) (hsr : isRecv s = false) (hr : isRecv r = true) :
    credS A ((D.erase s).erase r) = insert s (credS A D) := by
  ext k
  unfold credS
  simp only [Finset.mem_filter, Finset.mem_insert, Finset.mem_erase, not_and, ne_eq]
  constructor
  · rintro ⟨hk, h⟩
    by_cases hks : k = s
    · exact Or.inl hks
    · refine Or.inr ⟨hk, ?_⟩
      rcases h with h | h
      · exact Or.inl h
      · by_cases hkr : k = r
        · subst hkr; exact Or.inl hr
        · exact Or.inr fun hkD => h hkr hks hkD
  · rintro (rfl | ⟨hk, h⟩)
    · exact ⟨hs, Or.inr fun _ h => absurd rfl h⟩
    · exact ⟨hk, h.imp_right fun h _ _ hkD => h hkD⟩

/-- Before its hop starts a send cell's credit is not dealt. -/
theorem not_mem_credS {A D : Finset (Fin 60)} {s : Fin 60} (hsD : s ∈ D) (hsr : isRecv s = false) : s ∉ credS A D := by
  unfold credS
  rw [Finset.mem_filter]
  rintro ⟨-, h | h⟩
  · rw [hsr] at h; cases h
  · exact h hsD

/-- Waiting on a cell uses its credit. -/
theorem credS_wait {A D : Finset (Fin 60)} {k : Fin 60} : credS (A.erase k) D = (credS A D).erase k := by
  unfold credS; rw [Finset.filter_erase]

/-- Starting a hop pays its landing. -/
theorem owedK_start {c : Dev nD} {D : Finset (Fin 60)} {s r : Fin 60} (hr : r ∈ D) (hs : s ∈ D) (hsr : isRecv s = false) (hrr : isRecv r = true) :
    owedK c D = owedK c ((D.erase s).erase r) + tallyAt (kcell (toD (dirK r) c) r) () N := by
  unfold owedK
  have h1 : ((D.erase s).erase r).filter (fun k => isRecv k = true) = (D.filter (fun k => isRecv k = true)).erase r := by
    ext k
    simp only [Finset.mem_filter, Finset.mem_erase, ne_eq]
    constructor
    · rintro ⟨⟨h1, h2, h3⟩, h4⟩; exact ⟨h1, h3, h4⟩
    · rintro ⟨h1, h3, h4⟩
      have h2 : ¬ k = s := fun h => by rw [h, hsr] at h4; cases h4
      exact ⟨⟨h1, h2, h3⟩, h4⟩
  rw [h1, Finset.sum_erase_add _ _ (Finset.mem_filter.mpr ⟨hr, hrr⟩)]

/-! ## Contents carried by a transfer -/

/-- Where an element comes from depends on its head, feature and key only. -/
theorem srcIx_congr {i i' : S2x4x2x16x64x512.Idx} (h3 : (i 3).val = (i' 3).val) (h4 : (i 4).val = (i' 4).val) (h5 : (i 5).val = (i' 5).val) :
    srcIx i = srcIx i' := by
  funext a
  fin_cases a
  · exact Fin.ext (congrArg (· / 8) h3)
  · exact Fin.ext h5
  · exact Fin.ext (congrArg (· % 8) h3)
  · exact Fin.ext h4

omit [FloatOps F] in
/-- What a transfer from one window to another writes: the contents carried over. -/
theorem write_slot (f : KVBuf F) (d d' : Fin 2) (s s' : ℕ) (kv kv' : Fin 2) (x : S2x512x8x64.Idx → Elt F .bf16) :
    ∀ i ∈ W d' s' kv', ((slotM d' s' kv').view.write (Elt F) f ((slotM d s kv).view.read (Elt F) (kvBuf x)) Finset.univ : KVBuf F) i = kvBuf x i := by
  intro i hi
  rw [← slotM_set] at hi
  obtain ⟨y, -, rfl⟩ := Finset.mem_map.mp hi
  refine (congrFun (View.read_write_univ (v := (slotM d' s' kv').view) (Val := Elt F) f ((slotM d s kv).view.read (Elt F) (kvBuf x))) y).trans ?_
  exact congrArg x (srcIx_congr rfl rfl rfl)

omit [FloatOps F] in
/-- A window's contents matter on the window only. -/
theorem slotP_congr (c : Dev nD) (d : Fin 2) (s : ℕ) (kv : Fin 2) (q : PosShare TreeShare) (f g : KVBuf F) (h : ∀ i ∈ W d s kv, f i = g i) :
    (slotP c d s kv q f : sProp 𝕄) = slotP c d s kv q g := pointsTo_congr h

/-- A device's block in the scratch layout is the layout of some staged block. -/
theorem cont_form (e : Dev nD) (kv : Fin 2) : ∃ x, cont m ρ e kv = kvBuf x := by
  unfold cont; split
  · exact ⟨_, rfl⟩
  · exact ⟨_, rfl⟩

/-- The whole-window form of a points-to is the window's. -/
theorem slotM_pts (c : Dev nD) (d : Fin 2) (s : ℕ) (kv : Fin 2) (q : PosShare TreeShare) (f : KVBuf F) :
    ((slotM d s kv).view.loc (c : Thread nD τ) ↦[(slotM d s kv).view.set]{q} f : sProp 𝕄) = slotP c d s kv q f := by
  unfold slotP; rw [slotM_set]

/-! ## Starting a hop -/

/-- The spare slot a hop hands on: what `extra` collects, seen from the sender. -/
def give (c : Dev nD) (d kv : Fin 2) (h : ℕ) : sProp 𝕄 :=
  if d = 0 ∧ kv = 0 ∧ h < 6 then slotB c 1 (h + 2)
  else if d = 1 ∧ kv = 1 ∧ h < 6 then slotB c 0 (h + 3)
  else iprop(emp)

omit [FloatOps F] in
/-- What a landing brings is what its sender hands on. -/
theorem extra_toD (c : Dev nD) (d kv : Fin 2) (h : ℕ) : (extra (toD d c) d kv h : sProp 𝕄) = give c d kv h := by
  unfold extra give
  by_cases h0 : d = 0 ∧ kv = 0 ∧ h < 6
  · rw [if_pos h0, if_pos h0, h0.1, fromD_toD]
  · rw [if_neg h0, if_neg h0]
    by_cases h1 : d = 1 ∧ kv = 1 ∧ h < 6
    · rw [if_pos h1, if_pos h1, h1.1, fromD_toD]
    · rw [if_neg h1, if_neg h1]

/-- Hop `h` started: the lent half of the source window and the neighbour's landing window (and the slot the hop hands
    on) are given up, the send and the receive are no longer outstanding. The memrefs, semaphores and device are variables
    so that the program's own spelling is matched through equations. -/
theorem wp_start (K : Dev nD × Option (Fin 60) → ℕ) (c n : Dev nD) (d kv : Fin 2) (h : ℕ) (hh : h < nh d) (hn : n = toD d c)
    {sM dM : Memref sig .tc .vmem S16x64x512 .bf16} (hs : sM = slotM d h kv) (hd : dM = slotM d (h + 1) kv)
    {sS rS : DmaSem sig} (hsS : sS = dsem (sK d kv h)) (hrS : rS = dsem (rK d kv h))
    {A D : Finset (Fin 60)} (hA : sK d kv h ∈ A) (hDs : sK d kv h ∈ D) (hDr : rK d kv h ∈ D)
    {hsc : dM.view.ref.isScScratch = false} {hsrc : sM.view.WordExact} {hdst : dM.view.WordExact}
    {hsem : DmaTarget.Typed .vmem (.dma rS) (.remote (Dev.tc n : Thread nD τ) dM (.dma sS) hsc)}
    {α : Type} {Q : α → sProp 𝕄} {k : PUnit → Prog (TpuEff nD τ sig (Elt F) Λ₀ .tc) α} :
    iprop(recs m ρ K ∗ hopSt c A D ∗ slotP c d h kv fullShare.right (cont m ρ (srcAt d c h) kv) ∗ slotE (toD d c) d (h + 1) kv ∗ give c d kv h)
      ⊢ iprop((hopSt c A ((D.erase (sK d kv h)).erase (rK d kv h)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sM (.remote (Dev.tc n : Thread nD τ) dM (.dma sS) hsc) (.dma rS) hsrc hdst hsem) k) Q) := by
  subst hn hs hd hsS hrS
  obtain ⟨hs1, hs2, hs3, hs4⟩ := sK_spec d kv h hh
  obtain ⟨hr1, hr2, hr3, hr4⟩ := rK_spec d kv h hh
  obtain ⟨x, hx⟩ := cont_form m ρ (srcAt d c h) kv
  have hne : rK d kv h ≠ sK d kv h := fun e => by rw [e, hs1] at hr1; cases hr1
  iintro ⟨#HR, Hst, Hsrc, Hdst, Hgive⟩ Hk
  unfold hopSt hopG slotE
  icases Hst with ⟨⟨Hat, Hz, Htok, Hcr⟩, ⟨%Wt, HO⟩⟩
  icases Hdst with ⟨%fd, Hdst⟩
  ihave Htok := (big_take hDs fun k => (dutyTok ER (kcell (dst c k) k) 0 false : sProp 𝕄)) $$ Htok
  icases Htok with ⟨HtS, Htok⟩
  ihave Htok := (big_take (Finset.mem_erase.mpr ⟨hne, hDr⟩) fun k => (dutyTok ER (kcell (dst c k) k) 0 false : sProp 𝕄)) $$ Htok
  icases Htok with ⟨HtR, Htok⟩
  rw [show dst c (sK d kv h) = c by unfold dst; rw [hs1]; rfl, show dst c (rK d kv h) = toD d c by unfold dst; rw [hr1, hr2]; rfl]
  iapply (Rounds.wp_send_pointsTo_with 𝒱₀ ER (ringRd m ρ) (c : Thread nD τ) none (c' := (toD d c : Thread nD τ))
    (src := slotM d h kv) (dst := slotM d (h + 1) kv) (q := fullShare.right) (fs := cont m ρ (srcAt d c h) kv) (fd := fd) (F := give c d kv h)
    (κ₁ := K (c, some (sK d kv h))) (κ₂ := K (toD d c, some (rK d kv h)))
    (O₀ := owedK c D) (r₁ := 0) (r₂ := 0) (d₁ := false) (d₂ := false)
    (by rw [duties_k]; exact Finset.mem_singleton_self _) (by rw [duties_k]; exact Finset.mem_singleton_self _)
    () () N rfl (amount_k m ρ c _ false) (amount_k m ρ (toD d c) _ false) (owedK c ((D.erase (sK d kv h)).erase (rK d kv h)))
    (by rw [owedK_start hDr hDs hs1 hr1, hr2]) (W := Wt)
    (by rw [payload_k, kPay_send m ρ c d kv h hh, slotM_pts]; exact BI.Entails.refl _)
    (by
      rw [payload_k, kPay_recv m ρ _ d kv h hh]
      unfold recvPay
      rw [srcAt_toD, extra_toD, slotM_pts, hx, slotP_congr _ _ _ _ _ _ _ (write_slot fd d d h (h + 1) kv kv x)])) $$ [Hsrc Hdst Hgive HO HtS HtR]
  · isplitr; · iapply (inv_at m ρ K (c, some (sK d kv h))); iexact HR
    isplitr; · iapply (inv_at m ρ K (toD d c, some (rK d kv h))); iexact HR
    rw [slotM_pts, slotM_pts]
    isplitl [Hsrc]; · iexact Hsrc
    isplitl [Hdst Hgive]; · isplitl [Hdst] <;> iassumption
    isplitl [HO]; · iexact HO
    isplitl [HtS]; · iexact HtS
    isplitr; · iapply (reached_at m ρ K (c, some (sK d kv h))); iexact HR
    isplitl [HtR]; · iexact HtR
    iapply (reached_at m ρ K (toD d c, some (rK d kv h))); iexact HR
  iintro ⟨HcS, HO⟩
  iapply Hk
  isplitr [HO]
  · isplitl [Hat]; · iexact Hat
    isplitl [Hz]; · iexact Hz
    isplitl [Htok]; · iexact Htok
    rw [credS_start hA hDs hs1 hr1]
    iapply (big_put (not_mem_credS hDs hs1) fun k => (cred (tallyAt (kcell c k) () N) : sProp 𝕄))
    isplitl [HcS] <;> iassumption
  · iexists Wt; iexact HO

/-! ## Waiting -/

/-- A wait on cell `k`: allowed while every receive still owed is of a later hop (of any, for a send cell). The cell's
    payload comes back and the cell is closed. -/
theorem wp_waitK (K : Dev nD × Option (Fin 60) → ℕ) (c : Dev nD) (k : Fin 60)
    {sm : DmaSem sig} (hsm : sm = dsem k) {sM dM : Memref sig .tc .vmem S16x64x512 .bf16} (hN : dM.view.dmaCredit = N)
    {A D : Finset (Fin 60)} (hA : k ∈ A) (hD : isRecv k = true ∨ k ∉ D)
    (hlt : ∀ j ∈ D, isRecv j = true → isRecv k = true → hopK k < hopK j)
    {hsrc : sM.view.WordExact} {hdst : dM.view.WordExact}
    {α : Type} {Q : α → sProp 𝕄} {kk : PUnit → Prog (TpuEff nD τ sig (Elt F) Λ₀ .tc) α} :
    iprop(recs m ρ K ∗ levAts L lv ∗ hopSt c A D)
      ⊢ iprop((iprop(hopSt c (A.erase k) D ∗ kPay m ρ c k) -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 sm sM dM hsrc hdst) kk) Q) := by
  subst hsm
  have hAb : Above (if isRecv k then 2 + hopK k else 0) (owedK c D) := by
    unfold owedK
    refine Above.sum _ _ fun j hj => Above.tally _ _ _ ?_
    obtain ⟨hjD, hjr⟩ := Finset.mem_filter.mp hj
    rw [lv_k, if_pos hjr]
    by_cases hk : isRecv k = true
    · rw [if_pos hk]; have := hlt j hjD hjr hk; omega
    · rw [if_neg hk]; omega
  iintro ⟨#HR, #Hlev, Hst⟩ Hk
  unfold hopSt hopG
  icases Hst with ⟨⟨Hat, Hz, Htok, Hcr⟩, ⟨%Wt, HO⟩⟩
  ihave Hat := (big_take hA fun k => (atPos ER (kcell c k) 0 ∅ 0 : sProp 𝕄)) $$ Hat
  icases Hat with ⟨Hat1, Hat⟩
  ihave Hcr := (big_take (k := k) (show k ∈ credS A D from Finset.mem_filter.mpr ⟨hA, hD⟩) fun k => (cred (tallyAt (kcell c k) () N) : sProp 𝕄)) $$ Hcr
  icases Hcr with ⟨Hcr1, Hcr⟩
  iapply (Rounds.wp_wait_rest_token 𝒱₀ ER (ringRd m ρ) (c : Thread nD τ) none (κ := K (c, some k))
      (wpE_waitDma2_eq 𝒱₀ (c : Thread nD τ) none Set.univ) (Set.mem_univ _) () (O := owedK c D) (W := Wt) (R := 0) (m := 0) (T := ∅)
      (by rw [Nat.zero_add, expect_k, hN])) $$ [Hcr1 HO Hat1]
  · isplitr; · iapply (inv_at m ρ K (c, some k)); iexact HR
    isplitl [Hcr1]; · rw [hN]; iexact Hcr1
    isplitl [HO]; · iexact HO
    isplitr; · iapply (mayWait_above (F := F) c _ _ (le_of_eq (lv_k c k ())) _ hAb); iexact Hlev
    iexact Hat1
  iintro ⟨HO, Hat1, -, Hpay⟩
  imod (Rounds.cell_close ER (ringRd m ρ) (Set.mem_univ (K (c, some k))) (fun h => h) (R := 0 + 1) (duties_later m ρ (kcell c k))) $$ [Hat1] with Hz1
  · isplitr; · iapply (inv_at m ρ K (c, some k)); iexact HR
    iexact Hat1
  iapply Hk
  isplitr [Hpay]
  · isplitr [HO]
    · isplitl [Hat]; · iexact Hat
      isplitl [Hz Hz1]
      · rw [Finset.compl_erase]
        iapply (big_put (fun h => (Finset.mem_compl.mp h) hA) fun k => (semVal (kcell c k) 0 : sProp 𝕄))
        isplitl [Hz1] <;> iassumption
      isplitl [Htok]; · iexact Htok
      rw [credS_wait]; iexact Hcr
    · iexists _; iexact HO
  · iapply (Entails.of_eq (rest_k m ρ c k)); iexact Hpay

end Cert.RingProof

end
-- ==== Proof.Rows.lean ====
/-
# Filling the scratch, row by row, and reading a window

A device transposes its own K and V block into the scratch one (batch, head) row at a time, in both directions' slot 0.
This module states one row's store and the dead load beside it, a window's load, and what a stored row is.
-/
module

public import proofs.«01_k».proof.Proof.Steps
public import Idealize.ShloMosaic.Lib.Pipeline.Value
public import Idealize.ShloMosaic.Lib.ValueIdxRank6

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- One row of a window: direction `d`, slot 0, K or V, row `b`. -/
def rowW (d kv : Fin 2) (b : ℕ) : Finset S2x4x2x16x64x512.Idx := (W d 0 kv).filter fun i => (i 3).val = b

/-- A window of slot 0 outright, whose first `n` rows are those of the block `x`. -/
def rowsP (c : Dev nD) (d kv : Fin 2) (n : ℕ) (x : S2x512x8x64.Idx → Elt F .bf16) : sProp 𝕄 :=
  iprop(∃ f : KVBuf F, ⌜∀ i ∈ W d 0 kv, (i 3).val < n → f i = kvBuf x i⌝ ∗ slotP c d 0 kv fullShare f)

omit [FloatOps F] in
/-- A window at any contents has no row filled. -/
theorem rows_start (c : Dev nD) (d kv : Fin 2) (x : S2x512x8x64.Idx → Elt F .bf16) : (slotE c d 0 kv : sProp 𝕄) ⊢ rowsP c d kv 0 x := by
  unfold slotE rowsP
  iintro ⟨%f, H⟩
  iexists f
  isplitr [H]
  · ipureintro; intro i _ h; exact absurd h (Nat.not_lt_zero _)
  · iexact H

omit [FloatOps F] in
/-- A window with all sixteen rows filled holds the block. -/
theorem rows_done (c : Dev nD) (d kv : Fin 2) (x : S2x512x8x64.Idx → Elt F .bf16) :
    (rowsP c d kv 16 x : sProp 𝕄) ⊢ slotP c d 0 kv fullShare (kvBuf x) := by
  unfold rowsP
  iintro ⟨%f, %hf, H⟩
  iapply (Entails.of_eq (slotP_congr c d 0 kv fullShare f (kvBuf x) fun i hi => hf i hi (i 3).isLt))
  iexact H

/-- A row as the stores' payload shapes it. -/
def rowOf (x : S2x512x8x64.Idx → Elt F .bf16) (b : ℕ) : S1x1x1x1x64x512.Idx → Elt F .bf16 := fun j =>
  x fun a => match a with
  | ⟨0, _⟩ => ⟨b / 8 % 2, Nat.mod_lt _ (by decide)⟩
  | ⟨1, _⟩ => ⟨(j 5).val, by have h : (j 5).val < 512 := (j 5).isLt; exact h⟩
  | ⟨2, _⟩ => ⟨b % 8, Nat.mod_lt _ (by decide)⟩
  | ⟨3, _⟩ => ⟨(j 4).val, by have h : (j 4).val < 64 := (j 4).isLt; exact h⟩

/-- A transposed head that, shaped for the store, is row `b` of the block. -/
def isRow (x : S2x512x8x64.Idx → Elt F .bf16) (b : ℕ) (v : S64x512.Idx → Elt F .bf16) : Prop :=
  shapeCast S1x1x1x1x64x512 v shapeCasts_S64x512_S1x1x1x1x64x512 = rowOf x b

/-- The staged K block of device `c`, outright. -/
def kS (c : Dev nD) (x : S2x512x8x64.Idx → Elt F .bf16) : sProp 𝕄 := kM.view.loc (c : Thread nD τ) ↦[Finset.univ]{fullShare} x
/-- The staged V block of device `c`, outright. -/
def vS (c : Dev nD) (x : S2x512x8x64.Idx → Elt F .bf16) : sProp 𝕄 := vM.view.loc (c : Thread nD τ) ↦[Finset.univ]{fullShare} x

section Mem

variable {c : Dev nD}

/-- A row's rectangle lies in its window. -/
theorem row_inb {d kv : Fin 2} {b : ℕ} (hb : b < 16) {off : Fin 6 → ℕ} (hoff : off = ![d.val, 0, kv.val, b, 0, 0])
    {inb : ∀ a, off a + S1x1x1x1x64x512.size a ≤ S2x4x2x16x64x512.size a} :
    (Rect.unit (s := S2x4x2x16x64x512) off S1x1x1x1x64x512.size inb).set ⊆ W d 0 kv := by
  subst hoff
  intro i hi
  rw [Rect.mem_set_unit] at hi
  rw [mem_W]
  have h0 := hi 0
  have h1 := hi 1
  have h2 := hi 2
  change d.val ≤ (i 0).val ∧ (i 0).val < d.val + 1 at h0
  change 0 ≤ (i 1).val ∧ (i 1).val < 0 + 1 at h1
  change kv.val ≤ (i 2).val ∧ (i 2).val < kv.val + 1 at h2
  omega

/-- The dead load in front of a row's store. -/
theorem wp_rowLoad {d kv : Fin 2} {n b : ℕ} {x : S2x512x8x64.Idx → Elt F .bf16} (hb : b < 16) {off : Fin 6 → ℕ} (hoff : off = ![d.val, 0, kv.val, b, 0, 0])
    {inb : ∀ a, off a + S1x1x1x1x64x512.size a ≤ S2x4x2x16x64x512.size a}
    {hl : kvM.view.LoadsAt (Rect.unit (s := S2x4x2x16x64x512) off S1x1x1x1x64x512.size inb).toLoadRect}
    {α : Type} {Q : α → sProp 𝕄} {k : (S1x1x1x1x64x512.Idx → Elt F .bf16) → Prog (TpuEff nD τ sig (Elt F) Λ₀ .tc) α} :
    (rowsP c d kv n x : sProp 𝕄)
      ⊢ iprop((∀ v, rowsP c d kv n x -∗ wp frame (wpE (defs₀ (F := F)) 𝒱₀ (c : Thread nD τ) none) Set.univ (k v) Q)
        -∗ wp frame (wpE (defs₀ (F := F)) 𝒱₀ (c : Thread nD τ) none) Set.univ
          (.op (.load kvM (Rect.unit (s := S2x4x2x16x64x512) off S1x1x1x1x64x512.size inb).toLoadRect hl) k) Q) := by
  iintro H Hk
  unfold rowsP slotP
  icases H with ⟨%f, %hf, H⟩
  iapply (wp_load_rect 𝒱₀ (c : Thread nD τ) none Set.univ (m := kvM) (r := Rect.unit (s := S2x4x2x16x64x512) off S1x1x1x1x64x512.size inb)
    (S := W d 0 kv) (f := f) (Finset.Subset.trans (subset_of_eq (View.set_slice_whole cc0_scratch0 _)) (row_inb hb hoff))) $$ H
  iintro H
  iapply Hk
  iexists f
  isplitr [H]
  · ipureintro; exact hf
  · iexact H

/-- One row's store: the row holds the payload, a further row of the block. -/
theorem wp_rowStore {d kv : Fin 2} {b : ℕ} {x : S2x512x8x64.Idx → Elt F .bf16} (hb : b < 16) {off : Fin 6 → ℕ} (hoff : off = ![d.val, 0, kv.val, b, 0, 0])
    {inb : ∀ a, off a + S1x1x1x1x64x512.size a ≤ S2x4x2x16x64x512.size a}
    {w : S1x1x1x1x64x512.Idx → Elt F .bf16} (hw : w = rowOf x b)
    {hx : (kvM.access (Rect.unit (s := S2x4x2x16x64x512) off S1x1x1x1x64x512.size inb)).Stores Finset.univ}
    {hm : Finset.univ = Finset.univ ∨ ∀ a, (Rect.unit (s := S2x4x2x16x64x512) off S1x1x1x1x64x512.size inb).stride a = 1}
    {α : Type} {Q : α → sProp 𝕄} {k : PUnit → Prog (TpuEff nD τ sig (Elt F) Λ₀ .tc) α} :
    (rowsP c d kv b x : sProp 𝕄)
      ⊢ iprop((rowsP c d kv (b + 1) x -∗ wp frame (wpE (defs₀ (F := F)) 𝒱₀ (c : Thread nD τ) none) Set.univ (k ⟨⟩) Q)
        -∗ wp frame (wpE (defs₀ (F := F)) 𝒱₀ (c : Thread nD τ) none) Set.univ
          (.op (.store kvM (Rect.unit (s := S2x4x2x16x64x512) off S1x1x1x1x64x512.size inb) w Finset.univ hx hm) k) Q) := by
  iintro H Hk
  unfold rowsP slotP
  icases H with ⟨%f, %hf, H⟩
  have hset : (kvM.access (Rect.unit (s := S2x4x2x16x64x512) off S1x1x1x1x64x512.size inb)).setOn Finset.univ
      = (Rect.unit (s := S2x4x2x16x64x512) off S1x1x1x1x64x512.size inb).set :=
    (View.setOn_univ _).trans (View.set_slice_whole cc0_scratch0 _)
  iapply (wp_store 𝒱₀ (c : Thread nD τ) none Set.univ (m := kvM) (r := Rect.unit (s := S2x4x2x16x64x512) off S1x1x1x1x64x512.size inb)
    (S := W d 0 kv) (f := f) (Finset.Subset.trans (le_of_eq hset) (row_inb hb hoff))) $$ H
  iintro H
  iapply Hk
  iexists ((kvM.access (Rect.unit (s := S2x4x2x16x64x512) off S1x1x1x1x64x512.size inb)).write (Elt F) f w Finset.univ : KVBuf F)
  isplitr [H]
  · ipureintro
    subst hoff hw
    intro i hi hlt
    by_cases hib : (i 3).val = b
    · have hmem : i ∈ (Rect.unit (s := S2x4x2x16x64x512) ![d.val, 0, kv.val, b, 0, 0] S1x1x1x1x64x512.size inb).set := by
        rw [Rect.mem_set_unit]
        obtain ⟨h0, h1, h2⟩ := mem_W.mp hi
        intro a
        fin_cases a
        · show d.val ≤ (i 0).val ∧ (i 0).val < d.val + 1; omega
        · show 0 ≤ (i 1).val ∧ (i 1).val < 0 + 1; omega
        · show kv.val ≤ (i 2).val ∧ (i 2).val < kv.val + 1; omega
        · show b ≤ (i 3).val ∧ (i 3).val < b + 1; omega
        · exact ⟨Nat.zero_le _, lt_of_lt_of_eq (i 4).isLt (Nat.zero_add _).symm⟩
        · exact ⟨Nat.zero_le _, lt_of_lt_of_eq (i 5).isLt (Nat.zero_add _).symm⟩
      rw [← hset] at hmem
      obtain ⟨y, -, rfl⟩ := Finset.mem_map.mp hmem
      refine (View.write_emb_of_mem (v := kvM.access (Rect.unit (s := S2x4x2x16x64x512) ![d.val, 0, kv.val, b, 0, 0] S1x1x1x1x64x512.size inb))
        (Val := Elt F) f (rowOf x b) (Finset.mem_univ y)).trans ?_
      refine congrArg x (funext fun a => Fin.ext ?_)
      have e3 : (((kvM.access (Rect.unit (s := S2x4x2x16x64x512) ![d.val, 0, kv.val, b, 0, 0] S1x1x1x1x64x512.size inb)).emb y) 3).val = b := hib
      fin_cases a
      · show b / 8 % 2 = _ / 8
        rw [e3]; omega
      · show (y 5).val = 0 + 1 * (y 5).val
        omega
      · show b % 8 = _ % 8
        rw [e3]
      · show (y 4).val = 0 + 1 * (y 4).val
        omega
    · refine (View.write_of_not_mem _ _ _ ?_).trans (hf i hi (by omega))
      intro h
      rw [hset, Rect.mem_set_unit] at h
      have := h 3
      change b ≤ (i 3).val ∧ (i 3).val < b + 1 at this
      omega
  · iexact H

/-- A window as its load returns it. -/
def chunk (x : S2x512x8x64.Idx → Elt F .bf16) : S1x1x1x16x64x512.Idx → Elt F .bf16 := fun j =>
  x fun a => match a with
  | ⟨0, _⟩ => ⟨(j 3).val / 8, by have h : (j 3).val < 16 := (j 3).isLt; show (j 3).val / 8 < 2; omega⟩
  | ⟨1, _⟩ => ⟨(j 5).val, by have h : (j 5).val < 512 := (j 5).isLt; exact h⟩
  | ⟨2, _⟩ => ⟨(j 3).val % 8, Nat.mod_lt _ (by decide)⟩
  | ⟨3, _⟩ => ⟨(j 4).val, by have h : (j 4).val < 64 := (j 4).isLt; exact h⟩

/-- A window's load: any share of it does, the contents come back as `chunk`. -/
theorem wp_slotLoad {d kv : Fin 2} {s : ℕ} {q : PosShare TreeShare} {x : S2x512x8x64.Idx → Elt F .bf16} {off : Fin 6 → ℕ}
    (hoff : off = ![d.val, s % 4, kv.val, 0, 0, 0])
    {inb : ∀ a, off a + S1x1x1x16x64x512.size a ≤ S2x4x2x16x64x512.size a}
    {hl : kvM.view.LoadsAt (Rect.unit (s := S2x4x2x16x64x512) off S1x1x1x16x64x512.size inb).toLoadRect}
    {α : Type} {Q : α → sProp 𝕄} {k : (S1x1x1x16x64x512.Idx → Elt F .bf16) → Prog (TpuEff nD τ sig (Elt F) Λ₀ .tc) α} :
    (slotP c d s kv q (kvBuf x) : sProp 𝕄)
      ⊢ iprop((slotP c d s kv q (kvBuf x) -∗ wp frame (wpE (defs₀ (F := F)) 𝒱₀ (c : Thread nD τ) none) Set.univ (k (chunk x)) Q)
        -∗ wp frame (wpE (defs₀ (F := F)) 𝒱₀ (c : Thread nD τ) none) Set.univ
          (.op (.load kvM (Rect.unit (s := S2x4x2x16x64x512) off S1x1x1x16x64x512.size inb).toLoadRect hl) k) Q) := by
  subst hoff
  have hv : (kvM.access (slotR d s kv)).read (Elt F) (kvBuf x) = chunk x := by
    funext j
    refine congrArg x (funext fun a => Fin.ext ?_)
    fin_cases a
    · show (0 + 1 * (j 3).val) / 8 = (j 3).val / 8
      omega
    · show 0 + 1 * (j 5).val = (j 5).val
      omega
    · show (0 + 1 * (j 3).val) % 8 = (j 3).val % 8
      omega
    · show 0 + 1 * (j 4).val = (j 4).val
      omega
  iintro H Hk
  unfold slotP
  iapply (wp_load_rect 𝒱₀ (c : Thread nD τ) none Set.univ (m := kvM) (r := slotR d s kv)
    (S := W d s kv) (f := kvBuf x) (subset_of_eq ((View.set_slice_whole cc0_scratch0 _).trans (slotR_set d s kv)))) $$ H
  iintro H
  rw [hv]
  iapply Hk
  iexact H

/-- A load from the staged K block. -/
theorem wp_kLoad {x : S2x512x8x64.Idx → Elt F .bf16} {r : Rect S2x512x8x64} {hl : kM.view.LoadsAt r.toLoadRect}
    {α : Type} {Q : α → sProp 𝕄} {k : (r.shape.Idx → Elt F .bf16) → Prog (TpuEff nD τ sig (Elt F) Λ₀ .tc) α} :
    (kS c x : sProp 𝕄)
      ⊢ iprop((kS c x -∗ wp frame (wpE (defs₀ (F := F)) 𝒱₀ (c : Thread nD τ) none) Set.univ (k fun j => x (r.emb j)) Q)
        -∗ wp frame (wpE (defs₀ (F := F)) 𝒱₀ (c : Thread nD τ) none) Set.univ (.op (.load kM r.toLoadRect hl) k) Q) := by
  iintro H Hk
  unfold kS
  iapply (wp_load_rect 𝒱₀ (c : Thread nD τ) none Set.univ (m := kM) (r := r) (S := Finset.univ) (f := x) (Finset.subset_univ _)) $$ H
  iintro H
  iapply Hk
  iexact H

/-- A load from the staged V block. -/
theorem wp_vLoad {x : S2x512x8x64.Idx → Elt F .bf16} {r : Rect S2x512x8x64} {hl : vM.view.LoadsAt r.toLoadRect}
    {α : Type} {Q : α → sProp 𝕄} {k : (r.shape.Idx → Elt F .bf16) → Prog (TpuEff nD τ sig (Elt F) Λ₀ .tc) α} :
    (vS c x : sProp 𝕄)
      ⊢ iprop((vS c x -∗ wp frame (wpE (defs₀ (F := F)) 𝒱₀ (c : Thread nD τ) none) Set.univ (k fun j => x (r.emb j)) Q)
        -∗ wp frame (wpE (defs₀ (F := F)) 𝒱₀ (c : Thread nD τ) none) Set.univ (.op (.load vM r.toLoadRect hl) k) Q) := by
  iintro H Hk
  unfold vS
  iapply (wp_load_rect 𝒱₀ (c : Thread nD τ) none Set.univ (m := vM) (r := r) (S := Finset.univ) (f := x) (Finset.subset_univ _)) $$ H
  iintro H
  iapply Hk
  iexact H

end Mem

/-- A head's transpose, in the shape of a row's store, is that row of the scratch layout. -/
theorem row_eq (x : S2x512x8x64.Idx → Elt F .bf16) (b i h : ℕ) (hi : i < 2) (hh : h < 8) (hb : b = 8 * i + h)
    {inb : ∀ a, (![i, 0, h, 0] : Fin 4 → ℕ) a + S1x512x1x64.size a ≤ S2x512x8x64.size a} (v : S1x512x1x64.Idx → Elt F .bf16)
    (hv : ∀ j, v j = x ((Rect.unit (s := S2x512x8x64) ![i, 0, h, 0] S1x512x1x64.size inb).emb j)) :
    shapeCast S1x1x1x1x64x512 (transpose S64x512 [1, 0] (shapeCast S512x64 v shapeCasts_S1x512x1x64_S512x64) transposes_S512x64_p1_0_S64x512)
      shapeCasts_S64x512_S1x1x1x1x64x512 = rowOf x b := by
  subst hb
  funext j
  have hj4 : (j 4).val < 64 := (j 4).isLt
  have hj5 : (j 5).val < 512 := (j 5).isLt
  have hj0 : (j 0).val < 1 := (j 0).isLt
  have hj1 : (j 1).val < 1 := (j 1).isLt
  have hj2 : (j 2).val < 1 := (j 2).isLt
  have hj3 : (j 3).val < 1 := (j 3).isLt
  refine (shapeCast_apply _ _ j (ValueIdx.ix2 ⟨(j 4).val, hj4⟩ ⟨(j 5).val, hj5⟩) ?_).trans ?_
  · rw [Shape.rowMajor_val_two, Shape.rowMajor_val_six]
    show (j 4).val * 512 + (j 5).val = (((((j 0).val * 1 + (j 1).val) * 1 + (j 2).val) * 1 + (j 3).val) * 64 + (j 4).val) * 512 + (j 5).val
    omega
  refine (transpose_apply _ _ _ _ (ValueIdx.ix2 ⟨(j 5).val, hj5⟩ ⟨(j 4).val, hj4⟩) (fun a => match a with | ⟨0, _⟩ => rfl | ⟨1, _⟩ => rfl)).trans ?_
  refine (shapeCast_apply _ _ _ (ValueIdx.ix4 ⟨0, Nat.one_pos⟩ ⟨(j 5).val, hj5⟩ ⟨0, Nat.one_pos⟩ ⟨(j 4).val, hj4⟩) ?_).trans ?_
  · rw [Shape.rowMajor_val_two, Shape.rowMajor_val_four]
    show ((0 * 512 + (j 5).val) * 1 + 0) * 64 + (j 4).val = (j 5).val * 64 + (j 4).val
    omega
  refine (hv _).trans (congrArg x (funext fun a => Fin.ext ?_))
  fin_cases a
  · show i + 1 * 0 = (8 * i + h) / 8 % 2
    omega
  · show 0 + 1 * (j 5).val = (j 5).val
    omega
  · show h + 1 * 0 = (8 * i + h) % 8
    omega
  · show 0 + 1 * (j 4).val = (j 4).val
    omega

end Cert.RingProof

end
-- ==== Proof.Names.lean ====
/-
# The program's own spelling of devices, windows and semaphores

The program computes its neighbours, windows and semaphores by word arithmetic. Each is one of the protocol's.
-/
module

public import proofs.«01_k».proof.Proof.Rows

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Neighbours -/

/-- The first signal goes to the device below. -/
theorem dev1_eq (c : Dev nD) : (⟨k0_dev1 c, k0_dev1_lt c⟩ : Dev nD) = prv c := Fin.ext (k0_dev1_eq c)
/-- The second signal goes to the device above. -/
theorem dev2_eq (c : Dev nD) : (⟨k0_dev2 c, k0_dev2_lt c⟩ : Dev nD) = nxt c := Fin.ext (k0_dev2_eq c)
/-- The first up K hop goes to the device above. -/
theorem dev3_eq (c : Dev nD) : (⟨k0_dev3 c, k0_dev3_lt c⟩ : Dev nD) = nxt c := Fin.ext (k0_dev3_eq c)
/-- The first down K hop goes to the device below. -/
theorem dev4_eq (c : Dev nD) : (⟨k0_dev4 c, k0_dev4_lt c⟩ : Dev nD) = prv c := Fin.ext (k0_dev4_eq c)
/-- The first up V hop goes to the device above. -/
theorem dev5_eq (c : Dev nD) : (⟨k0_dev5 c, k0_dev5_lt c⟩ : Dev nD) = nxt c := Fin.ext (k0_dev5_eq c)
/-- The first down V hop goes to the device below. -/
theorem dev6_eq (c : Dev nD) : (⟨k0_dev6 c, k0_dev6_lt c⟩ : Dev nD) = prv c := Fin.ext (k0_dev6_eq c)
/-- The loop's up K hop goes to the device above. -/
theorem dev7_eq (c : Dev nD) : (⟨k0_dev7 c, k0_dev7_lt c⟩ : Dev nD) = nxt c := Fin.ext (k0_dev7_eq c)
/-- The loop's down K hop goes to the device below. -/
theorem dev8_eq (c : Dev nD) : (⟨k0_dev8 c, k0_dev8_lt c⟩ : Dev nD) = prv c := Fin.ext (k0_dev8_eq c)
/-- The loop's up V hop goes to the device above. -/
theorem dev9_eq (c : Dev nD) : (⟨k0_dev9 c, k0_dev9_lt c⟩ : Dev nD) = nxt c := Fin.ext (k0_dev9_eq c)
/-- The loop's down V hop goes to the device below. -/
theorem dev10_eq (c : Dev nD) : (⟨k0_dev10 c, k0_dev10_lt c⟩ : Dev nD) = prv c := Fin.ext (k0_dev10_eq c)
/-- The last up K hop goes to the device above. -/
theorem dev11_eq (c : Dev nD) : (⟨k0_dev11 c, k0_dev11_lt c⟩ : Dev nD) = nxt c := Fin.ext (k0_dev11_eq c)
/-- The last up V hop goes to the device above. -/
theorem dev12_eq (c : Dev nD) : (⟨k0_dev12 c, k0_dev12_lt c⟩ : Dev nD) = nxt c := Fin.ext (k0_dev12_eq c)

/-! ## Windows -/

/-- A slice of the scratch at a window's offsets is that window. -/
theorem slot_eq (d : Fin 2) (s : ℕ) (kv : Fin 2) {off : Fin 6 → ℕ} (hoff : off = ![d.val, s % 4, kv.val, 0, 0, 0])
    {inb : ∀ a, off a + S1x1x1x16x64x512.size a ≤ S2x4x2x16x64x512.size a}
    {hst : ∀ a, (Rect.unit (s := S2x4x2x16x64x512) off S1x1x1x16x64x512.size inb).stride a = 1} :
    (kvM.slice (Rect.unit (s := S2x4x2x16x64x512) off S1x1x1x16x64x512.size inb) hst).squeeze S16x64x512 squeezes_S1x1x1x16x64x512_S16x64x512
      = slotM d s kv := by
  subst hoff; rfl

/-- Every window has the same credit. -/
theorem slot_credit (d : Fin 2) (s : ℕ) (kv : Fin 2) : (slotM d s kv).view.dmaCredit = N := rfl

/-! ## Semaphores -/

/-- The number of one semaphore of a consecutive two-row array. -/
theorem sem_pos (b w : ℕ) (i j : ℕ) (hb : b + (⟨2, ![2, w]⟩ : Shape).numel ≤ 66)
    (inb : ∀ a, (![i, j] : Fin 2 → ℕ) a + S1x1.size a ≤ (⟨2, ![2, w]⟩ : Shape).size a) (x : S1x1.Idx) :
    ((SemArray.consecutive b ⟨2, ![2, w]⟩ hb).ix ((Rect.unit (s := ⟨2, ![2, w]⟩) ![i, j] S1x1.size inb).emb x)).val = b + (i * w + j) := by
  show b + ((⟨2, ![2, w]⟩ : Shape).rowMajor ((Rect.unit (s := ⟨2, ![2, w]⟩) ![i, j] S1x1.size inb).emb x)).val = _
  rw [Shape.rowMajor_val_two]
  have h0 : (x 0).val < 1 := (x 0).isLt
  have h1 : (x 1).val < 1 := (x 1).isLt
  show b + ((i + 1 * (x 0).val) * w + (j + 1 * (x 1).val)) = b + (i * w + j)
  rw [show (x 0).val = 0 by omega, show (x 1).val = 0 by omega]
  simp only [Nat.mul_zero, Nat.add_zero]

/-- An up hop's send semaphore as the program names it. -/
theorem cwS_eq (kv : Fin 2) (h : ℕ) (hh : h < 8) {off : Fin 2 → ℕ} (hoff : off = ![kv.val, h])
    {inb : ∀ a, off a + S1x1.size a ≤ S2x8.size a} :
    ((cc0_scratch1.slice (Rect.unit (s := S2x8) off S1x1.size inb)).squeeze S_ squeezes_S1x1_S_).sem = dsem (sK 0 kv h) := by
  subst hoff
  refine Fin.ext ?_
  have hkv := kv.isLt
  refine (sem_pos 6 8 kv.val h (by decide) inb _).trans ?_
  show 6 + (kv.val * 8 + h) = 6 + (kv.val * 8 + h) % 60
  omega
/-- An up hop's receive semaphore as the program names it. -/
theorem cwR_eq (kv : Fin 2) (h : ℕ) (hh : h < 8) {off : Fin 2 → ℕ} (hoff : off = ![kv.val, h])
    {inb : ∀ a, off a + S1x1.size a ≤ S2x8.size a} :
    ((cc0_scratch2.slice (Rect.unit (s := S2x8) off S1x1.size inb)).squeeze S_ squeezes_S1x1_S_).sem = dsem (rK 0 kv h) := by
  subst hoff
  refine Fin.ext ?_
  have hkv := kv.isLt
  refine (sem_pos 22 8 kv.val h (by decide) inb _).trans ?_
  show 22 + (kv.val * 8 + h) = 6 + (16 + kv.val * 8 + h) % 60
  omega
/-- A down hop's send semaphore as the program names it. -/
theorem ccwS_eq (kv : Fin 2) (h : ℕ) (hh : h < 7) {off : Fin 2 → ℕ} (hoff : off = ![kv.val, h])
    {inb : ∀ a, off a + S1x1.size a ≤ S2x7.size a} :
    ((cc0_scratch3.slice (Rect.unit (s := S2x7) off S1x1.size inb)).squeeze S_ squeezes_S1x1_S_).sem = dsem (sK 1 kv h) := by
  subst hoff
  refine Fin.ext ?_
  have hkv := kv.isLt
  refine (sem_pos 38 7 kv.val h (by decide) inb _).trans ?_
  show 38 + (kv.val * 7 + h) = 6 + (32 + kv.val * 7 + h) % 60
  omega
/-- A down hop's receive semaphore as the program names it. -/
theorem ccwR_eq (kv : Fin 2) (h : ℕ) (hh : h < 7) {off : Fin 2 → ℕ} (hoff : off = ![kv.val, h])
    {inb : ∀ a, off a + S1x1.size a ≤ S2x7.size a} :
    ((cc0_scratch4.slice (Rect.unit (s := S2x7) off S1x1.size inb)).squeeze S_ squeezes_S1x1_S_).sem = dsem (rK 1 kv h) := by
  subst hoff
  refine Fin.ext ?_
  have hkv := kv.isLt
  refine (sem_pos 52 7 kv.val h (by decide) inb _).trans ?_
  show 52 + (kv.val * 7 + h) = 6 + (46 + kv.val * 7 + h) % 60
  omega

/-! ## Offsets at literal slots -/

/-- Up K slot 0, as the program's offsets name it. -/
theorem off1_0 : k0_off1 0#32 = ![0, 0%4, 0, 0, 0, 0] := by decide
/-- Up K slot 1. -/
theorem off1_1 : k0_off1 1#32 = ![0, 1%4, 0, 0, 0, 0] := by decide
/-- Up K slot 7 modulo 4. -/
theorem off1_7 : k0_off1 7#32 = ![0, 7%4, 0, 0, 0, 0] := by decide
/-- Up K slot 8 modulo 4. -/
theorem off1_8 : k0_off1 8#32 = ![0, 8%4, 0, 0, 0, 0] := by decide
/-- Down K slot 0. -/
theorem off2_0 : k0_off2 0#32 = ![1, 0%4, 0, 0, 0, 0] := by decide
/-- Down K slot 1. -/
theorem off2_1 : k0_off2 1#32 = ![1, 1%4, 0, 0, 0, 0] := by decide
/-- Up V slot 0. -/
theorem off3_0 : k0_off3 0#32 = ![0, 0%4, 1, 0, 0, 0] := by decide
/-- Up V slot 1. -/
theorem off3_1 : k0_off3 1#32 = ![0, 1%4, 1, 0, 0, 0] := by decide
/-- Up V slot 7 modulo 4. -/
theorem off3_7 : k0_off3 7#32 = ![0, 7%4, 1, 0, 0, 0] := by decide
/-- Up V slot 8 modulo 4. -/
theorem off3_8 : k0_off3 8#32 = ![0, 8%4, 1, 0, 0, 0] := by decide
/-- Down V slot 0. -/
theorem off4_0 : k0_off4 0#32 = ![1, 0%4, 1, 0, 0, 0] := by decide
/-- Down V slot 1. -/
theorem off4_1 : k0_off4 1#32 = ![1, 1%4, 1, 0, 0, 0] := by decide

end Cert.RingProof

end
-- ==== Proof.Hops.lean ====
/-
# The hops of the ring by counts

The state of the protocol written by how many hops have been started and how many sends and receives waited on, with the
three rules that move it: start a hop, wait for its send, wait for its receive.
-/
module

public import proofs.«01_k».proof.Proof.Names

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Counts -/

/-- A count for each direction and for K and V. -/
abbrev Cnt : Type := Fin 2 → Fin 2 → ℕ
/-- The four counts: up K, down K, up V, down V. -/
def q4 (a b e g : ℕ) : Cnt := fun d kv => if kv = 0 then (if d = 0 then a else b) else (if d = 0 then e else g)

/-- The completions outstanding when `f` hops have been started. -/
def Df (f : Cnt) : Finset (Fin 60) := Finset.univ.filter fun k => f (dirK k) (kvK k) ≤ hopK k
/-- The cells not waited on when `s` sends and `r` receives have been. -/
def Af (s r : Cnt) : Finset (Fin 60) := Finset.univ.filter fun k => (if isRecv k then r else s) (dirK k) (kvK k) ≤ hopK k

/-- A cell is outstanding when its hop has not been started. -/
theorem mem_Df {f : Cnt} {k : Fin 60} : k ∈ Df f ↔ f (dirK k) (kvK k) ≤ hopK k := by
  unfold Df; rw [Finset.mem_filter]; exact and_iff_right (Finset.mem_univ _)
/-- A cell is not waited on when its hop is at or past the count of waits. -/
theorem mem_Af {s r : Cnt} {k : Fin 60} : k ∈ Af s r ↔ (if isRecv k then r else s) (dirK k) (kvK k) ≤ hopK k := by
  unfold Af; rw [Finset.mem_filter]; exact and_iff_right (Finset.mem_univ _)

/-- A cell is known by its kind, direction, K or V, and hop. -/
theorem cell_name (k : Fin 60) : hopK k < nh (dirK k) ∧ k = (if isRecv k then rK (dirK k) (kvK k) (hopK k) else sK (dirK k) (kvK k) (hopK k)) := by
  revert k; decide

/-- `f'` counts one more at `(d, kv)` than `h`, and is `f` elsewhere. -/
def Bump (f f' : Cnt) (d kv : Fin 2) (h : ℕ) : Prop := f d kv = h ∧ f' d kv = h + 1 ∧ ∀ d' kv', ¬ (d' = d ∧ kv' = kv) → f' d' kv' = f d' kv'

/-- One more up K hop. -/
theorem bump00 (a b e g : ℕ) : Bump (q4 a b e g) (q4 (a + 1) b e g) 0 0 a :=
  ⟨rfl, rfl, fun d kv h => by fin_cases d <;> fin_cases kv <;> first | rfl | exact absurd ⟨rfl, rfl⟩ h⟩
/-- One more down K hop. -/
theorem bump10 (a b e g : ℕ) : Bump (q4 a b e g) (q4 a (b + 1) e g) 1 0 b :=
  ⟨rfl, rfl, fun d kv h => by fin_cases d <;> fin_cases kv <;> first | rfl | exact absurd ⟨rfl, rfl⟩ h⟩
/-- One more up V hop. -/
theorem bump01 (a b e g : ℕ) : Bump (q4 a b e g) (q4 a b (e + 1) g) 0 1 e :=
  ⟨rfl, rfl, fun d kv h => by fin_cases d <;> fin_cases kv <;> first | rfl | exact absurd ⟨rfl, rfl⟩ h⟩
/-- One more down V hop. -/
theorem bump11 (a b e g : ℕ) : Bump (q4 a b e g) (q4 a b e (g + 1)) 1 1 g :=
  ⟨rfl, rfl, fun d kv h => by fin_cases d <;> fin_cases kv <;> first | rfl | exact absurd ⟨rfl, rfl⟩ h⟩

/-- Starting a hop takes its send and receive cells off the outstanding ones. -/
theorem Df_bump {f f' : Cnt} {d kv : Fin 2} {h : ℕ} (hh : h < nh d) (hb : Bump f f' d kv h) :
    ((Df f).erase (sK d kv h)).erase (rK d kv h) = Df f' := by
  obtain ⟨h1, h2, h3⟩ := hb
  obtain ⟨hs1, hs2, hs3, hs4⟩ := sK_spec d kv h hh
  obtain ⟨hr1, hr2, hr3, hr4⟩ := rK_spec d kv h hh
  ext k
  rw [Finset.mem_erase, Finset.mem_erase, mem_Df, mem_Df]
  by_cases hk : dirK k = d ∧ kvK k = kv
  · rw [hk.1, hk.2, h1, h2]
    obtain ⟨-, hn⟩ := cell_name k
    rw [hk.1, hk.2] at hn
    constructor
    · rintro ⟨a1, a2, a3⟩
      rcases Nat.lt_or_eq_of_le a3 with a | a
      · exact a
      · rw [← a] at hn
        split at hn
        · exact absurd hn a1
        · exact absurd hn a2
    · intro a
      exact ⟨fun e => by rw [e, hr4] at a; omega, fun e => by rw [e, hs4] at a; omega, by omega⟩
  · rw [h3 _ _ hk]
    exact ⟨fun a => a.2.2, fun a => ⟨fun e => hk ⟨by rw [e]; exact hr2, by rw [e]; exact hr3⟩, fun e => hk ⟨by rw [e]; exact hs2, by rw [e]; exact hs3⟩, a⟩⟩

/-- Waiting for a send takes its cell off those not waited on. -/
theorem Af_bump_s {s s' r : Cnt} {d kv : Fin 2} {h : ℕ} (hh : h < nh d) (hb : Bump s s' d kv h) :
    (Af s r).erase (sK d kv h) = Af s' r := by
  obtain ⟨h1, h2, h3⟩ := hb
  obtain ⟨hs1, hs2, hs3, hs4⟩ := sK_spec d kv h hh
  ext k
  rw [Finset.mem_erase, mem_Af, mem_Af]
  by_cases hr : isRecv k = true
  · rw [if_pos hr, if_pos hr]
    exact ⟨fun a => a.2, fun a => ⟨fun e => (by rw [e, hs1] at hr; cases hr), a⟩⟩
  rw [if_neg hr, if_neg hr]
  by_cases hk : dirK k = d ∧ kvK k = kv
  · rw [hk.1, hk.2, h1, h2]
    obtain ⟨-, hn⟩ := cell_name k
    rw [hk.1, hk.2, if_neg hr] at hn
    constructor
    · rintro ⟨a1, a3⟩
      rcases Nat.lt_or_eq_of_le a3 with a | a
      · exact a
      · rw [← a] at hn; exact absurd hn a1
    · intro a
      exact ⟨fun e => by rw [e, hs4] at a; omega, by omega⟩
  · rw [h3 _ _ hk]
    exact ⟨fun a => a.2, fun a => ⟨fun e => hk ⟨by rw [e]; exact hs2, by rw [e]; exact hs3⟩, a⟩⟩

/-- Waiting for a receive takes its cell off those not waited on. -/
theorem Af_bump_r {s r r' : Cnt} {d kv : Fin 2} {h : ℕ} (hh : h < nh d) (hb : Bump r r' d kv h) :
    (Af s r).erase (rK d kv h) = Af s r' := by
  obtain ⟨h1, h2, h3⟩ := hb
  obtain ⟨hs1, hs2, hs3, hs4⟩ := rK_spec d kv h hh
  ext k
  rw [Finset.mem_erase, mem_Af, mem_Af]
  by_cases hr : isRecv k = true
  swap
  · rw [if_neg hr, if_neg hr]
    exact ⟨fun a => a.2, fun a => ⟨fun e => by rw [e] at hr; exact hr hs1, a⟩⟩
  rw [if_pos hr, if_pos hr]
  by_cases hk : dirK k = d ∧ kvK k = kv
  · rw [hk.1, hk.2, h1, h2]
    obtain ⟨-, hn⟩ := cell_name k
    rw [hk.1, hk.2, if_pos hr] at hn
    constructor
    · rintro ⟨a1, a3⟩
      rcases Nat.lt_or_eq_of_le a3 with a | a
      · exact a
      · rw [← a] at hn; exact absurd hn a1
    · intro a
      exact ⟨fun e => by rw [e, hs4] at a; omega, by omega⟩
  · rw [h3 _ _ hk]
    exact ⟨fun a => a.2, fun a => ⟨fun e => hk ⟨by rw [e]; exact hs2, by rw [e]; exact hs3⟩, a⟩⟩

/-- A hop below all four counts is below each. -/
theorem lt_q4 {h a b e g : ℕ} (ha : h < a) (hb : h < b) (he : h < e) (hg : h < g) : ∀ d kv, h < nh d → h < q4 a b e g d kv := by
  intro d kv _
  unfold q4; split <;> split <;> assumption
/-- The condition on the last hop is empty for an earlier hop. -/
theorem le_q4 {h a b e g : ℕ} (hh : h ≠ 7) : ∀ d kv, h = 7 → nh d ≤ q4 a b e g d kv := fun _ _ h => absurd h hh

/-! ## The state by counts -/

/-- The state when `f` hops have been started, `s` sends and `r` receives waited on. -/
def stt (c : Dev nD) (f s r : Cnt) : sProp 𝕄 := hopSt c (Af s r) (Df f)

/-- Starting hop `h`. -/
theorem wp_hop (K : Dev nD × Option (Fin 60) → ℕ) (c n p : Dev nD) (d kv : Fin 2) (h e : ℕ) (he : e = h + 1) (hh : h < nh d) (hn : n = p) (hp : p = toD d c)
    {offS offD : Fin 6 → ℕ} (hs : offS = ![d.val, h % 4, kv.val, 0, 0, 0]) (hd : offD = ![d.val, e % 4, kv.val, 0, 0, 0])
    {inbS : ∀ a, offS a + S1x1x1x16x64x512.size a ≤ S2x4x2x16x64x512.size a} {inbD : ∀ a, offD a + S1x1x1x16x64x512.size a ≤ S2x4x2x16x64x512.size a}
    {hstS : ∀ a, (Rect.unit (s := S2x4x2x16x64x512) offS S1x1x1x16x64x512.size inbS).stride a = 1}
    {hstD : ∀ a, (Rect.unit (s := S2x4x2x16x64x512) offD S1x1x1x16x64x512.size inbD).stride a = 1}
    {sS rS : DmaSem sig} (hsS : sS = dsem (sK d kv h)) (hrS : rS = dsem (rK d kv h))
    {f f' s r : Cnt} (hb : Bump f f' d kv h) (hA : s d kv ≤ h)
    {hsc} {hsrc} {hdst} {hsem}
    {α : Type} {Q : α → sProp 𝕄} {k : PUnit → Prog (TpuEff nD τ sig (Elt F) Λ₀ .tc) α} :
    recs m ρ K ⊢ iprop(stt c f s r -∗ slotP c d h kv fullShare.right (cont m ρ (srcAt d c h) kv) -∗ slotE p d e kv -∗ give c d kv h
      -∗ (stt c f' s r -∗ wp frame (wpE (defs₀ (F := F)) 𝒱₀ (c : Thread nD τ) none) Set.univ (k ⟨⟩) Q)
      -∗ wp frame (wpE (defs₀ (F := F)) 𝒱₀ (c : Thread nD τ) none) Set.univ
        (.op (.enqueueDma ((kvM.slice (Rect.unit (s := S2x4x2x16x64x512) offS S1x1x1x16x64x512.size inbS) hstS).squeeze S16x64x512 squeezes_S1x1x1x16x64x512_S16x64x512)
          (.remote (Dev.tc n : Thread nD τ) ((kvM.slice (Rect.unit (s := S2x4x2x16x64x512) offD S1x1x1x16x64x512.size inbD) hstD).squeeze S16x64x512 squeezes_S1x1x1x16x64x512_S16x64x512)
            (.dma sS) hsc) (.dma rS) hsrc hdst hsem) k) Q) := by
  subst he hn hp
  obtain ⟨hs1, hs2, hs3, hs4⟩ := sK_spec d kv h hh
  obtain ⟨hr1, hr2, hr3, hr4⟩ := rK_spec d kv h hh
  have hb' := hb
  obtain ⟨b1, b2, b3⟩ := hb'
  iintro #HR Hst Hs Hd Hg Hk
  unfold stt
  iapply (wp_start m ρ K c _ d kv h hh rfl (slot_eq d h kv hs) (slot_eq d (h + 1) kv hd) hsS hrS (A := Af s r) (D := Df f)
    (by rw [mem_Af, hs1, hs2, hs3, hs4]; exact hA) (by rw [mem_Df, hs2, hs3, hs4, b1]) (by rw [mem_Df, hr2, hr3, hr4, b1])) $$ [Hst Hs Hd Hg]
  · isplitr; · iexact HR
    isplitl [Hst]; · iexact Hst
    isplitl [Hs]; · iexact Hs
    isplitl [Hd] <;> iassumption
  rw [Df_bump hh hb]
  iexact Hk

/-- Waiting for the send of hop `h`: the lent half comes back. -/
theorem wp_waitS (K : Dev nD × Option (Fin 60) → ℕ) (c : Dev nD) (d kv : Fin 2) (h : ℕ) (hh : h < nh d)
    {sm : DmaSem sig} (hsm : sm = dsem (sK d kv h)) {sM dM : Memref sig .tc .vmem S16x64x512 .bf16} (hN : dM.view.dmaCredit = N)
    {f s s' r : Cnt} (hb : Bump s s' d kv h) (hf : h < f d kv)
    {hsrc : sM.view.WordExact} {hdst : dM.view.WordExact}
    {α : Type} {Q : α → sProp 𝕄} {k : PUnit → Prog (TpuEff nD τ sig (Elt F) Λ₀ .tc) α} :
    recs m ρ K ⊢ iprop(levAts L lv -∗ stt c f s r
      -∗ (stt c f s' r -∗ slotP c d h kv fullShare.right (cont m ρ (srcAt d c h) kv) -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sm sM dM hsrc hdst) k) Q) := by
  obtain ⟨hs1, hs2, hs3, hs4⟩ := sK_spec d kv h hh
  have hb' := hb
  obtain ⟨b1, b2, b3⟩ := hb'
  iintro #HR #Hl Hst Hk
  unfold stt
  iapply (wp_waitK m ρ K c (sK d kv h) hsm hN (A := Af s r) (D := Df f) (by rw [mem_Af, hs1, hs2, hs3, hs4]; exact le_of_eq b1)
    (Or.inr (by rw [mem_Df, hs2, hs3, hs4]; omega)) (fun j _ _ hx => by rw [hs1] at hx; cases hx)) $$ [Hst]
  · isplitr; · iexact HR
    isplitr; · iexact Hl
    iexact Hst
  rw [Af_bump_s hh hb, kPay_send m ρ c d kv h hh]
  unfold sendPay
  iintro ⟨Hst, Hp⟩
  iapply Hk $$ Hst Hp

/-- Waiting for the receive of hop `h`, once every transfer of an earlier or the same hop has been started. -/
theorem wp_waitR (K : Dev nD × Option (Fin 60) → ℕ) (c : Dev nD) (d kv : Fin 2) (h e : ℕ) (he : e = h + 1) (hh : h < nh d)
    {sm : DmaSem sig} (hsm : sm = dsem (rK d kv h)) {sM dM : Memref sig .tc .vmem S16x64x512 .bf16} (hN : dM.view.dmaCredit = N)
    {f s r r' : Cnt} (hb : Bump r r' d kv h) (hf : ∀ d kv, h < nh d → h < f d kv) (hf7 : ∀ d kv, h = 7 → nh d ≤ f d kv)
    {hsrc : sM.view.WordExact} {hdst : dM.view.WordExact}
    {α : Type} {Q : α → sProp 𝕄} {k : PUnit → Prog (TpuEff nD τ sig (Elt F) Λ₀ .tc) α} :
    recs m ρ K ⊢ iprop(levAts L lv -∗ stt c f s r
      -∗ (stt c f s r' -∗ slotP c d e kv fullShare (cont m ρ (srcAt d c e) kv) -∗ extra c d kv h
          -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sm sM dM hsrc hdst) k) Q) := by
  subst he
  obtain ⟨hs1, hs2, hs3, hs4⟩ := rK_spec d kv h hh
  have hb' := hb
  obtain ⟨b1, b2, b3⟩ := hb'
  iintro #HR #Hl Hst Hk
  unfold stt
  iapply (wp_waitK m ρ K c (rK d kv h) hsm hN (A := Af s r) (D := Df f) (by rw [mem_Af, hs1, hs2, hs3, hs4]; exact le_of_eq b1)
    (Or.inl hs1) (fun j hj _ _ => by
      rw [hs4]
      have h1 := mem_Df.mp hj
      have h2 := (cell_name j).1
      have h8 : nh d ≤ 8 := by unfold nh; split <;> omega
      have h7 : 7 ≤ nh (dirK j) := by unfold nh; split <;> omega
      rcases Nat.lt_or_ge h (nh (dirK j)) with h3 | h3
      · have := hf _ (kvK j) h3; omega
      · have := hf7 (dirK j) (kvK j) (by omega); omega)) $$ [Hst]
  · isplitr; · iexact HR
    isplitr; · iexact Hl
    iexact Hst
  rw [Af_bump_r hh hb, kPay_recv m ρ c d kv h hh]
  unfold recvPay
  iintro ⟨Hst, Hp, He⟩
  iapply Hk $$ Hst Hp He

/-! ## What a hop hands on -/

omit [FloatOps F] in
/-- An early up K hop hands on a down slot. -/
theorem give00 (c : Dev nD) (h : ℕ) (hh : h < 6) : (slotB c 1 (h + 2) : sProp 𝕄) ⊢ give c 0 0 h := by
  unfold give; rw [if_pos ⟨rfl, rfl, hh⟩]
omit [FloatOps F] in
/-- An early down V hop hands on an up slot. -/
theorem give11 (c : Dev nD) (h : ℕ) (hh : h < 6) : (slotB c 0 (h + 3) : sProp 𝕄) ⊢ give c 1 1 h := by
  unfold give; rw [if_neg (fun e => by cases e.1), if_pos ⟨rfl, rfl, hh⟩]
omit [FloatOps F] in
/-- A down K hop hands on nothing besides the block. -/
theorem give10 (c : Dev nD) (h : ℕ) : (iprop(emp) : sProp 𝕄) ⊢ give c 1 0 h := by
  unfold give; rw [if_neg (fun e => by cases e.1), if_neg (fun e => by cases e.2.1)]
omit [FloatOps F] in
/-- An up V hop hands on nothing besides the block. -/
theorem give01 (c : Dev nD) (h : ℕ) : (iprop(emp) : sProp 𝕄) ⊢ give c 0 1 h := by
  unfold give; rw [if_neg (fun e => by cases e.2.1), if_neg (fun e => by cases e.1)]
omit [FloatOps F] in
/-- A late hop hands on nothing besides the block. -/
theorem give_late (c : Dev nD) (d kv : Fin 2) (h : ℕ) (hh : ¬ h < 6) : (iprop(emp) : sProp 𝕄) ⊢ give c d kv h := by
  unfold give; rw [if_neg (fun e => hh e.2.2), if_neg (fun e => hh e.2.2)]
omit [FloatOps F] in
/-- An early up K landing brings a down slot of the device below. -/
theorem extra00 (c : Dev nD) (h : ℕ) (hh : h < 6) : (extra c 0 0 h : sProp 𝕄) ⊢ slotB (prv c) 1 (h + 2) := by
  unfold extra; rw [if_pos ⟨rfl, rfl, hh⟩]; exact BI.Entails.refl _
omit [FloatOps F] in
/-- An early down V landing brings an up slot of the device above. -/
theorem extra11 (c : Dev nD) (h : ℕ) (hh : h < 6) : (extra c 1 1 h : sProp 𝕄) ⊢ slotB (nxt c) 0 (h + 3) := by
  unfold extra; rw [if_neg (fun e => by cases e.1), if_pos ⟨rfl, rfl, hh⟩]; exact BI.Entails.refl _

/-- The up slot kept back once no hop needs it any more. -/
def keep0 (c : Dev nD) (r : ℕ) : sProp 𝕄 := if r < 6 then iprop(emp) else slotB c 0 (r + 3)
/-- The down slot kept back once no hop needs it any more. -/
def keep1 (c : Dev nD) (r : ℕ) : sProp 𝕄 := if r < 6 then iprop(emp) else slotB c 1 (r + 2)

omit [FloatOps F] in
/-- A free down slot is handed on with an up K hop, or kept back at the end. -/
theorem give_keep1 (c : Dev nD) (h : ℕ) : (slotB c 1 (h + 2) : sProp 𝕄) ⊢ iprop(give c 0 0 h ∗ keep1 c h) := by
  by_cases hh : h < 6
  · unfold keep1; rw [if_pos hh]
    iintro H
    isplitl [H]; · iapply give00 c h hh; iexact H
    iempintro
  · unfold keep1; rw [if_neg hh]
    iintro H
    isplitr; · iapply give_late c 0 0 h hh; iempintro
    iexact H
omit [FloatOps F] in
/-- A free up slot is handed on with a down V hop, or kept back at the end. -/
theorem give_keep0 (c : Dev nD) (h : ℕ) : (slotB c 0 (h + 3) : sProp 𝕄) ⊢ iprop(give c 1 1 h ∗ keep0 c h) := by
  by_cases hh : h < 6
  · unfold keep0; rw [if_pos hh]
    iintro H
    isplitl [H]; · iapply give11 c h hh; iexact H
    iempintro
  · unfold keep0; rw [if_neg hh]
    iintro H
    isplitr; · iapply give_late c 1 1 h hh; iempintro
    iexact H

omit [FloatOps F] in
/-- A window at any contents depends on its slot number modulo 4 only. -/
theorem slotE_mod (c : Dev nD) (d : Fin 2) (s s' : ℕ) (kv : Fin 2) (h : s % 4 = s' % 4) : (slotE c d s kv : sProp 𝕄) ⊢ slotE c d s' kv := by
  unfold slotE; simp only [slotP_mod c d s s' _ _ _ h]; exact BI.Entails.refl _

omit [FloatOps F] in
/-- The two halves of a window, put together and their contents forgotten. -/
theorem join_halves (c : Dev nD) (d : Fin 2) (s : ℕ) (kv : Fin 2) (f : KVBuf F) :
    (slotP c d s kv fullShare.left f : sProp 𝕄) ⊢ iprop(slotP c d s kv fullShare.right f -∗ slotE c d s kv) := by
  iintro H1 H2
  iapply slotE_intro c d s kv f
  iapply (slotP_halves c d s kv f).2
  isplitl [H1] <;> iassumption

/-! ## Loading a window -/

/-- What device `e`'s K (`kv = 0`) or V (`kv = 1`) block gives when a window holding it is loaded. -/
def kvChunk (e : Dev nD) (kv : Fin 2) : S1x1x1x16x64x512.Idx → Elt F .bf16 := if kv = 0 then chunk (kstg m ρ e) else chunk (vstg m ρ e)

/-- A load of a window that holds device `e`'s block reads that block. -/
theorem wp_contLoad (c e : Dev nD) (d kv : Fin 2) (s : ℕ) {q : PosShare TreeShare} {off : Fin 6 → ℕ}
    (hoff : off = ![d.val, s % 4, kv.val, 0, 0, 0])
    {inb : ∀ a, off a + S1x1x1x16x64x512.size a ≤ S2x4x2x16x64x512.size a}
    {hl : kvM.view.LoadsAt (Rect.unit (s := S2x4x2x16x64x512) off S1x1x1x16x64x512.size inb).toLoadRect}
    {α : Type} {Q : α → sProp 𝕄} {k : (S1x1x1x16x64x512.Idx → Elt F .bf16) → Prog (TpuEff nD τ sig (Elt F) Λ₀ .tc) α} :
    (slotP c d s kv q (cont m ρ e kv) : sProp 𝕄)
      ⊢ iprop((slotP c d s kv q (cont m ρ e kv) -∗ wp frame (wpE (defs₀ (F := F)) 𝒱₀ (c : Thread nD τ) none) Set.univ (k (kvChunk m ρ e kv)) Q)
        -∗ wp frame (wpE (defs₀ (F := F)) 𝒱₀ (c : Thread nD τ) none) Set.univ
          (.op (.load kvM (Rect.unit (s := S2x4x2x16x64x512) off S1x1x1x16x64x512.size inb).toLoadRect hl) k) Q) := by
  unfold cont kvChunk
  split
  · exact wp_slotLoad hoff
  · exact wp_slotLoad hoff

/-- The credit of a window named by any offsets. -/
theorem win_credit {off : Fin 6 → ℕ} {inb : ∀ a, off a + S1x1x1x16x64x512.size a ≤ S2x4x2x16x64x512.size a}
    {hst : ∀ a, (Rect.unit (s := S2x4x2x16x64x512) off S1x1x1x16x64x512.size inb).stride a = 1} :
    ((kvM.slice (Rect.unit (s := S2x4x2x16x64x512) off S1x1x1x16x64x512.size inb) hst).squeeze S16x64x512 squeezes_S1x1x1x16x64x512_S16x64x512).view.dmaCredit = N := rfl

end Cert.RingProof

end
-- ==== Proof.FillK.lean ====
/-
# Storing the K block

Each lemma below runs one part of the program: from the rows stored so far to the rows stored after it. What a part returns
for the next to store is a row of the same block.
-/
module

public import proofs.«01_k».proof.Proof.Rows

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The first keys' rows: rows 0 and 1 of the up slot, row 0 of the down slot; row 1 is left in hand. -/
theorem part8 (c : Dev nD) (x : S2x512x8x64.Idx → Elt F .bf16) {Q : _ → sProp 𝕄} :
    iprop((kS c x ∗ rowsP c 0 0 0 x ∗ rowsP c 1 0 0 x) ∗ (∀ v5 v7 r, iprop(⌜isRow x 1 r⌝ ∗ kS c x ∗ rowsP c 0 0 2 x ∗ rowsP c 1 0 1 x -∗ Q ⟨c, v5, v7, r⟩)))
      ⊢ wp frame (wpE (defs₀ (F := F)) 𝒱₀ (c : Thread nD τ) none) Set.univ
          (k0_part8 (F := F) xM (Memref.isWhole_whole _) wqM (Memref.isWhole_whole _) woM (Memref.isWhole_whole _) kM (Memref.isWhole_whole _) vM (Memref.isWhole_whole _) oM (Memref.isWhole_whole _) kvM (Memref.isWhole_whole _) cc0_scratch1 cc0_scratch2 cc0_scratch3 cc0_scratch4) Q := by
  simp only [k0_part8_eq_skeleton]; unfold k0_part8_skel
  simp only [Prog.lift, Prog.bind_op, Prog.bind_ret, Prog.pure_eq_ret, wp_deviceId]
  iintro ⟨⟨HS, H0, H1⟩, Hk⟩
  iapply wp_kLoad $$ HS
  iintro HS
  iapply (wp_rowLoad (d := 0) (kv := 0) (b := 0) (x := x) (by decide) rfl) $$ H0
  iintro %v11 H0
  iapply (wp_rowStore (d := 0) (kv := 0) (b := 0) (x := x) (by decide) rfl (row_eq x 0 0 0 (by decide) (by decide) rfl _ fun _ => rfl)) $$ H0
  iintro H0
  iapply (wp_rowLoad (d := 1) (kv := 0) (b := 0) (x := x) (by decide) rfl) $$ H1
  iintro %v14 H1
  iapply (wp_rowStore (d := 1) (kv := 0) (b := 0) (x := x) (by decide) rfl (row_eq x 0 0 0 (by decide) (by decide) rfl _ fun _ => rfl)) $$ H1
  iintro H1
  iapply wp_kLoad $$ HS
  iintro HS
  iapply (wp_rowLoad (d := 0) (kv := 0) (b := 1) (x := x) (by decide) rfl) $$ H0
  iintro %v20 H0
  iapply (wp_rowStore (d := 0) (kv := 0) (b := 1) (x := x) (by decide) rfl (row_eq x 1 0 1 (by decide) (by decide) rfl _ fun _ => rfl)) $$ H0
  iintro H0
  rw [wp_ret]; imodintro
  iapply Hk
  isplitr; · ipureintro; exact (row_eq x 1 0 1 (by decide) (by decide) rfl _ fun _ => rfl)
  isplitl [HS]; · iexact HS
  isplitl [H0] <;> iassumption

/-- Two more rows of keys into each slot; row 3 is left in hand for the down slot. -/
theorem part9 (c : Dev nD) (x : S2x512x8x64.Idx → Elt F .bf16) (v19 : FVec F S64x512 .bf16) (hv19 : isRow x 1 v19) {Q : _ → sProp 𝕄} :
    iprop((kS c x ∗ rowsP c 0 0 2 x ∗ rowsP c 1 0 1 x) ∗ (∀ r, iprop(⌜isRow x 3 r⌝ ∗ kS c x ∗ rowsP c 0 0 4 x ∗ rowsP c 1 0 3 x -∗ Q r)))
      ⊢ wp frame (wpE (defs₀ (F := F)) 𝒱₀ (c : Thread nD τ) none) Set.univ
          (k0_part9 (F := F) xM (Memref.isWhole_whole _) wqM (Memref.isWhole_whole _) woM (Memref.isWhole_whole _) kM (Memref.isWhole_whole _) vM (Memref.isWhole_whole _) oM (Memref.isWhole_whole _) kvM (Memref.isWhole_whole _) cc0_scratch1 cc0_scratch2 cc0_scratch3 cc0_scratch4 v19) Q := by
  simp only [k0_part9_eq_skeleton]; unfold k0_part9_skel
  simp only [Prog.lift, Prog.bind_op, Prog.bind_ret, Prog.pure_eq_ret]
  iintro ⟨⟨HS, H0, H1⟩, Hk⟩
  iapply (wp_rowLoad (d := 1) (kv := 0) (b := 1) (x := x) (by decide) rfl) $$ H1
  iintro %v23 H1
  iapply (wp_rowStore (d := 1) (kv := 0) (b := 1) (x := x) (by decide) rfl hv19) $$ H1
  iintro H1
  iapply wp_kLoad $$ HS
  iintro HS
  iapply (wp_rowLoad (d := 0) (kv := 0) (b := 2) (x := x) (by decide) rfl) $$ H0
  iintro %v29 H0
  iapply (wp_rowStore (d := 0) (kv := 0) (b := 2) (x := x) (by decide) rfl (row_eq x 2 0 2 (by decide) (by decide) rfl _ fun _ => rfl)) $$ H0
  iintro H0
  iapply (wp_rowLoad (d := 1) (kv := 0) (b := 2) (x := x) (by decide) rfl) $$ H1
  iintro %v32 H1
  iapply (wp_rowStore (d := 1) (kv := 0) (b := 2) (x := x) (by decide) rfl (row_eq x 2 0 2 (by decide) (by decide) rfl _ fun _ => rfl)) $$ H1
  iintro H1
  iapply wp_kLoad $$ HS
  iintro HS
  iapply (wp_rowLoad (d := 0) (kv := 0) (b := 3) (x := x) (by decide) rfl) $$ H0
  iintro %v38 H0
  iapply (wp_rowStore (d := 0) (kv := 0) (b := 3) (x := x) (by decide) rfl (row_eq x 3 0 3 (by decide) (by decide) rfl _ fun _ => rfl)) $$ H0
  iintro H0
  rw [wp_ret]; imodintro
  iapply Hk
  isplitr; · ipureintro; exact ((row_eq x 3 0 3 (by decide) (by decide) rfl _ fun _ => rfl))
  isplitl [HS]; · iexact HS
  isplitl [H0] <;> iassumption

/-- The rows of keys up to row 5, in both slots. -/
theorem part10 (c : Dev nD) (x : S2x512x8x64.Idx → Elt F .bf16) (v37 : FVec F S64x512 .bf16) (hv37 : isRow x 3 v37) {Q : _ → sProp 𝕄} :
    iprop((kS c x ∗ rowsP c 0 0 4 x ∗ rowsP c 1 0 3 x) ∗ ((kS c x ∗ rowsP c 0 0 6 x ∗ rowsP c 1 0 6 x) -∗ Q ⟨⟩))
      ⊢ wp frame (wpE (defs₀ (F := F)) 𝒱₀ (c : Thread nD τ) none) Set.univ
          (k0_part10 (F := F) xM (Memref.isWhole_whole _) wqM (Memref.isWhole_whole _) woM (Memref.isWhole_whole _) kM (Memref.isWhole_whole _) vM (Memref.isWhole_whole _) oM (Memref.isWhole_whole _) kvM (Memref.isWhole_whole _) cc0_scratch1 cc0_scratch2 cc0_scratch3 cc0_scratch4 v37) Q := by
  simp only [k0_part10_eq_skeleton]; unfold k0_part10_skel
  simp only [Prog.lift, Prog.bind_op, Prog.bind_ret, Prog.pure_eq_ret]
  iintro ⟨⟨HS, H0, H1⟩, Hk⟩
  iapply (wp_rowLoad (d := 1) (kv := 0) (b := 3) (x := x) (by decide) rfl) $$ H1
  iintro %v41 H1
  iapply (wp_rowStore (d := 1) (kv := 0) (b := 3) (x := x) (by decide) rfl hv37) $$ H1
  iintro H1
  iapply wp_kLoad $$ HS
  iintro HS
  iapply (wp_rowLoad (d := 0) (kv := 0) (b := 4) (x := x) (by decide) rfl) $$ H0
  iintro %v47 H0
  iapply (wp_rowStore (d := 0) (kv := 0) (b := 4) (x := x) (by decide) rfl (row_eq x 4 0 4 (by decide) (by decide) rfl _ fun _ => rfl)) $$ H0
  iintro H0
  iapply (wp_rowLoad (d := 1) (kv := 0) (b := 4) (x := x) (by decide) rfl) $$ H1
  iintro %v50 H1
  iapply (wp_rowStore (d := 1) (kv := 0) (b := 4) (x := x) (by decide) rfl (row_eq x 4 0 4 (by decide) (by decide) rfl _ fun _ => rfl)) $$ H1
  iintro H1
  iapply wp_kLoad $$ HS
  iintro HS
  iapply (wp_rowLoad (d := 0) (kv := 0) (b := 5) (x := x) (by decide) rfl) $$ H0
  iintro %v56 H0
  iapply (wp_rowStore (d := 0) (kv := 0) (b := 5) (x := x) (by decide) rfl (row_eq x 5 0 5 (by decide) (by decide) rfl _ fun _ => rfl)) $$ H0
  iintro H0
  iapply (wp_rowLoad (d := 1) (kv := 0) (b := 5) (x := x) (by decide) rfl) $$ H1
  iintro %v59 H1
  iapply (wp_rowStore (d := 1) (kv := 0) (b := 5) (x := x) (by decide) rfl (row_eq x 5 0 5 (by decide) (by decide) rfl _ fun _ => rfl)) $$ H1
  iintro H1
  rw [wp_ret]; imodintro
  iapply Hk
  isplitl [HS]; · iexact HS
  isplitl [H0] <;> iassumption

/-- Rows 6 and 7 of the keys, in both slots; row 8 is left in hand. -/
theorem part11 (c : Dev nD) (x : S2x512x8x64.Idx → Elt F .bf16) {Q : _ → sProp 𝕄} :
    iprop((kS c x ∗ rowsP c 0 0 6 x ∗ rowsP c 1 0 6 x) ∗ (∀ r, iprop(⌜isRow x 8 r⌝ ∗ kS c x ∗ rowsP c 0 0 8 x ∗ rowsP c 1 0 8 x -∗ Q r)))
      ⊢ wp frame (wpE (defs₀ (F := F)) 𝒱₀ (c : Thread nD τ) none) Set.univ
          (k0_part11 (F := F) xM (Memref.isWhole_whole _) wqM (Memref.isWhole_whole _) woM (Memref.isWhole_whole _) kM (Memref.isWhole_whole _) vM (Memref.isWhole_whole _) oM (Memref.isWhole_whole _) kvM (Memref.isWhole_whole _) cc0_scratch1 cc0_scratch2 cc0_scratch3 cc0_scratch4) Q := by
  simp only [k0_part11_eq_skeleton]; unfold k0_part11_skel
  simp only [Prog.lift, Prog.bind_op, Prog.bind_ret, Prog.pure_eq_ret]
  iintro ⟨⟨HS, H0, H1⟩, Hk⟩
  iapply wp_kLoad $$ HS
  iintro HS
  iapply (wp_rowLoad (d := 0) (kv := 0) (b := 6) (x := x) (by decide) rfl) $$ H0
  iintro %v65 H0
  iapply (wp_rowStore (d := 0) (kv := 0) (b := 6) (x := x) (by decide) rfl (row_eq x 6 0 6 (by decide) (by decide) rfl _ fun _ => rfl)) $$ H0
  iintro H0
  iapply (wp_rowLoad (d := 1) (kv := 0) (b := 6) (x := x) (by decide) rfl) $$ H1
  iintro %v68 H1
  iapply (wp_rowStore (d := 1) (kv := 0) (b := 6) (x := x) (by decide) rfl (row_eq x 6 0 6 (by decide) (by decide) rfl _ fun _ => rfl)) $$ H1
  iintro H1
  iapply wp_kLoad $$ HS
  iintro HS
  iapply (wp_rowLoad (d := 0) (kv := 0) (b := 7) (x := x) (by decide) rfl) $$ H0
  iintro %v74 H0
  iapply (wp_rowStore (d := 0) (kv := 0) (b := 7) (x := x) (by decide) rfl (row_eq x 7 0 7 (by decide) (by decide) rfl _ fun _ => rfl)) $$ H0
  iintro H0
  iapply (wp_rowLoad (d := 1) (kv := 0) (b := 7) (x := x) (by decide) rfl) $$ H1
  iintro %v77 H1
  iapply (wp_rowStore (d := 1) (kv := 0) (b := 7) (x := x) (by decide) rfl (row_eq x 7 0 7 (by decide) (by decide) rfl _ fun _ => rfl)) $$ H1
  iintro H1
  iapply wp_kLoad $$ HS
  iintro HS
  rw [wp_ret]; imodintro
  iapply Hk
  isplitr; · ipureintro; exact ((row_eq x 8 1 0 (by decide) (by decide) rfl _ fun _ => rfl))
  isplitl [HS]; · iexact HS
  isplitl [H0] <;> iassumption

/-- Rows 8 and 9 of the keys, in both slots; row 10 is left in hand. -/
theorem part12 (c : Dev nD) (x : S2x512x8x64.Idx → Elt F .bf16) (v82 : FVec F S64x512 .bf16) (hv82 : isRow x 8 v82) {Q : _ → sProp 𝕄} :
    iprop((kS c x ∗ rowsP c 0 0 8 x ∗ rowsP c 1 0 8 x) ∗ (∀ r v, iprop(⌜isRow x 10 r⌝ ∗ kS c x ∗ rowsP c 0 0 10 x ∗ rowsP c 1 0 10 x -∗ Q ⟨r, v⟩)))
      ⊢ wp frame (wpE (defs₀ (F := F)) 𝒱₀ (c : Thread nD τ) none) Set.univ
          (k0_part12 (F := F) xM (Memref.isWhole_whole _) wqM (Memref.isWhole_whole _) woM (Memref.isWhole_whole _) kM (Memref.isWhole_whole _) vM (Memref.isWhole_whole _) oM (Memref.isWhole_whole _) kvM (Memref.isWhole_whole _) cc0_scratch1 cc0_scratch2 cc0_scratch3 cc0_scratch4 v82) Q := by
  simp only [k0_part12_eq_skeleton]; unfold k0_part12_skel
  simp only [Prog.lift, Prog.bind_op, Prog.bind_ret, Prog.pure_eq_ret]
  iintro ⟨⟨HS, H0, H1⟩, Hk⟩
  iapply (wp_rowLoad (d := 0) (kv := 0) (b := 8) (x := x) (by decide) rfl) $$ H0
  iintro %v83 H0
  iapply (wp_rowStore (d := 0) (kv := 0) (b := 8) (x := x) (by decide) rfl hv82) $$ H0
  iintro H0
  iapply (wp_rowLoad (d := 1) (kv := 0) (b := 8) (x := x) (by decide) rfl) $$ H1
  iintro %v86 H1
  iapply (wp_rowStore (d := 1) (kv := 0) (b := 8) (x := x) (by decide) rfl hv82) $$ H1
  iintro H1
  iapply wp_kLoad $$ HS
  iintro HS
  iapply (wp_rowLoad (d := 0) (kv := 0) (b := 9) (x := x) (by decide) rfl) $$ H0
  iintro %v92 H0
  iapply (wp_rowStore (d := 0) (kv := 0) (b := 9) (x := x) (by decide) rfl (row_eq x 9 1 1 (by decide) (by decide) rfl _ fun _ => rfl)) $$ H0
  iintro H0
  iapply (wp_rowLoad (d := 1) (kv := 0) (b := 9) (x := x) (by decide) rfl) $$ H1
  iintro %v95 H1
  iapply (wp_rowStore (d := 1) (kv := 0) (b := 9) (x := x) (by decide) rfl (row_eq x 9 1 1 (by decide) (by decide) rfl _ fun _ => rfl)) $$ H1
  iintro H1
  iapply wp_kLoad $$ HS
  iintro HS
  iapply (wp_rowLoad (d := 0) (kv := 0) (b := 10) (x := x) (by decide) rfl) $$ H0
  iintro %v101 H0
  rw [wp_ret]; imodintro
  iapply Hk
  isplitr; · ipureintro; exact (row_eq x 10 1 2 (by decide) (by decide) rfl _ fun _ => rfl)
  isplitl [HS]; · iexact HS
  isplitl [H0] <;> iassumption

/-- Rows 10 to 12 of the keys into the up slot, 10 and 11 into the down slot; row 12 is left in hand. -/
theorem part13 (c : Dev nD) (x : S2x512x8x64.Idx → Elt F .bf16) (v100 : FVec F S64x512 .bf16) (v101 : Vec F S1x1x1x1x64x512 .bf16) (hv100 : isRow x 10 v100) {Q : _ → sProp 𝕄} :
    iprop((kS c x ∗ rowsP c 0 0 10 x ∗ rowsP c 1 0 10 x) ∗ (∀ r, iprop(⌜isRow x 12 r⌝ ∗ kS c x ∗ rowsP c 0 0 13 x ∗ rowsP c 1 0 12 x -∗ Q r)))
      ⊢ wp frame (wpE (defs₀ (F := F)) 𝒱₀ (c : Thread nD τ) none) Set.univ
          (k0_part13 (F := F) xM (Memref.isWhole_whole _) wqM (Memref.isWhole_whole _) woM (Memref.isWhole_whole _) kM (Memref.isWhole_whole _) vM (Memref.isWhole_whole _) oM (Memref.isWhole_whole _) kvM (Memref.isWhole_whole _) cc0_scratch1 cc0_scratch2 cc0_scratch3 cc0_scratch4 v100 v101) Q := by
  simp only [k0_part13_eq_skeleton]; unfold k0_part13_skel
  simp only [Prog.lift, Prog.bind_op, Prog.bind_ret, Prog.pure_eq_ret]
  iintro ⟨⟨HS, H0, H1⟩, Hk⟩
  iapply (wp_rowStore (d := 0) (kv := 0) (b := 10) (x := x) (by decide) rfl hv100) $$ H0
  iintro H0
  iapply (wp_rowLoad (d := 1) (kv := 0) (b := 10) (x := x) (by decide) rfl) $$ H1
  iintro %v104 H1
  iapply (wp_rowStore (d := 1) (kv := 0) (b := 10) (x := x) (by decide) rfl hv100) $$ H1
  iintro H1
  iapply wp_kLoad $$ HS
  iintro HS
  iapply (wp_rowLoad (d := 0) (kv := 0) (b := 11) (x := x) (by decide) rfl) $$ H0
  iintro %v110 H0
  iapply (wp_rowStore (d := 0) (kv := 0) (b := 11) (x := x) (by decide) rfl (row_eq x 11 1 3 (by decide) (by decide) rfl _ fun _ => rfl)) $$ H0
  iintro H0
  iapply (wp_rowLoad (d := 1) (kv := 0) (b := 11) (x := x) (by decide) rfl) $$ H1
  iintro %v113 H1
  iapply (wp_rowStore (d := 1) (kv := 0) (b := 11) (x := x) (by decide) rfl (row_eq x 11 1 3 (by decide) (by decide) rfl _ fun _ => rfl)) $$ H1
  iintro H1
  iapply wp_kLoad $$ HS
  iintro HS
  iapply (wp_rowLoad (d := 0) (kv := 0) (b := 12) (x := x) (by decide) rfl) $$ H0
  iintro %v119 H0
  iapply (wp_rowStore (d := 0) (kv := 0) (b := 12) (x := x) (by decide) rfl (row_eq x 12 1 4 (by decide) (by decide) rfl _ fun _ => rfl)) $$ H0
  iintro H0
  rw [wp_ret]; imodintro
  iapply Hk
  isplitr; · ipureintro; exact ((row_eq x 12 1 4 (by decide) (by decide) rfl _ fun _ => rfl))
  isplitl [HS]; · iexact HS
  isplitl [H0] <;> iassumption

/-- Rows 13 and 14 of the keys into the up slot, 12 and 13 into the down slot; row 14 is left as it is to be stored. -/
theorem part14 (c : Dev nD) (x : S2x512x8x64.Idx → Elt F .bf16) (v118 : FVec F S64x512 .bf16) (hv118 : isRow x 12 v118) {Q : _ → sProp 𝕄} :
    iprop((kS c x ∗ rowsP c 0 0 13 x ∗ rowsP c 1 0 12 x) ∗ (∀ r, iprop(⌜r = rowOf x 14⌝ ∗ kS c x ∗ rowsP c 0 0 15 x ∗ rowsP c 1 0 14 x -∗ Q r)))
      ⊢ wp frame (wpE (defs₀ (F := F)) 𝒱₀ (c : Thread nD τ) none) Set.univ
          (k0_part14 (F := F) xM (Memref.isWhole_whole _) wqM (Memref.isWhole_whole _) woM (Memref.isWhole_whole _) kM (Memref.isWhole_whole _) vM (Memref.isWhole_whole _) oM (Memref.isWhole_whole _) kvM (Memref.isWhole_whole _) cc0_scratch1 cc0_scratch2 cc0_scratch3 cc0_scratch4 v118) Q := by
  simp only [k0_part14_eq_skeleton]; unfold k0_part14_skel
  simp only [Prog.lift, Prog.bind_op, Prog.bind_ret, Prog.pure_eq_ret]
  iintro ⟨⟨HS, H0, H1⟩, Hk⟩
  iapply (wp_rowLoad (d := 1) (kv := 0) (b := 12) (x := x) (by decide) rfl) $$ H1
  iintro %v122 H1
  iapply (wp_rowStore (d := 1) (kv := 0) (b := 12) (x := x) (by decide) rfl hv118) $$ H1
  iintro H1
  iapply wp_kLoad $$ HS
  iintro HS
  iapply (wp_rowLoad (d := 0) (kv := 0) (b := 13) (x := x) (by decide) rfl) $$ H0
  iintro %v128 H0
  iapply (wp_rowStore (d := 0) (kv := 0) (b := 13) (x := x) (by decide) rfl (row_eq x 13 1 5 (by decide) (by decide) rfl _ fun _ => rfl)) $$ H0
  iintro H0
  iapply (wp_rowLoad (d := 1) (kv := 0) (b := 13) (x := x) (by decide) rfl) $$ H1
  iintro %v131 H1
  iapply (wp_rowStore (d := 1) (kv := 0) (b := 13) (x := x) (by decide) rfl (row_eq x 13 1 5 (by decide) (by decide) rfl _ fun _ => rfl)) $$ H1
  iintro H1
  iapply wp_kLoad $$ HS
  iintro HS
  iapply (wp_rowLoad (d := 0) (kv := 0) (b := 14) (x := x) (by decide) rfl) $$ H0
  iintro %v137 H0
  iapply (wp_rowStore (d := 0) (kv := 0) (b := 14) (x := x) (by decide) rfl (row_eq x 14 1 6 (by decide) (by decide) rfl _ fun _ => rfl)) $$ H0
  iintro H0
  iapply (wp_rowLoad (d := 1) (kv := 0) (b := 14) (x := x) (by decide) rfl) $$ H1
  iintro %v140 H1
  rw [wp_ret]; imodintro
  iapply Hk
  isplitr; · ipureintro; exact (show isRow x 14 (k0_pay61 _) from (row_eq x 14 1 6 (by decide) (by decide) rfl _ fun _ => rfl))
  isplitl [HS]; · iexact HS
  isplitl [H0] <;> iassumption

end Cert.RingProof

end
-- ==== Proof.FillV.lean ====
/-
# Storing the V block

Each lemma below runs one part of the program: from the rows stored so far to the rows stored after it. What a part returns
for the next to store is a row of the same block.
-/
module

public import proofs.«01_k».proof.Proof.Rows

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Rows 0 and 1 of the values, in both slots; row 2 is left in hand. -/
theorem part17 (c : Dev nD) (x : S2x512x8x64.Idx → Elt F .bf16) (v183 : FVec F S64x512 .bf16) (hv183 : isRow x 0 v183) {Q : _ → sProp 𝕄} :
    iprop((vS c x ∗ rowsP c 0 1 0 x ∗ rowsP c 1 1 0 x) ∗ (∀ r v, iprop(⌜isRow x 2 r⌝ ∗ ⌜v = rowOf x 2⌝ ∗ vS c x ∗ rowsP c 0 1 2 x ∗ rowsP c 1 1 2 x -∗ Q ⟨r, v⟩)))
      ⊢ wp frame (wpE (defs₀ (F := F)) 𝒱₀ (c : Thread nD τ) none) Set.univ
          (k0_part17 (F := F) xM (Memref.isWhole_whole _) wqM (Memref.isWhole_whole _) woM (Memref.isWhole_whole _) kM (Memref.isWhole_whole _) vM (Memref.isWhole_whole _) oM (Memref.isWhole_whole _) kvM (Memref.isWhole_whole _) cc0_scratch1 cc0_scratch2 cc0_scratch3 cc0_scratch4 v183) Q := by
  simp only [k0_part17_eq_skeleton]; unfold k0_part17_skel
  simp only [Prog.lift, Prog.bind_op, Prog.bind_ret, Prog.pure_eq_ret]
  iintro ⟨⟨HS, H0, H1⟩, Hk⟩
  iapply (wp_rowLoad (d := 0) (kv := 1) (b := 0) (x := x) (by decide) rfl) $$ H0
  iintro %v184 H0
  iapply (wp_rowStore (d := 0) (kv := 1) (b := 0) (x := x) (by decide) rfl hv183) $$ H0
  iintro H0
  iapply (wp_rowLoad (d := 1) (kv := 1) (b := 0) (x := x) (by decide) rfl) $$ H1
  iintro %v187 H1
  iapply (wp_rowStore (d := 1) (kv := 1) (b := 0) (x := x) (by decide) rfl hv183) $$ H1
  iintro H1
  iapply wp_vLoad $$ HS
  iintro HS
  iapply (wp_rowLoad (d := 0) (kv := 1) (b := 1) (x := x) (by decide) rfl) $$ H0
  iintro %v193 H0
  iapply (wp_rowStore (d := 0) (kv := 1) (b := 1) (x := x) (by decide) rfl (row_eq x 1 0 1 (by decide) (by decide) rfl _ fun _ => rfl)) $$ H0
  iintro H0
  iapply (wp_rowLoad (d := 1) (kv := 1) (b := 1) (x := x) (by decide) rfl) $$ H1
  iintro %v196 H1
  iapply (wp_rowStore (d := 1) (kv := 1) (b := 1) (x := x) (by decide) rfl (row_eq x 1 0 1 (by decide) (by decide) rfl _ fun _ => rfl)) $$ H1
  iintro H1
  iapply wp_vLoad $$ HS
  iintro HS
  iapply (wp_rowLoad (d := 0) (kv := 1) (b := 2) (x := x) (by decide) rfl) $$ H0
  iintro %v202 H0
  rw [wp_ret]; imodintro
  iapply Hk
  isplitr; · ipureintro; exact (row_eq x 2 0 2 (by decide) (by decide) rfl _ fun _ => rfl)
  isplitr; · ipureintro; exact (show isRow x 2 (k0_pay73 _) from (row_eq x 2 0 2 (by decide) (by decide) rfl _ fun _ => rfl))
  isplitl [HS]; · iexact HS
  isplitl [H0] <;> iassumption

/-- Rows 2 to 4 of the values into the up slot, 2 and 3 into the down slot; row 4 is left in hand. -/
theorem part18 (c : Dev nD) (x : S2x512x8x64.Idx → Elt F .bf16) (v201 : FVec F S64x512 .bf16) (v204 : FVec F S1x1x1x1x64x512 .bf16) (hv201 : isRow x 2 v201) (hv204 : v204 = rowOf x 2) {Q : _ → sProp 𝕄} :
    iprop((vS c x ∗ rowsP c 0 1 2 x ∗ rowsP c 1 1 2 x) ∗ (∀ r, iprop(⌜isRow x 4 r⌝ ∗ vS c x ∗ rowsP c 0 1 5 x ∗ rowsP c 1 1 4 x -∗ Q r)))
      ⊢ wp frame (wpE (defs₀ (F := F)) 𝒱₀ (c : Thread nD τ) none) Set.univ
          (k0_part18 (F := F) xM (Memref.isWhole_whole _) wqM (Memref.isWhole_whole _) woM (Memref.isWhole_whole _) kM (Memref.isWhole_whole _) vM (Memref.isWhole_whole _) oM (Memref.isWhole_whole _) kvM (Memref.isWhole_whole _) cc0_scratch1 cc0_scratch2 cc0_scratch3 cc0_scratch4 v201 v204) Q := by
  simp only [k0_part18_eq_skeleton]; unfold k0_part18_skel
  simp only [Prog.lift, Prog.bind_op, Prog.bind_ret, Prog.pure_eq_ret]
  iintro ⟨⟨HS, H0, H1⟩, Hk⟩
  iapply (wp_rowStore (d := 0) (kv := 1) (b := 2) (x := x) (by decide) rfl hv204) $$ H0
  iintro H0
  iapply (wp_rowLoad (d := 1) (kv := 1) (b := 2) (x := x) (by decide) rfl) $$ H1
  iintro %v205 H1
  iapply (wp_rowStore (d := 1) (kv := 1) (b := 2) (x := x) (by decide) rfl hv201) $$ H1
  iintro H1
  iapply wp_vLoad $$ HS
  iintro HS
  iapply (wp_rowLoad (d := 0) (kv := 1) (b := 3) (x := x) (by decide) rfl) $$ H0
  iintro %v211 H0
  iapply (wp_rowStore (d := 0) (kv := 1) (b := 3) (x := x) (by decide) rfl (row_eq x 3 0 3 (by decide) (by decide) rfl _ fun _ => rfl)) $$ H0
  iintro H0
  iapply (wp_rowLoad (d := 1) (kv := 1) (b := 3) (x := x) (by decide) rfl) $$ H1
  iintro %v214 H1
  iapply (wp_rowStore (d := 1) (kv := 1) (b := 3) (x := x) (by decide) rfl (row_eq x 3 0 3 (by decide) (by decide) rfl _ fun _ => rfl)) $$ H1
  iintro H1
  iapply wp_vLoad $$ HS
  iintro HS
  iapply (wp_rowLoad (d := 0) (kv := 1) (b := 4) (x := x) (by decide) rfl) $$ H0
  iintro %v220 H0
  iapply (wp_rowStore (d := 0) (kv := 1) (b := 4) (x := x) (by decide) rfl (row_eq x 4 0 4 (by decide) (by decide) rfl _ fun _ => rfl)) $$ H0
  iintro H0
  rw [wp_ret]; imodintro
  iapply Hk
  isplitr; · ipureintro; exact ((row_eq x 4 0 4 (by decide) (by decide) rfl _ fun _ => rfl))
  isplitl [HS]; · iexact HS
  isplitl [H0] <;> iassumption

/-- The rows of values up to row 6, in both slots. -/
theorem part19 (c : Dev nD) (x : S2x512x8x64.Idx → Elt F .bf16) (v219 : FVec F S64x512 .bf16) (hv219 : isRow x 4 v219) {Q : _ → sProp 𝕄} :
    iprop((vS c x ∗ rowsP c 0 1 5 x ∗ rowsP c 1 1 4 x) ∗ ((vS c x ∗ rowsP c 0 1 7 x ∗ rowsP c 1 1 7 x) -∗ Q ⟨⟩))
      ⊢ wp frame (wpE (defs₀ (F := F)) 𝒱₀ (c : Thread nD τ) none) Set.univ
          (k0_part19 (F := F) xM (Memref.isWhole_whole _) wqM (Memref.isWhole_whole _) woM (Memref.isWhole_whole _) kM (Memref.isWhole_whole _) vM (Memref.isWhole_whole _) oM (Memref.isWhole_whole _) kvM (Memref.isWhole_whole _) cc0_scratch1 cc0_scratch2 cc0_scratch3 cc0_scratch4 v219) Q := by
  simp only [k0_part19_eq_skeleton]; unfold k0_part19_skel
  simp only [Prog.lift, Prog.bind_op, Prog.bind_ret, Prog.pure_eq_ret]
  iintro ⟨⟨HS, H0, H1⟩, Hk⟩
  iapply (wp_rowLoad (d := 1) (kv := 1) (b := 4) (x := x) (by decide) rfl) $$ H1
  iintro %v223 H1
  iapply (wp_rowStore (d := 1) (kv := 1) (b := 4) (x := x) (by decide) rfl hv219) $$ H1
  iintro H1
  iapply wp_vLoad $$ HS
  iintro HS
  iapply (wp_rowLoad (d := 0) (kv := 1) (b := 5) (x := x) (by decide) rfl) $$ H0
  iintro %v229 H0
  iapply (wp_rowStore (d := 0) (kv := 1) (b := 5) (x := x) (by decide) rfl (row_eq x 5 0 5 (by decide) (by decide) rfl _ fun _ => rfl)) $$ H0
  iintro H0
  iapply (wp_rowLoad (d := 1) (kv := 1) (b := 5) (x := x) (by decide) rfl) $$ H1
  iintro %v232 H1
  iapply (wp_rowStore (d := 1) (kv := 1) (b := 5) (x := x) (by decide) rfl (row_eq x 5 0 5 (by decide) (by decide) rfl _ fun _ => rfl)) $$ H1
  iintro H1
  iapply wp_vLoad $$ HS
  iintro HS
  iapply (wp_rowLoad (d := 0) (kv := 1) (b := 6) (x := x) (by decide) rfl) $$ H0
  iintro %v238 H0
  iapply (wp_rowStore (d := 0) (kv := 1) (b := 6) (x := x) (by decide) rfl (row_eq x 6 0 6 (by decide) (by decide) rfl _ fun _ => rfl)) $$ H0
  iintro H0
  iapply (wp_rowLoad (d := 1) (kv := 1) (b := 6) (x := x) (by decide) rfl) $$ H1
  iintro %v241 H1
  iapply (wp_rowStore (d := 1) (kv := 1) (b := 6) (x := x) (by decide) rfl (row_eq x 6 0 6 (by decide) (by decide) rfl _ fun _ => rfl)) $$ H1
  iintro H1
  rw [wp_ret]; imodintro
  iapply Hk
  isplitl [HS]; · iexact HS
  isplitl [H0] <;> iassumption

/-- Rows 7 and 8 of the values, in both slots; row 9 is left in hand. -/
theorem part20 (c : Dev nD) (x : S2x512x8x64.Idx → Elt F .bf16) {Q : _ → sProp 𝕄} :
    iprop((vS c x ∗ rowsP c 0 1 7 x ∗ rowsP c 1 1 7 x) ∗ (∀ r, iprop(⌜isRow x 9 r⌝ ∗ vS c x ∗ rowsP c 0 1 9 x ∗ rowsP c 1 1 9 x -∗ Q r)))
      ⊢ wp frame (wpE (defs₀ (F := F)) 𝒱₀ (c : Thread nD τ) none) Set.univ
          (k0_part20 (F := F) xM (Memref.isWhole_whole _) wqM (Memref.isWhole_whole _) woM (Memref.isWhole_whole _) kM (Memref.isWhole_whole _) vM (Memref.isWhole_whole _) oM (Memref.isWhole_whole _) kvM (Memref.isWhole_whole _) cc0_scratch1 cc0_scratch2 cc0_scratch3 cc0_scratch4) Q := by
  simp only [k0_part20_eq_skeleton]; unfold k0_part20_skel
  simp only [Prog.lift, Prog.bind_op, Prog.bind_ret, Prog.pure_eq_ret]
  iintro ⟨⟨HS, H0, H1⟩, Hk⟩
  iapply wp_vLoad $$ HS
  iintro HS
  iapply (wp_rowLoad (d := 0) (kv := 1) (b := 7) (x := x) (by decide) rfl) $$ H0
  iintro %v247 H0
  iapply (wp_rowStore (d := 0) (kv := 1) (b := 7) (x := x) (by decide) rfl (row_eq x 7 0 7 (by decide) (by decide) rfl _ fun _ => rfl)) $$ H0
  iintro H0
  iapply (wp_rowLoad (d := 1) (kv := 1) (b := 7) (x := x) (by decide) rfl) $$ H1
  iintro %v250 H1
  iapply (wp_rowStore (d := 1) (kv := 1) (b := 7) (x := x) (by decide) rfl (row_eq x 7 0 7 (by decide) (by decide) rfl _ fun _ => rfl)) $$ H1
  iintro H1
  iapply wp_vLoad $$ HS
  iintro HS
  iapply (wp_rowLoad (d := 0) (kv := 1) (b := 8) (x := x) (by decide) rfl) $$ H0
  iintro %v256 H0
  iapply (wp_rowStore (d := 0) (kv := 1) (b := 8) (x := x) (by decide) rfl (row_eq x 8 1 0 (by decide) (by decide) rfl _ fun _ => rfl)) $$ H0
  iintro H0
  iapply (wp_rowLoad (d := 1) (kv := 1) (b := 8) (x := x) (by decide) rfl) $$ H1
  iintro %v259 H1
  iapply (wp_rowStore (d := 1) (kv := 1) (b := 8) (x := x) (by decide) rfl (row_eq x 8 1 0 (by decide) (by decide) rfl _ fun _ => rfl)) $$ H1
  iintro H1
  iapply wp_vLoad $$ HS
  iintro HS
  rw [wp_ret]; imodintro
  iapply Hk
  isplitr; · ipureintro; exact ((row_eq x 9 1 1 (by decide) (by decide) rfl _ fun _ => rfl))
  isplitl [HS]; · iexact HS
  isplitl [H0] <;> iassumption

/-- Rows 9 and 10 of the values, in both slots; row 11 is left in hand. -/
theorem part21 (c : Dev nD) (x : S2x512x8x64.Idx → Elt F .bf16) (v264 : FVec F S64x512 .bf16) (hv264 : isRow x 9 v264) {Q : _ → sProp 𝕄} :
    iprop((vS c x ∗ rowsP c 0 1 9 x ∗ rowsP c 1 1 9 x) ∗ (∀ r, iprop(⌜isRow x 11 r⌝ ∗ vS c x ∗ rowsP c 0 1 11 x ∗ rowsP c 1 1 11 x -∗ Q r)))
      ⊢ wp frame (wpE (defs₀ (F := F)) 𝒱₀ (c : Thread nD τ) none) Set.univ
          (k0_part21 (F := F) xM (Memref.isWhole_whole _) wqM (Memref.isWhole_whole _) woM (Memref.isWhole_whole _) kM (Memref.isWhole_whole _) vM (Memref.isWhole_whole _) oM (Memref.isWhole_whole _) kvM (Memref.isWhole_whole _) cc0_scratch1 cc0_scratch2 cc0_scratch3 cc0_scratch4 v264) Q := by
  simp only [k0_part21_eq_skeleton]; unfold k0_part21_skel
  simp only [Prog.lift, Prog.bind_op, Prog.bind_ret, Prog.pure_eq_ret]
  iintro ⟨⟨HS, H0, H1⟩, Hk⟩
  iapply (wp_rowLoad (d := 0) (kv := 1) (b := 9) (x := x) (by decide) rfl) $$ H0
  iintro %v265 H0
  iapply (wp_rowStore (d := 0) (kv := 1) (b := 9) (x := x) (by decide) rfl hv264) $$ H0
  iintro H0
  iapply (wp_rowLoad (d := 1) (kv := 1) (b := 9) (x := x) (by decide) rfl) $$ H1
  iintro %v268 H1
  iapply (wp_rowStore (d := 1) (kv := 1) (b := 9) (x := x) (by decide) rfl hv264) $$ H1
  iintro H1
  iapply wp_vLoad $$ HS
  iintro HS
  iapply (wp_rowLoad (d := 0) (kv := 1) (b := 10) (x := x) (by decide) rfl) $$ H0
  iintro %v274 H0
  iapply (wp_rowStore (d := 0) (kv := 1) (b := 10) (x := x) (by decide) rfl (row_eq x 10 1 2 (by decide) (by decide) rfl _ fun _ => rfl)) $$ H0
  iintro H0
  iapply (wp_rowLoad (d := 1) (kv := 1) (b := 10) (x := x) (by decide) rfl) $$ H1
  iintro %v277 H1
  iapply (wp_rowStore (d := 1) (kv := 1) (b := 10) (x := x) (by decide) rfl (row_eq x 10 1 2 (by decide) (by decide) rfl _ fun _ => rfl)) $$ H1
  iintro H1
  iapply wp_vLoad $$ HS
  iintro HS
  rw [wp_ret]; imodintro
  iapply Hk
  isplitr; · ipureintro; exact ((row_eq x 11 1 3 (by decide) (by decide) rfl _ fun _ => rfl))
  isplitl [HS]; · iexact HS
  isplitl [H0] <;> iassumption

/-- Rows 11 to 13 of the values into the up slot, 11 and 12 into the down slot; row 13 is left in hand. -/
theorem part22 (c : Dev nD) (x : S2x512x8x64.Idx → Elt F .bf16) (v282 : FVec F S64x512 .bf16) (hv282 : isRow x 11 v282) {Q : _ → sProp 𝕄} :
    iprop((vS c x ∗ rowsP c 0 1 11 x ∗ rowsP c 1 1 11 x) ∗ (∀ r, iprop(⌜isRow x 13 r⌝ ∗ vS c x ∗ rowsP c 0 1 14 x ∗ rowsP c 1 1 13 x -∗ Q r)))
      ⊢ wp frame (wpE (defs₀ (F := F)) 𝒱₀ (c : Thread nD τ) none) Set.univ
          (k0_part22 (F := F) xM (Memref.isWhole_whole _) wqM (Memref.isWhole_whole _) woM (Memref.isWhole_whole _) kM (Memref.isWhole_whole _) vM (Memref.isWhole_whole _) oM (Memref.isWhole_whole _) kvM (Memref.isWhole_whole _) cc0_scratch1 cc0_scratch2 cc0_scratch3 cc0_scratch4 v282) Q := by
  simp only [k0_part22_eq_skeleton]; unfold k0_part22_skel
  simp only [Prog.lift, Prog.bind_op, Prog.bind_ret, Prog.pure_eq_ret]
  iintro ⟨⟨HS, H0, H1⟩, Hk⟩
  iapply (wp_rowLoad (d := 0) (kv := 1) (b := 11) (x := x) (by decide) rfl) $$ H0
  iintro %v283 H0
  iapply (wp_rowStore (d := 0) (kv := 1) (b := 11) (x := x) (by decide) rfl hv282) $$ H0
  iintro H0
  iapply (wp_rowLoad (d := 1) (kv := 1) (b := 11) (x := x) (by decide) rfl) $$ H1
  iintro %v286 H1
  iapply (wp_rowStore (d := 1) (kv := 1) (b := 11) (x := x) (by decide) rfl hv282) $$ H1
  iintro H1
  iapply wp_vLoad $$ HS
  iintro HS
  iapply (wp_rowLoad (d := 0) (kv := 1) (b := 12) (x := x) (by decide) rfl) $$ H0
  iintro %v292 H0
  iapply (wp_rowStore (d := 0) (kv := 1) (b := 12) (x := x) (by decide) rfl (row_eq x 12 1 4 (by decide) (by decide) rfl _ fun _ => rfl)) $$ H0
  iintro H0
  iapply (wp_rowLoad (d := 1) (kv := 1) (b := 12) (x := x) (by decide) rfl) $$ H1
  iintro %v295 H1
  iapply (wp_rowStore (d := 1) (kv := 1) (b := 12) (x := x) (by decide) rfl (row_eq x 12 1 4 (by decide) (by decide) rfl _ fun _ => rfl)) $$ H1
  iintro H1
  iapply wp_vLoad $$ HS
  iintro HS
  iapply (wp_rowLoad (d := 0) (kv := 1) (b := 13) (x := x) (by decide) rfl) $$ H0
  iintro %v301 H0
  iapply (wp_rowStore (d := 0) (kv := 1) (b := 13) (x := x) (by decide) rfl (row_eq x 13 1 5 (by decide) (by decide) rfl _ fun _ => rfl)) $$ H0
  iintro H0
  rw [wp_ret]; imodintro
  iapply Hk
  isplitr; · ipureintro; exact ((row_eq x 13 1 5 (by decide) (by decide) rfl _ fun _ => rfl))
  isplitl [HS]; · iexact HS
  isplitl [H0] <;> iassumption

/-- Rows 14 and 15 of the values into the up slot, 13 and 14 into the down slot; row 15 is left in hand. -/
theorem part23 (c : Dev nD) (x : S2x512x8x64.Idx → Elt F .bf16) (v300 : FVec F S64x512 .bf16) (hv300 : isRow x 13 v300) {Q : _ → sProp 𝕄} :
    iprop((vS c x ∗ rowsP c 0 1 14 x ∗ rowsP c 1 1 13 x) ∗ (∀ r, iprop(⌜isRow x 15 r⌝ ∗ vS c x ∗ rowsP c 0 1 16 x ∗ rowsP c 1 1 15 x -∗ Q r)))
      ⊢ wp frame (wpE (defs₀ (F := F)) 𝒱₀ (c : Thread nD τ) none) Set.univ
          (k0_part23 (F := F) xM (Memref.isWhole_whole _) wqM (Memref.isWhole_whole _) woM (Memref.isWhole_whole _) kM (Memref.isWhole_whole _) vM (Memref.isWhole_whole _) oM (Memref.isWhole_whole _) kvM (Memref.isWhole_whole _) cc0_scratch1 cc0_scratch2 cc0_scratch3 cc0_scratch4 v300) Q := by
  simp only [k0_part23_eq_skeleton]; unfold k0_part23_skel
  simp only [Prog.lift, Prog.bind_op, Prog.bind_ret, Prog.pure_eq_ret]
  iintro ⟨⟨HS, H0, H1⟩, Hk⟩
  iapply (wp_rowLoad (d := 1) (kv := 1) (b := 13) (x := x) (by decide) rfl) $$ H1
  iintro %v304 H1
  iapply (wp_rowStore (d := 1) (kv := 1) (b := 13) (x := x) (by decide) rfl hv300) $$ H1
  iintro H1
  iapply wp_vLoad $$ HS
  iintro HS
  iapply (wp_rowLoad (d := 0) (kv := 1) (b := 14) (x := x) (by decide) rfl) $$ H0
  iintro %v310 H0
  iapply (wp_rowStore (d := 0) (kv := 1) (b := 14) (x := x) (by decide) rfl (row_eq x 14 1 6 (by decide) (by decide) rfl _ fun _ => rfl)) $$ H0
  iintro H0
  iapply (wp_rowLoad (d := 1) (kv := 1) (b := 14) (x := x) (by decide) rfl) $$ H1
  iintro %v313 H1
  iapply (wp_rowStore (d := 1) (kv := 1) (b := 14) (x := x) (by decide) rfl (row_eq x 14 1 6 (by decide) (by decide) rfl _ fun _ => rfl)) $$ H1
  iintro H1
  iapply wp_vLoad $$ HS
  iintro HS
  iapply (wp_rowLoad (d := 0) (kv := 1) (b := 15) (x := x) (by decide) rfl) $$ H0
  iintro %v319 H0
  iapply (wp_rowStore (d := 0) (kv := 1) (b := 15) (x := x) (by decide) rfl (row_eq x 15 1 7 (by decide) (by decide) rfl _ fun _ => rfl)) $$ H0
  iintro H0
  iapply (wp_rowLoad (d := 1) (kv := 1) (b := 15) (x := x) (by decide) rfl) $$ H1
  iintro %v322 H1
  rw [wp_ret]; imodintro
  iapply Hk
  isplitr; · ipureintro; exact ((row_eq x 15 1 7 (by decide) (by decide) rfl _ fun _ => rfl))
  isplitl [HS]; · iexact HS
  isplitl [H0] <;> iassumption

end Cert.RingProof

end
-- ==== Proof.Prologue.lean ====
/-
# The barrier and the first hops

The barrier hands each neighbour the slots its first transfers land in; the first hop of each direction follows once the
device has stored its own K (then V) block in both directions' slot 0.
-/
module

public import proofs.«01_k».proof.Proof.Hops
public import proofs.«01_k».proof.Proof.FillK
public import proofs.«01_k».proof.Proof.FillV

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The barrier -/

/-- What `c` owes at launch: every receive it will bring about and a unit to each neighbour's barrier. -/
def O₁ (c : Dev nD) : CellTallies nD τ sig Unit := owedK c Finset.univ + tallyAt (barCell (nxt c)) () 1
/-- What device `c` owes at launch: its transfers' landings and both signals. -/
def O₀ (c : Dev nD) : CellTallies nD τ sig Unit := O₁ c + tallyAt (barCell (prv c)) () 1

/-- The barrier's part of the launch state: `c`'s own round, the two units it signals, and the credit it waits for. -/
def barG (c : Dev nD) : sProp 𝕄 :=
  iprop(atPos ER (barCell c) 0 ∅ 0 ∗ dutyTok ER (barCell (prv c)) 0 false ∗ dutyTok ER (barCell (nxt c)) 0 true)

/-- The state of the protocol at launch. -/
def startSt (c : Dev nD) : sProp 𝕄 :=
  iprop(hopG c Finset.univ Finset.univ ∗ barG c ∗ cred (tallyAt (barCell c) () 2) ∗ ∃ Wt, owes (c : Thread nD τ) (O₀ c) Wt)

/-- At the start every hop is still to be started. -/
theorem Df_zero : Df (q4 0 0 0 0) = Finset.univ := by decide
/-- At the start every cell is still to be waited on. -/
theorem Af_zero : Af (q4 0 0 0 0) (q4 0 0 0 0) = Finset.univ := by decide

/-- The transfers' landings lie above the barrier's level. -/
theorem above_bar (c : Dev nD) : Above 1 (owedK c Finset.univ) := by
  unfold owedK
  refine Above.sum _ _ fun j hj => Above.tally _ _ _ ?_
  rw [lv_k, if_pos (Finset.mem_filter.mp hj).2]; omega

/-- The barrier: two signals, which hand each neighbour the slots it will land in first, and the wait that brings the
    neighbours' own. -/
theorem wp_barrier (K : Dev nD × Option (Fin 60) → ℕ) (c n1 n2 : Dev nD) (h1 : n1 = prv c) (h2 : n2 = nxt c)
    {α : Type} {Q : α → sProp 𝕄} {k : PUnit → Prog (TpuEff nD τ sig (Elt F) Λ₀ .tc) α} :
    recs m ρ K ⊢ iprop(levAts L lv -∗ startSt c -∗ slotB c 0 1 -∗ slotB c 0 2 -∗ slotB c 1 1
      -∗ (stt c (q4 0 0 0 0) (q4 0 0 0 0) (q4 0 0 0 0) -∗ semVal (barCell c) 0 -∗ slotB (nxt c) 0 1 -∗ slotB (nxt c) 0 2 -∗ slotB (prv c) 1 1
          -∗ wp frame (wpE (defs₀ (F := F)) 𝒱₀ (c : Thread nD τ) none) Set.univ (k ⟨⟩) Q)
      -∗ wp frame (wpE (defs₀ (F := F)) 𝒱₀ (c : Thread nD τ) none) Set.univ
        (.op (.semSignal (Dev.tc n1 : Thread nD τ) barS (1#32).toNat) fun _ => .op (.semSignal (Dev.tc n2 : Thread nD τ) barS (1#32).toNat) fun _ =>
          .op (.semWait barS (2#32).toNat) k) Q) := by
  subst h1 h2
  iintro #HR #Hl Hst H1 H2 H3 Hk
  unfold startSt barG
  icases Hst with ⟨HG, ⟨Hat, Ht1, Ht2⟩, Hcr, ⟨%Wt, HO⟩⟩
  iapply (Rounds.wp_signal 𝒱₀ ER (ringRd m ρ) (c : Thread nD τ) none (dst := (prv c : Thread nD τ)) (κ := K (prv c, none))
      (d := false) (by rw [duties_bar]; exact Finset.mem_univ _) ((amount_bar m ρ (prv c) false).trans (by decide)) () (O₁ c) rfl)
    $$ [HO Ht1 H1 H2]
  · isplitr; · iapply (inv_at m ρ K (prv c, none)); iexact HR
    isplitl [HO]; · iexact HO
    isplitl [Ht1]; · iexact Ht1
    isplitl
    · rw [payload_bar]; unfold barPay; rw [if_neg Bool.false_ne_true, nxt_prv]
      isplitl [H1] <;> iassumption
    · iapply (reached_at m ρ K (prv c, none)); iexact HR
  iintro HO
  unfold O₁
  iapply (Rounds.wp_signal 𝒱₀ ER (ringRd m ρ) (c : Thread nD τ) none (dst := (nxt c : Thread nD τ)) (κ := K (nxt c, none))
      (d := true) (by rw [duties_bar]; exact Finset.mem_univ _) ((amount_bar m ρ (nxt c) true).trans (by decide)) () (owedK c Finset.univ) rfl)
    $$ [HO Ht2 H3]
  · isplitr; · iapply (inv_at m ρ K (nxt c, none)); iexact HR
    isplitl [HO]; · iexact HO
    isplitl [Ht2]; · iexact Ht2
    isplitl
    · rw [payload_bar]; unfold barPay; rw [if_pos rfl, prv_nxt]
      iexact H3
    · iapply (reached_at m ρ K (nxt c, none)); iexact HR
  iintro HO
  iapply (Rounds.wp_wait_rest_token 𝒱₀ ER (ringRd m ρ) (c : Thread nD τ) none (κ := K (c, none))
      (wpE_semWait_eq 𝒱₀ (c : Thread nD τ) none Set.univ) (Set.mem_univ _) () (O := owedK c Finset.univ) (W := Wt) (R := 0) (m := 0) (T := ∅)
      (by rw [expect_bar]; decide)) $$ [Hcr HO Hat]
  · isplitr; · iapply (inv_at m ρ K (c, none)); iexact HR
    isplitl [Hcr]; · iexact Hcr
    isplitl [HO]; · iexact HO
    isplitr; · iapply (mayWait_above (F := F) c _ 1 (le_of_eq (lv_bar c ())) _ (above_bar c)); iexact Hl
    iexact Hat
  iintro ⟨HO, Hat, -, Hpay⟩
  imod (Rounds.cell_close ER (ringRd m ρ) (Set.mem_univ (K (c, none))) (fun h => h) (R := 0 + 1) (duties_later m ρ (barCell c))) $$ [Hat] with Hz
  · isplitr; · iapply (inv_at m ρ K (c, none)); iexact HR
    iexact Hat
  ihave Hp := (Entails.of_eq (rest_bar m ρ c)) $$ Hpay
  unfold barPay
  rw [if_neg Bool.false_ne_true, if_pos rfl]
  icases Hp with ⟨⟨P1, P2⟩, P3⟩
  iapply Hk $$ [HG HO] Hz P1 P2 P3
  unfold stt hopSt
  rw [Df_zero, Af_zero]
  isplitl [HG]; · iexact HG
  iexists _; iexact HO

/-! ## The staged blocks of the query side -/

/-- The staged inputs of the queries on device `c`. -/
def xS (c : Dev nD) (x : S2x256x768.Idx → Elt F .bf16) : sProp 𝕄 := xM.view.loc (c : Thread nD τ) ↦[Finset.univ]{fullShare} x
/-- The staged query projection on device `c`. -/
def wqS (c : Dev nD) (x : S768x512.Idx → Elt F .bf16) : sProp 𝕄 := wqM.view.loc (c : Thread nD τ) ↦[Finset.univ]{fullShare} x
/-- The staged output projection on device `c`. -/
def woS (c : Dev nD) (x : S512x768.Idx → Elt F .bf16) : sProp 𝕄 := woM.view.loc (c : Thread nD τ) ↦[Finset.univ]{fullShare} x

/-- A load of the inputs of the queries reads them whole. -/
theorem wp_xLoad {c : Dev nD} {x : S2x256x768.Idx → Elt F .bf16} {inb : ∀ a, (![0, 0, 0] : Fin 3 → ℕ) a + S2x256x768.size a ≤ S2x256x768.size a}
    {hl : xM.view.LoadsAt (Rect.unit (s := S2x256x768) ![0, 0, 0] S2x256x768.size inb).toLoadRect}
    {α : Type} {Q : α → sProp 𝕄} {k : (S2x256x768.Idx → Elt F .bf16) → Prog (TpuEff nD τ sig (Elt F) Λ₀ .tc) α} :
    (xS c x : sProp 𝕄)
      ⊢ iprop((xS c x -∗ wp frame (wpE (defs₀ (F := F)) 𝒱₀ (c : Thread nD τ) none) Set.univ (k x) Q)
        -∗ wp frame (wpE (defs₀ (F := F)) 𝒱₀ (c : Thread nD τ) none) Set.univ (.op (.load xM (Rect.unit (s := S2x256x768) ![0, 0, 0] S2x256x768.size inb).toLoadRect hl) k) Q) := by
  have hv : (xM.access (Rect.unit (s := S2x256x768) ![0, 0, 0] S2x256x768.size inb)).read (Elt F) x = x := by
    funext j
    refine congrArg x (funext fun a => Fin.ext ?_)
    fin_cases a
    · exact Nat.zero_add _ |>.trans (Nat.one_mul _)
    · exact Nat.zero_add _ |>.trans (Nat.one_mul _)
    · exact Nat.zero_add _ |>.trans (Nat.one_mul _)
  iintro H Hk
  unfold xS
  iapply (wp_load_rect 𝒱₀ (c : Thread nD τ) none Set.univ (m := xM) (r := Rect.unit (s := S2x256x768) ![0, 0, 0] S2x256x768.size inb) (S := Finset.univ) (f := x) (Finset.subset_univ _)) $$ H
  rw [hv]
  iintro H
  iapply Hk
  iexact H

/-- A load of the query projection reads it whole. -/
theorem wp_wqLoad {c : Dev nD} {x : S768x512.Idx → Elt F .bf16} {inb : ∀ a, (![0, 0] : Fin 2 → ℕ) a + S768x512.size a ≤ S768x512.size a}
    {hl : wqM.view.LoadsAt (Rect.unit (s := S768x512) ![0, 0] S768x512.size inb).toLoadRect}
    {α : Type} {Q : α → sProp 𝕄} {k : (S768x512.Idx → Elt F .bf16) → Prog (TpuEff nD τ sig (Elt F) Λ₀ .tc) α} :
    (wqS c x : sProp 𝕄)
      ⊢ iprop((wqS c x -∗ wp frame (wpE (defs₀ (F := F)) 𝒱₀ (c : Thread nD τ) none) Set.univ (k x) Q)
        -∗ wp frame (wpE (defs₀ (F := F)) 𝒱₀ (c : Thread nD τ) none) Set.univ (.op (.load wqM (Rect.unit (s := S768x512) ![0, 0] S768x512.size inb).toLoadRect hl) k) Q) := by
  have hv : (wqM.access (Rect.unit (s := S768x512) ![0, 0] S768x512.size inb)).read (Elt F) x = x := by
    funext j
    refine congrArg x (funext fun a => Fin.ext ?_)
    fin_cases a
    · exact Nat.zero_add _ |>.trans (Nat.one_mul _)
    · exact Nat.zero_add _ |>.trans (Nat.one_mul _)
  iintro H Hk
  unfold wqS
  iapply (wp_load_rect 𝒱₀ (c : Thread nD τ) none Set.univ (m := wqM) (r := Rect.unit (s := S768x512) ![0, 0] S768x512.size inb) (S := Finset.univ) (f := x) (Finset.subset_univ _)) $$ H
  rw [hv]
  iintro H
  iapply Hk
  iexact H

/-- A load of the output projection reads it whole. -/
theorem wp_woLoad {c : Dev nD} {x : S512x768.Idx → Elt F .bf16} {inb : ∀ a, (![0, 0] : Fin 2 → ℕ) a + S512x768.size a ≤ S512x768.size a}
    {hl : woM.view.LoadsAt (Rect.unit (s := S512x768) ![0, 0] S512x768.size inb).toLoadRect}
    {α : Type} {Q : α → sProp 𝕄} {k : (S512x768.Idx → Elt F .bf16) → Prog (TpuEff nD τ sig (Elt F) Λ₀ .tc) α} :
    (woS c x : sProp 𝕄)
      ⊢ iprop((woS c x -∗ wp frame (wpE (defs₀ (F := F)) 𝒱₀ (c : Thread nD τ) none) Set.univ (k x) Q)
        -∗ wp frame (wpE (defs₀ (F := F)) 𝒱₀ (c : Thread nD τ) none) Set.univ (.op (.load woM (Rect.unit (s := S512x768) ![0, 0] S512x768.size inb).toLoadRect hl) k) Q) := by
  have hv : (woM.access (Rect.unit (s := S512x768) ![0, 0] S512x768.size inb)).read (Elt F) x = x := by
    funext j
    refine congrArg x (funext fun a => Fin.ext ?_)
    fin_cases a
    · exact Nat.zero_add _ |>.trans (Nat.one_mul _)
    · exact Nat.zero_add _ |>.trans (Nat.one_mul _)
  iintro H Hk
  unfold woS
  iapply (wp_load_rect 𝒱₀ (c : Thread nD τ) none Set.univ (m := woM) (r := Rect.unit (s := S512x768) ![0, 0] S512x768.size inb) (S := Finset.univ) (f := x) (Finset.subset_univ _)) $$ H
  rw [hv]
  iintro H
  iapply Hk
  iexact H

/-! ## The parts -/

/-- Slot 0 with all sixteen rows of keys holds the device's own key block. -/
theorem rows_contK (c : Dev nD) (d : Fin 2) : (rowsP c d 0 16 (kstg m ρ c) : sProp 𝕄) ⊢ slotP c d 0 0 fullShare (cont m ρ (srcAt d c 0) 0) := by
  rw [srcAt_zero, show cont m ρ c 0 = kvBuf (kstg m ρ c) from if_pos rfl]; exact rows_done c d 0 _
/-- Slot 0 with all sixteen rows of values holds the device's own value block. -/
theorem rows_contV (c : Dev nD) (d : Fin 2) : (rowsP c d 1 16 (vstg m ρ c) : sProp 𝕄) ⊢ slotP c d 0 1 fullShare (cont m ρ (srcAt d c 0) 1) := by
  rw [srcAt_zero, show cont m ρ c 1 = kvBuf (vstg m ρ c) from if_neg (by decide)]; exact rows_done c d 1 _

/-- The last K rows, and the barrier. -/
theorem part15 (K : Dev nD × Option (Fin 60) → ℕ) (c : Dev nD) (v5 v7 : BitVec 32) (v142 : FVec F S1x1x1x1x64x512 .bf16) (hv : v142 = rowOf (kstg m ρ c) 14) {Q : _ → sProp 𝕄} :
    recs m ρ K ⊢ iprop(levAts L lv -∗ startSt c -∗ slotB c 0 1 -∗ slotB c 0 2 -∗ slotB c 1 1
      -∗ kS c (kstg m ρ c) -∗ rowsP c 0 0 15 (kstg m ρ c) -∗ rowsP c 1 0 14 (kstg m ρ c)
      -∗ (∀ r, stt c (q4 0 0 0 0) (q4 0 0 0 0) (q4 0 0 0 0) -∗ semVal (barCell c) 0 -∗ slotB (nxt c) 0 1 -∗ slotB (nxt c) 0 2 -∗ slotB (prv c) 1 1
          -∗ kS c (kstg m ρ c) -∗ slotP c 0 0 0 fullShare (cont m ρ (srcAt 0 c 0) 0) -∗ slotP c 1 0 0 fullShare (cont m ρ (srcAt 1 c 0) 0) -∗ Q r)
      -∗ wp frame (wpE (defs₀ (F := F)) 𝒱₀ (c : Thread nD τ) none) Set.univ (k0_part15 (F := F) xM (Memref.isWhole_whole _) wqM (Memref.isWhole_whole _) woM (Memref.isWhole_whole _) kM (Memref.isWhole_whole _) vM (Memref.isWhole_whole _) oM (Memref.isWhole_whole _) kvM (Memref.isWhole_whole _) cc0_scratch1 cc0_scratch2 cc0_scratch3 cc0_scratch4 c v5 v7 v142) Q) := by
  simp only [k0_part15_eq_skeleton]; unfold k0_part15_skel
  simp only [semSignalWord, semWaitWord, Prog.lift, Prog.bind_op, Prog.bind_ret, Prog.pure_eq_ret]
  iintro #HR #Hl Hst S1 S2 S3 HS H0 H1 Hk
  iapply (wp_rowStore (d := 1) (kv := 0) (b := 14) (x := kstg m ρ c) (by decide) rfl hv) $$ H1
  iintro H1
  iapply wp_kLoad $$ HS
  iintro HS
  iapply (wp_rowLoad (d := 0) (kv := 0) (b := 15) (x := kstg m ρ c) (by decide) rfl) $$ H0
  iintro %v146 H0
  iapply (wp_rowStore (d := 0) (kv := 0) (b := 15) (x := kstg m ρ c) (by decide) rfl (row_eq (kstg m ρ c) 15 1 7 (by decide) (by decide) rfl _ fun _ => rfl)) $$ H0
  iintro H0
  iapply (wp_rowLoad (d := 1) (kv := 0) (b := 15) (x := kstg m ρ c) (by decide) rfl) $$ H1
  iintro %v149 H1
  iapply (wp_rowStore (d := 1) (kv := 0) (b := 15) (x := kstg m ρ c) (by decide) rfl (row_eq (kstg m ρ c) 15 1 7 (by decide) (by decide) rfl _ fun _ => rfl)) $$ H1
  iintro H1
  iapply (wp_barrier m ρ K c _ _ (dev1_eq c) (dev2_eq c)) $$ HR Hl Hst S1 S2 S3
  iintro Hst Hz P1 P2 P3
  ihave H0 := (rows_contK m ρ c 0) $$ H0
  ihave H1 := (rows_contK m ρ c 1) $$ H1
  rw [wp_ret]; imodintro
  iapply Hk $$ %_ Hst Hz P1 P2 P3 HS H0 H1

/-- The first hops of K. -/
theorem part16 (K : Dev nD × Option (Fin 60) → ℕ) (c : Dev nD) (v5 v159 : BitVec 32) {Q : _ → sProp 𝕄} :
    recs m ρ K ⊢ iprop(stt c (q4 0 0 0 0) (q4 0 0 0 0) (q4 0 0 0 0) -∗ slotP c 0 0 0 fullShare (cont m ρ (srcAt 0 c 0) 0) -∗ slotP c 1 0 0 fullShare (cont m ρ (srcAt 1 c 0) 0)
      -∗ slotE (nxt c) 0 1 0 -∗ slotE (prv c) 1 1 0 -∗ slotB c 1 2 -∗ vS c (vstg m ρ c)
      -∗ (∀ r, ⌜isRow (vstg m ρ c) 0 r⌝ -∗ stt c (q4 1 1 0 0) (q4 0 0 0 0) (q4 0 0 0 0) -∗ slotP c 0 0 0 fullShare.left (cont m ρ (srcAt 0 c 0) 0)
          -∗ slotP c 1 0 0 fullShare.left (cont m ρ (srcAt 1 c 0) 0) -∗ vS c (vstg m ρ c) -∗ Q r)
      -∗ wp frame (wpE (defs₀ (F := F)) 𝒱₀ (c : Thread nD τ) none) Set.univ (k0_part16 (F := F) xM (Memref.isWhole_whole _) wqM (Memref.isWhole_whole _) woM (Memref.isWhole_whole _) kM (Memref.isWhole_whole _) vM (Memref.isWhole_whole _) oM (Memref.isWhole_whole _) kvM (Memref.isWhole_whole _) cc0_scratch1 cc0_scratch2 cc0_scratch3 cc0_scratch4 c v5 v159) Q) := by
  simp only [k0_part16_eq_skeleton]; unfold k0_part16_skel
  simp only [Prog.lift, Prog.bind_op, Prog.bind_ret, Prog.pure_eq_ret]
  iintro #HR Hst H0 H1 E0 E1 B HS Hk
  ihave H0 := (slotP_halves c 0 0 0 _).1 $$ H0
  icases H0 with ⟨L0, R0⟩
  ihave H1 := (slotP_halves c 1 0 0 _).1 $$ H1
  icases H1 with ⟨L1, R1⟩
  ihave G := (give00 c 0 (by decide)) $$ B
  iapply (wp_hop m ρ K c _ (nxt c) 0 0 0 1 rfl (by decide) (dev3_eq c) rfl off1_0 off1_1 (cwS_eq 0 0 (by decide) rfl) (cwR_eq 0 0 (by decide) rfl) (f' := q4 1 0 0 0) (bump00 0 0 0 0) (le_refl _)) $$ HR Hst R0 E0 G
  iintro Hst
  iapply (wp_hop m ρ K c _ (prv c) 1 0 0 1 rfl (by decide) (dev4_eq c) rfl off2_0 off2_1 (ccwS_eq 0 0 (by decide) rfl) (ccwR_eq 0 0 (by decide) rfl) (f' := q4 1 1 0 0) (bump10 1 0 0 0) (le_refl _)) $$ HR Hst R1 E1 []
  · iapply (give10 c 0); iempintro
  iintro Hst
  iapply wp_vLoad $$ HS
  iintro HS
  rw [wp_ret]; imodintro
  iapply Hk $$ %_ [] Hst L0 L1 HS
  ipureintro; exact row_eq (vstg m ρ c) 0 0 0 (by decide) (by decide) rfl _ fun _ => rfl

/-- The last V row, and the first up hop of V. -/
theorem part24 (K : Dev nD × Option (Fin 60) → ℕ) (c : Dev nD) (v5 v7 : BitVec 32) (v318 : FVec F S64x512 .bf16) (hv : isRow (vstg m ρ c) 15 v318) {Q : _ → sProp 𝕄} :
    recs m ρ K ⊢ iprop(stt c (q4 1 1 0 0) (q4 0 0 0 0) (q4 0 0 0 0) -∗ rowsP c 0 1 16 (vstg m ρ c) -∗ rowsP c 1 1 15 (vstg m ρ c)
      -∗ slotE (nxt c) 0 1 1
      -∗ (stt c (q4 1 1 1 0) (q4 0 0 0 0) (q4 0 0 0 0) -∗ slotP c 0 0 1 fullShare.left (cont m ρ (srcAt 0 c 0) 1)
          -∗ slotP c 1 0 1 fullShare (cont m ρ (srcAt 1 c 0) 1) -∗ Q ⟨⟩)
      -∗ wp frame (wpE (defs₀ (F := F)) 𝒱₀ (c : Thread nD τ) none) Set.univ (k0_part24 (F := F) xM (Memref.isWhole_whole _) wqM (Memref.isWhole_whole _) woM (Memref.isWhole_whole _) kM (Memref.isWhole_whole _) vM (Memref.isWhole_whole _) oM (Memref.isWhole_whole _) kvM (Memref.isWhole_whole _) cc0_scratch1 cc0_scratch2 cc0_scratch3 cc0_scratch4 c v5 v7 v318) Q) := by
  simp only [k0_part24_eq_skeleton]; unfold k0_part24_skel
  simp only [Prog.lift, Prog.bind_op, Prog.bind_ret, Prog.pure_eq_ret]
  iintro #HR Hst H0 H1 E0 Hk
  iapply (wp_rowStore (d := 1) (kv := 1) (b := 15) (x := vstg m ρ c) (by decide) rfl hv) $$ H1
  iintro H1
  ihave H0 := (rows_contV m ρ c 0) $$ H0
  ihave H1 := (rows_contV m ρ c 1) $$ H1
  ihave H0 := (slotP_halves c 0 0 1 _).1 $$ H0
  icases H0 with ⟨L0, R0⟩
  iapply (wp_hop m ρ K c _ (nxt c) 0 1 0 1 rfl (by decide) (dev5_eq c) rfl off3_0 off3_1 (cwS_eq 1 0 (by decide) rfl) (cwR_eq 1 0 (by decide) rfl) (f' := q4 1 1 1 0) (bump01 1 1 0 0) (le_refl _)) $$ HR Hst R0 E0 []
  · iapply (give01 c 0); iempintro
  iintro Hst
  rw [wp_ret]; imodintro
  iapply Hk $$ Hst L0 H1

/-- The first down hop of V, and the queries. -/
theorem part25 (K : Dev nD × Option (Fin 60) → ℕ) (c : Dev nD) {Q : _ → sProp 𝕄} :
    recs m ρ K ⊢ iprop(stt c (q4 1 1 1 0) (q4 0 0 0 0) (q4 0 0 0 0) -∗ slotP c 1 0 1 fullShare (cont m ρ (srcAt 1 c 0) 1)
      -∗ slotE (prv c) 1 1 1 -∗ slotB c 0 3 -∗ xS c (xstg m ρ c) -∗ wqS c (wqstg m ρ c)
      -∗ (stt c (q4 1 1 1 1) (q4 0 0 0 0) (q4 0 0 0 0) -∗ slotP c 1 0 1 fullShare.left (cont m ρ (srcAt 1 c 0) 1)
          -∗ xS c (xstg m ρ c) -∗ wqS c (wqstg m ρ c) -∗ Q ⟨k0_pay115 (F := F) (xstg m ρ c) (wqstg m ρ c), k0_pay116 (F := F), k0_pay117 (F := F), k0_pay118 (F := F)⟩)
      -∗ wp frame (wpE (defs₀ (F := F)) 𝒱₀ (c : Thread nD τ) none) Set.univ (k0_part25 (F := F) xM (Memref.isWhole_whole _) wqM (Memref.isWhole_whole _) woM (Memref.isWhole_whole _) kM (Memref.isWhole_whole _) vM (Memref.isWhole_whole _) oM (Memref.isWhole_whole _) kvM (Memref.isWhole_whole _) cc0_scratch1 cc0_scratch2 cc0_scratch3 cc0_scratch4 c) Q) := by
  simp only [k0_part25_eq_skeleton]; unfold k0_part25_skel
  simp only [Prog.lift, Prog.bind_op, Prog.bind_ret, Prog.pure_eq_ret]
  iintro #HR Hst H1 E1 B HX HW Hk
  ihave H1 := (slotP_halves c 1 0 1 _).1 $$ H1
  icases H1 with ⟨L1, R1⟩
  ihave G := (give11 c 0 (by decide)) $$ B
  iapply (wp_hop m ρ K c _ (prv c) 1 1 0 1 rfl (by decide) (dev6_eq c) rfl off4_0 off4_1 (ccwS_eq 1 0 (by decide) rfl) (ccwR_eq 1 0 (by decide) rfl) (f' := q4 1 1 1 1) (bump11 1 1 1 0) (le_refl _)) $$ HR Hst R1 E1 G
  iintro Hst
  iapply wp_xLoad $$ HX
  iintro HX
  iapply wp_wqLoad $$ HW
  iintro HW
  rw [wp_ret]; imodintro
  iapply Hk $$ Hst L1 HX HW

end Cert.RingProof

end
-- ==== Proof.Trip.lean ====
/-
# One trip of the ring loop, part by part

In round `t` each direction waits for its K and V block, passes it on, waits for its own send, and reads the block. Each
lemma runs one part of the trip.
-/
module

public import proofs.«01_k».proof.Proof.Prologue

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The up K block of the round arrives. -/
theorem part1 (K : Dev nD × Option (Fin 60) → ℕ) (c : Dev nD) (t : Fin k0_t1_loop.trips) (v7 a0 a1 : BitVec 32) {Q : _ → sProp 𝕄} :
    recs m ρ K ⊢ iprop(levAts L lv -∗ stt c (q4 (t.val + 1) (t.val + 1) (t.val + 1) (t.val + 1)) (q4 (t.val) (t.val) (t.val) (t.val)) (q4 (t.val) (t.val) (t.val) (t.val))
      -∗ (∀ a b, stt c (q4 (t.val + 1) (t.val + 1) (t.val + 1) (t.val + 1)) (q4 (t.val) (t.val) (t.val) (t.val)) (q4 (t.val + 1) (t.val) (t.val) (t.val)) -∗ slotP c 0 (t.val + 1) 0 fullShare (cont m ρ (srcAt 0 c (t.val + 1)) 0) -∗ slotB (prv c) 1 (t.val + 2) -∗ Q ⟨a, b⟩)
      -∗ wp frame (wpE (defs₀ (F := F)) 𝒱₀ (c : Thread nD τ) none) Set.univ (k0_part1 (F := F) xM (Memref.isWhole_whole _) wqM (Memref.isWhole_whole _) woM (Memref.isWhole_whole _) kM (Memref.isWhole_whole _) vM (Memref.isWhole_whole _) oM (Memref.isWhole_whole _) kvM (Memref.isWhole_whole _) cc0_scratch1 cc0_scratch2 cc0_scratch3 cc0_scratch4 v7 a0 a1 t) Q) := by
  have hk6 : t.val < 6 := t.isLt
  simp only [k0_part1_eq_skeleton]; unfold k0_part1_skel
  simp only [Prog.lift, Prog.bind_op, Prog.bind_ret, Prog.pure_eq_ret]
  iintro #HR #Hl Hst Hk
  iapply (wp_waitR m ρ K c 0 0 t.val (t.val + 1) rfl (show t.val < 8 by omega) (cwR_eq 0 t.val (by omega) (k0_off5_eq t)) win_credit (r' := q4 (t.val + 1) (t.val) (t.val) (t.val)) (bump00 (t.val) (t.val) (t.val) (t.val))
    (lt_q4 (by omega) (by omega) (by omega) (by omega)) (le_q4 (by omega))) $$ HR Hl Hst
  iintro Hst P X
  ihave X := (extra00 c t.val hk6) $$ X
  rw [wp_ret]; imodintro
  iapply Hk $$ %_ %_ Hst P X

/-- It is passed on; the down K block arrives. -/
theorem part2 (K : Dev nD × Option (Fin 60) → ℕ) (c : Dev nD) (t : Fin k0_t1_loop.trips) (v5 a : BitVec 32) {Q : _ → sProp 𝕄} :
    recs m ρ K ⊢ iprop(levAts L lv -∗ stt c (q4 (t.val + 1) (t.val + 1) (t.val + 1) (t.val + 1)) (q4 (t.val) (t.val) (t.val) (t.val)) (q4 (t.val + 1) (t.val) (t.val) (t.val)) -∗ slotP c 0 (t.val + 1) 0 fullShare (cont m ρ (srcAt 0 c (t.val + 1)) 0) -∗ slotE (nxt c) 0 (t.val + 2) 0 -∗ give c 0 0 (t.val + 1) -∗ slotP c 0 t.val 0 fullShare.left (cont m ρ (srcAt 0 c t.val) 0)
      -∗ (∀ r, stt c (q4 (t.val + 2) (t.val + 1) (t.val + 1) (t.val + 1)) (q4 (t.val + 1) (t.val) (t.val) (t.val)) (q4 (t.val + 1) (t.val + 1) (t.val) (t.val)) -∗ slotP c 0 (t.val + 1) 0 fullShare.left (cont m ρ (srcAt 0 c (t.val + 1)) 0) -∗ slotE c 0 t.val 0 -∗ slotP c 1 (t.val + 1) 0 fullShare (cont m ρ (srcAt 1 c (t.val + 1)) 0) -∗ Q r)
      -∗ wp frame (wpE (defs₀ (F := F)) 𝒱₀ (c : Thread nD τ) none) Set.univ (k0_part2 (F := F) xM (Memref.isWhole_whole _) wqM (Memref.isWhole_whole _) woM (Memref.isWhole_whole _) kM (Memref.isWhole_whole _) vM (Memref.isWhole_whole _) oM (Memref.isWhole_whole _) kvM (Memref.isWhole_whole _) cc0_scratch1 cc0_scratch2 cc0_scratch3 cc0_scratch4 c v5 t a) Q) := by
  have hk6 : t.val < 6 := t.isLt
  simp only [k0_part2_eq_skeleton]; unfold k0_part2_skel
  simp only [Prog.lift, Prog.bind_op, Prog.bind_ret, Prog.pure_eq_ret]
  iintro #HR #Hl Hst P00 D G O Hk
  ihave H := (slotP_halves c 0 (t.val + 1) 0 _).1 $$ P00
  icases H with ⟨N00, R00⟩
  iapply (wp_hop m ρ K c _ (nxt c) 0 0 (t.val + 1) (t.val + 2) rfl (show t.val + 1 < 8 by omega) (dev7_eq c) rfl (k0_off6_eq t) (k0_off9_eq t)
    (cwS_eq 0 (t.val + 1) (by omega) (k0_off8_eq t)) (cwR_eq 0 (t.val + 1) (by omega) (k0_off8_eq t)) (f' := q4 (t.val + 2) (t.val + 1) (t.val + 1) (t.val + 1)) (bump00 (t.val + 1) (t.val + 1) (t.val + 1) (t.val + 1)) (Nat.le_succ t.val)) $$ HR Hst R00 D G
  iintro Hst
  iapply (wp_waitS m ρ K c 0 0 t.val (show t.val < 8 by omega) (cwS_eq 0 t.val (by omega) (k0_off5_eq t)) win_credit (s' := q4 (t.val + 1) (t.val) (t.val) (t.val)) (bump00 (t.val) (t.val) (t.val) (t.val)) (show t.val < t.val + 2 by omega)) $$ HR Hl Hst
  iintro Hst R
  ihave E := (join_halves c 0 t.val 0 _) $$ O R
  iapply (wp_waitR m ρ K c 1 0 t.val (t.val + 1) rfl (show t.val < 7 by omega) (ccwR_eq 0 t.val (by omega) (k0_off10_eq t)) win_credit (r' := q4 (t.val + 1) (t.val + 1) (t.val) (t.val)) (bump10 (t.val + 1) (t.val) (t.val) (t.val))
    (lt_q4 (by omega) (by omega) (by omega) (by omega)) (le_q4 (by omega))) $$ HR Hl Hst
  iintro Hst P X
  rw [wp_ret]; imodintro
  iapply Hk $$ %_ Hst N00 E P

/-- The down K block is passed on; the up K block is read. -/
theorem part3 (K : Dev nD × Option (Fin 60) → ℕ) (c : Dev nD) (t : Fin k0_t1_loop.trips) (v5 : BitVec 32) (v388 : FVec F S16x256x64 .bf16) (a b : BitVec 32) {Q : _ → sProp 𝕄} :
    recs m ρ K ⊢ iprop(levAts L lv -∗ stt c (q4 (t.val + 2) (t.val + 1) (t.val + 1) (t.val + 1)) (q4 (t.val + 1) (t.val) (t.val) (t.val)) (q4 (t.val + 1) (t.val + 1) (t.val) (t.val)) -∗ slotP c 1 (t.val + 1) 0 fullShare (cont m ρ (srcAt 1 c (t.val + 1)) 0) -∗ slotE (prv c) 1 (t.val + 2) 0 -∗ slotP c 1 t.val 0 fullShare.left (cont m ρ (srcAt 1 c t.val) 0) -∗ slotP c 0 (t.val + 1) 0 fullShare.left (cont m ρ (srcAt 0 c (t.val + 1)) 0)
      -∗ (stt c (q4 (t.val + 2) (t.val + 2) (t.val + 1) (t.val + 1)) (q4 (t.val + 1) (t.val + 1) (t.val) (t.val)) (q4 (t.val + 1) (t.val + 1) (t.val) (t.val)) -∗ slotP c 1 (t.val + 1) 0 fullShare.left (cont m ρ (srcAt 1 c (t.val + 1)) 0) -∗ slotE c 1 t.val 0 -∗ slotP c 0 (t.val + 1) 0 fullShare.left (cont m ρ (srcAt 0 c (t.val + 1)) 0) -∗ Q ⟨k0_pay2 v388 (kvChunk m ρ (srcAt 0 c (t.val + 1)) 0), Scalar.ofBits .f32 0x3E000000#32⟩)
      -∗ wp frame (wpE (defs₀ (F := F)) 𝒱₀ (c : Thread nD τ) none) Set.univ (k0_part3 (F := F) xM (Memref.isWhole_whole _) wqM (Memref.isWhole_whole _) woM (Memref.isWhole_whole _) kM (Memref.isWhole_whole _) vM (Memref.isWhole_whole _) oM (Memref.isWhole_whole _) kvM (Memref.isWhole_whole _) cc0_scratch1 cc0_scratch2 cc0_scratch3 cc0_scratch4 c v5 v388 t a b) Q) := by
  have hk6 : t.val < 6 := t.isLt
  simp only [k0_part3_eq_skeleton]; unfold k0_part3_skel
  simp only [Prog.lift, Prog.bind_op, Prog.bind_ret, Prog.pure_eq_ret]
  iintro #HR #Hl Hst P10 D O N00 Hk
  ihave H := (slotP_halves c 1 (t.val + 1) 0 _).1 $$ P10
  icases H with ⟨N10, R10⟩
  iapply (wp_hop m ρ K c _ (prv c) 1 0 (t.val + 1) (t.val + 2) rfl (show t.val + 1 < 7 by omega) (dev8_eq c) rfl (k0_off11_eq t) (k0_off14_eq t)
    (ccwS_eq 0 (t.val + 1) (by omega) (k0_off13_eq t)) (ccwR_eq 0 (t.val + 1) (by omega) (k0_off13_eq t)) (f' := q4 (t.val + 2) (t.val + 2) (t.val + 1) (t.val + 1)) (bump10 (t.val + 2) (t.val + 1) (t.val + 1) (t.val + 1)) (Nat.le_succ t.val)) $$ HR Hst R10 D []
  · iapply (give10 c (t.val + 1)); iempintro
  iintro Hst
  iapply (wp_waitS m ρ K c 1 0 t.val (show t.val < 7 by omega) (ccwS_eq 0 t.val (by omega) (k0_off10_eq t)) win_credit (s' := q4 (t.val + 1) (t.val + 1) (t.val) (t.val)) (bump10 (t.val + 1) (t.val) (t.val) (t.val)) (show t.val < t.val + 2 by omega)) $$ HR Hl Hst
  iintro Hst R
  ihave E := (join_halves c 1 t.val 0 _) $$ O R
  iapply (wp_contLoad m ρ c _ 0 0 (t.val + 1) (k0_off15_eq t)) $$ N00
  iintro N00
  rw [wp_ret]; imodintro
  iapply Hk $$ Hst N10 E N00

/-- The up V block arrives. -/
theorem part4 (K : Dev nD × Option (Fin 60) → ℕ) (c : Dev nD) (t : Fin k0_t1_loop.trips) (v7 : BitVec 32) (x12 x13 : FVec F S16x256x1 .f32) (a : BitVec 32) (v727 : FVec F S16x256x512 .f32) (z : F .f32) {Q : _ → sProp 𝕄} :
    recs m ρ K ⊢ iprop(levAts L lv -∗ stt c (q4 (t.val + 2) (t.val + 2) (t.val + 1) (t.val + 1)) (q4 (t.val + 1) (t.val + 1) (t.val) (t.val)) (q4 (t.val + 1) (t.val + 1) (t.val) (t.val))
      -∗ (stt c (q4 (t.val + 2) (t.val + 2) (t.val + 1) (t.val + 1)) (q4 (t.val + 1) (t.val + 1) (t.val) (t.val)) (q4 (t.val + 1) (t.val + 1) (t.val + 1) (t.val)) -∗ slotP c 0 (t.val + 1) 1 fullShare (cont m ρ (srcAt 0 c (t.val + 1)) 1) -∗ Q ⟨k0_pay4 x12 v727 z, k0_pay5 x12 v727 z, k0_pay7 x12 x13 v727 z, k0_pay8 x12 v727 z⟩)
      -∗ wp frame (wpE (defs₀ (F := F)) 𝒱₀ (c : Thread nD τ) none) Set.univ (k0_part4 (F := F) xM (Memref.isWhole_whole _) wqM (Memref.isWhole_whole _) woM (Memref.isWhole_whole _) kM (Memref.isWhole_whole _) vM (Memref.isWhole_whole _) oM (Memref.isWhole_whole _) kvM (Memref.isWhole_whole _) cc0_scratch1 cc0_scratch2 cc0_scratch3 cc0_scratch4 v7 t x12 x13 a v727 z) Q) := by
  have hk6 : t.val < 6 := t.isLt
  simp only [k0_part4_eq_skeleton]; unfold k0_part4_skel
  simp only [Prog.lift, Prog.bind_op, Prog.bind_ret, Prog.pure_eq_ret]
  iintro #HR #Hl Hst Hk
  iapply (wp_waitR m ρ K c 0 1 t.val (t.val + 1) rfl (show t.val < 8 by omega) (cwR_eq 1 t.val (by omega) (k0_off16_eq t)) win_credit (r' := q4 (t.val + 1) (t.val + 1) (t.val + 1) (t.val)) (bump01 (t.val + 1) (t.val + 1) (t.val) (t.val))
    (lt_q4 (by omega) (by omega) (by omega) (by omega)) (le_q4 (by omega))) $$ HR Hl Hst
  iintro Hst P X
  rw [wp_ret]; imodintro
  iapply Hk $$ Hst P

/-- The up V block is passed on and read, and the down K block is read. -/
theorem part5 (K : Dev nD × Option (Fin 60) → ℕ) (c : Dev nD) (t : Fin k0_t1_loop.trips) (v7 : BitVec 32) (x14 : FVec F S16x256x64 .f32) (a : BitVec 32) (v734 : FVec F S16x256x1 .f32) (v742 : FVec F S16x256x512 .bf16) {Q : _ → sProp 𝕄} :
    recs m ρ K ⊢ iprop(levAts L lv -∗ stt c (q4 (t.val + 2) (t.val + 2) (t.val + 1) (t.val + 1)) (q4 (t.val + 1) (t.val + 1) (t.val) (t.val)) (q4 (t.val + 1) (t.val + 1) (t.val + 1) (t.val)) -∗ slotP c 0 (t.val + 1) 1 fullShare (cont m ρ (srcAt 0 c (t.val + 1)) 1) -∗ slotE (nxt c) 0 (t.val + 2) 1 -∗ slotP c 0 t.val 1 fullShare.left (cont m ρ (srcAt 0 c t.val) 1) -∗ slotP c 1 (t.val + 1) 0 fullShare.left (cont m ρ (srcAt 1 c (t.val + 1)) 0)
      -∗ (stt c (q4 (t.val + 2) (t.val + 2) (t.val + 2) (t.val + 1)) (q4 (t.val + 1) (t.val + 1) (t.val + 1) (t.val)) (q4 (t.val + 1) (t.val + 1) (t.val + 1) (t.val)) -∗ slotP c 0 (t.val + 1) 1 fullShare.left (cont m ρ (srcAt 0 c (t.val + 1)) 1) -∗ slotE c 0 t.val 1 -∗ slotP c 1 (t.val + 1) 0 fullShare.left (cont m ρ (srcAt 1 c (t.val + 1)) 0) -∗ Q ⟨k0_pay9 x14 v734 v742 (kvChunk m ρ (srcAt 0 c (t.val + 1)) 1), k0_pay10 (kvChunk m ρ (srcAt 1 c (t.val + 1)) 0)⟩)
      -∗ wp frame (wpE (defs₀ (F := F)) 𝒱₀ (c : Thread nD τ) none) Set.univ (k0_part5 (F := F) xM (Memref.isWhole_whole _) wqM (Memref.isWhole_whole _) woM (Memref.isWhole_whole _) kM (Memref.isWhole_whole _) vM (Memref.isWhole_whole _) oM (Memref.isWhole_whole _) kvM (Memref.isWhole_whole _) cc0_scratch1 cc0_scratch2 cc0_scratch3 cc0_scratch4 c v7 t x14 a v734 v742) Q) := by
  have hk6 : t.val < 6 := t.isLt
  simp only [k0_part5_eq_skeleton]; unfold k0_part5_skel
  simp only [Prog.lift, Prog.bind_op, Prog.bind_ret, Prog.pure_eq_ret]
  iintro #HR #Hl Hst P01 D O N10 Hk
  ihave H := (slotP_halves c 0 (t.val + 1) 1 _).1 $$ P01
  icases H with ⟨N01, R01⟩
  iapply (wp_hop m ρ K c _ (nxt c) 0 1 (t.val + 1) (t.val + 2) rfl (show t.val + 1 < 8 by omega) (dev9_eq c) rfl (k0_off17_eq t) (k0_off20_eq t)
    (cwS_eq 1 (t.val + 1) (by omega) (k0_off19_eq t)) (cwR_eq 1 (t.val + 1) (by omega) (k0_off19_eq t)) (f' := q4 (t.val + 2) (t.val + 2) (t.val + 2) (t.val + 1)) (bump01 (t.val + 2) (t.val + 2) (t.val + 1) (t.val + 1)) (Nat.le_succ t.val)) $$ HR Hst R01 D []
  · iapply (give01 c (t.val + 1)); iempintro
  iintro Hst
  iapply (wp_waitS m ρ K c 0 1 t.val (show t.val < 8 by omega) (cwS_eq 1 t.val (by omega) (k0_off16_eq t)) win_credit (s' := q4 (t.val + 1) (t.val + 1) (t.val + 1) (t.val)) (bump01 (t.val + 1) (t.val + 1) (t.val) (t.val)) (show t.val < t.val + 2 by omega)) $$ HR Hl Hst
  iintro Hst R
  ihave E := (join_halves c 0 t.val 1 _) $$ O R
  iapply (wp_contLoad m ρ c _ 0 1 (t.val + 1) (k0_off21_eq t)) $$ N01
  iintro N01
  iapply (wp_contLoad m ρ c _ 1 0 (t.val + 1) (k0_off22_eq t)) $$ N10
  iintro N10
  rw [wp_ret]; imodintro
  iapply Hk $$ Hst N01 E N10

/-- The down V block arrives. -/
theorem part6 (K : Dev nD × Option (Fin 60) → ℕ) (c : Dev nD) (t : Fin k0_t1_loop.trips) (v5 : BitVec 32) (v388 : FVec F S16x256x64 .bf16) (a : BitVec 32) (v732 v741 : FVec F S16x256x1 .f32) (v783 : FVec F S16x64x512 .bf16) {Q : _ → sProp 𝕄} :
    recs m ρ K ⊢ iprop(levAts L lv -∗ stt c (q4 (t.val + 2) (t.val + 2) (t.val + 2) (t.val + 1)) (q4 (t.val + 1) (t.val + 1) (t.val + 1) (t.val)) (q4 (t.val + 1) (t.val + 1) (t.val + 1) (t.val))
      -∗ (stt c (q4 (t.val + 2) (t.val + 2) (t.val + 2) (t.val + 1)) (q4 (t.val + 1) (t.val + 1) (t.val + 1) (t.val)) (q4 (t.val + 1) (t.val + 1) (t.val + 1) (t.val + 1)) -∗ slotP c 1 (t.val + 1) 1 fullShare (cont m ρ (srcAt 1 c (t.val + 1)) 1) -∗ slotB (nxt c) 0 (t.val + 3) -∗ Q ⟨k0_pay12 v388 v732 v783, k0_pay13 v388 v732 v783, k0_pay15 v388 v732 v741 v783, k0_pay16 v388 v732 v783⟩)
      -∗ wp frame (wpE (defs₀ (F := F)) 𝒱₀ (c : Thread nD τ) none) Set.univ (k0_part6 (F := F) xM (Memref.isWhole_whole _) wqM (Memref.isWhole_whole _) woM (Memref.isWhole_whole _) kM (Memref.isWhole_whole _) vM (Memref.isWhole_whole _) oM (Memref.isWhole_whole _) kvM (Memref.isWhole_whole _) cc0_scratch1 cc0_scratch2 cc0_scratch3 cc0_scratch4 v5 v388 t a v732 v741 v783) Q) := by
  have hk6 : t.val < 6 := t.isLt
  simp only [k0_part6_eq_skeleton]; unfold k0_part6_skel
  simp only [Prog.lift, Prog.bind_op, Prog.bind_ret, Prog.pure_eq_ret]
  iintro #HR #Hl Hst Hk
  iapply (wp_waitR m ρ K c 1 1 t.val (t.val + 1) rfl (show t.val < 7 by omega) (ccwR_eq 1 t.val (by omega) (k0_off23_eq t)) win_credit (r' := q4 (t.val + 1) (t.val + 1) (t.val + 1) (t.val + 1)) (bump11 (t.val + 1) (t.val + 1) (t.val + 1) (t.val))
    (lt_q4 (by omega) (by omega) (by omega) (by omega)) (le_q4 (by omega))) $$ HR Hl Hst
  iintro Hst P X
  ihave X := (extra11 c t.val hk6) $$ X
  rw [wp_ret]; imodintro
  iapply Hk $$ Hst P X

end Cert.RingProof

end
-- ==== Proof.Loop.lean ====
/-
# The ring loop

One trip composed from its parts, the running softmax it carries, and the loop by its invariant.
-/
module

public import proofs.«01_k».proof.Proof.Trip

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The running softmax -/

/-- What the running softmax carries: the largest score so far, the sum of the weights, the weighted sum of values. -/
abbrev Acc (F : FTy → Type) [FloatOps F] : Type := FVec F S16x256x1 .f32 × FVec F S16x256x1 .f32 × FVec F S16x256x64 .f32

/-- One block of keys `kk` and values `vv` taken into the running softmax of the queries `q`. -/
def kstep (q : FVec F S16x256x64 .bf16) (a : Acc F) (kk vv : Vec F S1x1x1x16x64x512 .bf16) : Acc F :=
  (k0_pay120 q a.1 kk, k0_pay123 q a.1 a.2.1 kk, k0_pay124 q a.1 a.2.2 kk vv)

/-- The block of device `e` taken in. -/
def kstepAt (q : FVec F S16x256x64 .bf16) (e : Dev nD) (a : Acc F) : Acc F :=
  kstep q a (kvChunk m ρ e 0) (kvChunk m ρ e 1)

/-- The running softmax after the device's own block and `r` rounds of two blocks each. -/
def kfold (q : FVec F S16x256x64 .bf16) (c : Dev nD) : ℕ → Acc F
  | 0 => kstepAt m ρ q c (k0_pay116, k0_pay117, k0_pay118)
  | r + 1 => kstepAt m ρ q (srcAt 1 c (r + 1)) (kstepAt m ρ q (srcAt 0 c (r + 1)) (kfold q c r))

/-- A trip's printed values are the two steps of the running softmax. -/
theorem trip_eq (q : FVec F S16x256x64 .bf16) (x y : FVec F S16x256x1 .f32) (z : FVec F S16x256x64 .f32)
    (k0 v0 k1 v1 : Vec F S1x1x1x16x64x512 .bf16) (h : F .f32) (hh : h = Scalar.ofBits .f32 0x3E000000#32) :
    (k0_pay12 q (k0_pay4 x (k0_pay2 q k0) h) (k0_pay10 k1),
      k0_pay15 q (k0_pay4 x (k0_pay2 q k0) h) (k0_pay7 x y (k0_pay2 q k0) h) (k0_pay10 k1),
      k0_pay125 (k0_pay17 (k0_pay16 q (k0_pay4 x (k0_pay2 q k0) h) (k0_pay10 k1)) v1)
        (k0_pay18 (k0_pay9 z (k0_pay5 x (k0_pay2 q k0) h) (k0_pay8 x (k0_pay2 q k0) h) v0)
          (k0_pay13 q (k0_pay4 x (k0_pay2 q k0) h) (k0_pay10 k1))))
      = kstep q (kstep q (x, y, z) k0 v0) k1 v1 := by
  subst hh; rfl

omit [FloatOps F] in
/-- A slot is its two windows. -/
theorem slotB_open (c : Dev nD) (d : Fin 2) (s : ℕ) : (slotB c d s : sProp 𝕄) ⊢ iprop(slotE c d s 0 ∗ slotE c d s 1) := by
  unfold slotB; exact BI.Entails.refl _

/-- What device `c` holds at the start of round `r`. -/
def ringAt (c : Dev nD) (r : ℕ) : sProp 𝕄 :=
  iprop(stt c (q4 (r + 1) (r + 1) (r + 1) (r + 1)) (q4 r r r r) (q4 r r r r)
    ∗ slotP c 0 r 0 fullShare.left (cont m ρ (srcAt 0 c r) 0) ∗ slotP c 1 r 0 fullShare.left (cont m ρ (srcAt 1 c r) 0)
    ∗ slotP c 0 r 1 fullShare.left (cont m ρ (srcAt 0 c r) 1) ∗ slotP c 1 r 1 fullShare.left (cont m ρ (srcAt 1 c r) 1)
    ∗ slotB c 1 (r + 3) ∗ slotB (nxt c) 0 (r + 2) ∗ keep1 c r ∗ keep0 c r)

/-- The loop's invariant, written out. -/
theorem ring_open (c : Dev nD) (r : ℕ) : ringAt m ρ c r ⊢
  iprop(stt c (q4 (r + 1) (r + 1) (r + 1) (r + 1)) (q4 r r r r) (q4 r r r r)
    ∗ slotP c 0 r 0 fullShare.left (cont m ρ (srcAt 0 c r) 0) ∗ slotP c 1 r 0 fullShare.left (cont m ρ (srcAt 1 c r) 0)
    ∗ slotP c 0 r 1 fullShare.left (cont m ρ (srcAt 0 c r) 1) ∗ slotP c 1 r 1 fullShare.left (cont m ρ (srcAt 1 c r) 1)
    ∗ slotB c 1 (r + 3) ∗ slotB (nxt c) 0 (r + 2) ∗ keep1 c r ∗ keep0 c r) := BI.Entails.refl _

-- The trip is stepped through in one proof: the limit is raised for its length alone.
set_option maxHeartbeats 1000000 in
/-- One trip of the loop: the round moves on, and two blocks are taken in. -/
theorem trip (K : Dev nD × Option (Fin 60) → ℕ) (c : Dev nD) (t : Fin k0_t1_loop.trips) (v5 v7 : BitVec 32)
    (v388 : FVec F S16x256x64 .bf16) (v389 v390 : FVec F S16x256x1 .f32) (v391 : FVec F S16x256x64 .f32) (acc : Acc F) {Q : _ → sProp 𝕄} :
    recs m ρ K ⊢ iprop(levAts L lv -∗ ringAt m ρ c t.val
      -∗ (ringAt m ρ c (t.val + 1) -∗ Q (kstepAt m ρ v388 (srcAt 1 c (t.val + 1)) (kstepAt m ρ v388 (srcAt 0 c (t.val + 1)) acc)))
      -∗ wp frame (wpE (defs₀ (F := F)) 𝒱₀ (c : Thread nD τ) none) Set.univ (k0_t1_body (F := F) xM (Memref.isWhole_whole _) wqM (Memref.isWhole_whole _) woM (Memref.isWhole_whole _) kM (Memref.isWhole_whole _) vM (Memref.isWhole_whole _) oM (Memref.isWhole_whole _) kvM (Memref.isWhole_whole _) cc0_scratch1 cc0_scratch2 cc0_scratch3 cc0_scratch4 c v5 v7 v388 v389 v390 v391 t acc) Q) := by
  obtain ⟨x12, x13, x14⟩ := acc
  have hk6 : t.val < 6 := t.isLt
  unfold kstepAt
  rw [← trip_eq v388 x12 x13 x14 _ _ _ _ (Scalar.ofBits .f32 0x3E000000#32) rfl]
  unfold k0_t1_body
  simp only [k0_part7_eq_skeleton]; unfold k0_part7_skel
  simp only [Prog.lift, Prog.bind_op, Prog.bind_ret, Prog.pure_eq_ret, Prog.bind_assoc]
  unfold ringAt
  iintro #HR #Hl ⟨Hst, O00, O10, O01, O11, B1, B0, Kp1, Kp0⟩ Hk
  rw [wp_bind]
  iapply (part1 m ρ K c t v7 _ _) $$ HR Hl Hst
  iintro %a %b Hst P00 Bp
  rw [wp_bind]
  ihave B0 := (slotB_open (nxt c) 0 (t.val + 2)) $$ B0
  ihave Bp := (slotB_open (prv c) 1 (t.val + 2)) $$ Bp
  icases B0 with ⟨D00, D01⟩
  icases Bp with ⟨D10, D11⟩
  ihave G := (give_keep1 c (t.val + 1)) $$ B1
  icases G with ⟨G, Kp1'⟩
  iapply (part2 m ρ K c t v5 a) $$ HR Hl Hst P00 D00 G O00
  iintro %r Hst N00 E00 P10
  rw [wp_bind]
  iapply (part3 m ρ K c t v5 v388 b r) $$ HR Hl Hst P10 D10 O10 N00
  iintro Hst N10 E10 N00
  rw [wp_bind]
  iapply (part4 m ρ K c t v7 x12 x13 a _ _) $$ HR Hl Hst
  iintro Hst P01
  rw [wp_bind]
  iapply (part5 m ρ K c t v7 x14 b _ _) $$ HR Hl Hst P01 D01 O01 N10
  iintro Hst N01 E01 N10
  rw [wp_bind]
  iapply (part6 m ρ K c t v5 v388 a _ _ _) $$ HR Hl Hst
  iintro Hst P11 B0'
  ihave E00 := (slotE_mod c 0 t.val (t.val + 1 + 3) 0 (by omega)) $$ E00
  ihave E01 := (slotE_mod c 0 t.val (t.val + 1 + 3) 1 (by omega)) $$ E01
  ihave G := (give_keep0 c (t.val + 1)) $$ [E00 E01]
  · unfold slotB; isplitl [E00] <;> iassumption
  icases G with ⟨G, Kp0'⟩
  ihave H := (slotP_halves c 1 (t.val + 1) 1 _).1 $$ P11
  icases H with ⟨N11, R11⟩
  iapply (wp_hop m ρ K c _ (prv c) 1 1 (t.val + 1) (t.val + 2) rfl (show t.val + 1 < 7 by omega) (dev10_eq c) rfl (k0_off24_eq t) (k0_off27_eq t)
    (ccwS_eq 1 (t.val + 1) (by omega) (k0_off26_eq t)) (ccwR_eq 1 (t.val + 1) (by omega) (k0_off26_eq t)) (f' := q4 (t.val + 2) (t.val + 2) (t.val + 2) (t.val + 2)) (bump11 (t.val + 2) (t.val + 2) (t.val + 2) (t.val + 1)) (Nat.le_succ t.val)) $$ HR Hst R11 D11 G
  iintro Hst
  iapply (wp_waitS m ρ K c 1 1 t.val (show t.val < 7 by omega) (ccwS_eq 1 t.val (by omega) (k0_off23_eq t)) win_credit (s' := q4 (t.val + 1) (t.val + 1) (t.val + 1) (t.val + 1)) (bump11 (t.val + 1) (t.val + 1) (t.val + 1) (t.val)) (show t.val < t.val + 2 by omega)) $$ HR Hl Hst
  iintro Hst R
  ihave E11 := (join_halves c 1 t.val 1 _) $$ O11 R
  iapply (wp_contLoad m ρ c _ 1 1 (t.val + 1) (k0_off28_eq t)) $$ N11
  iintro N11
  rw [wp_ret]; imodintro
  ihave E10 := (slotE_mod c 1 t.val (t.val + 1 + 3) 0 (by omega)) $$ E10
  ihave E11 := (slotE_mod c 1 t.val (t.val + 1 + 3) 1 (by omega)) $$ E11
  iapply Hk
  isplitl [Hst]; · iexact Hst
  isplitl [N00]; · iexact N00
  isplitl [N10]; · iexact N10
  isplitl [N01]; · iexact N01
  isplitl [N11]; · iexact N11
  isplitl [E10 E11]
  · unfold slotB; isplitl [E10] <;> iassumption
  isplitl [B0']; · iexact B0'
  isplitl [Kp1']; · iexact Kp1'
  iexact Kp0'

/-- After the last trip the invariant is that of round 6. -/
theorem ring_six (c : Dev nD) : ringAt m ρ c (Scf.trips k0_t1_loop.lb k0_t1_loop.ub k0_t1_loop.st) ⊢ ringAt m ρ c 6 := BI.Entails.refl _

/-- The whole loop, and the device's own block before it. -/
theorem part26 (K : Dev nD × Option (Fin 60) → ℕ) (c : Dev nD) (v5 v7 : BitVec 32) (v388 : FVec F S16x256x64 .bf16) {Q : _ → sProp 𝕄} :
    recs m ρ K ⊢ iprop(levAts L lv -∗ ringAt m ρ c 0
      -∗ (ringAt m ρ c 6 -∗ Q ⟨(kfold m ρ v388 c 6).1, (kfold m ρ v388 c 6).2.1, (kfold m ρ v388 c 6).2.2⟩)
      -∗ wp frame (wpE (defs₀ (F := F)) 𝒱₀ (c : Thread nD τ) none) Set.univ (k0_part26 (F := F) xM (Memref.isWhole_whole _) wqM (Memref.isWhole_whole _) woM (Memref.isWhole_whole _) kM (Memref.isWhole_whole _) vM (Memref.isWhole_whole _) oM (Memref.isWhole_whole _) kvM (Memref.isWhole_whole _) cc0_scratch1 cc0_scratch2 cc0_scratch3 cc0_scratch4 c v5 v7 v388 k0_pay116 k0_pay117 k0_pay118) Q) := by
  simp only [k0_part26_eq_skeleton]; unfold k0_part26_skel
  simp only [Prog.lift, Prog.bind_op, Prog.bind_ret, Prog.pure_eq_ret]
  iintro #HR #Hl Hst Hk
  ihave Hst := (ring_open m ρ c 0) $$ Hst
  icases Hst with ⟨Hst, O00, O10, O01, O11, Hrest⟩
  iapply (wp_contLoad m ρ c _ 0 0 0 rfl) $$ O00
  iintro O00
  iapply (wp_contLoad m ρ c _ 0 1 0 rfl) $$ O01
  iintro O01
  iapply (Scf.wp_for_bind frame (wpE (defs₀ (F := F)) 𝒱₀ (c : Thread nD τ) none) Set.univ k0_t1_loop.lb k0_t1_loop.ub k0_t1_loop.st k0_t1_ok _ _
    (fun r a => iprop(⌜a = kfold m ρ v388 c r⌝ ∗ recs m ρ K ∗ levAts L lv ∗ ringAt m ρ c r)) (by
      intro t a
      iintro ⟨%ha, #HR, #Hl, Hr⟩
      iapply (trip m ρ K c t v5 v7 v388 k0_pay116 k0_pay117 k0_pay118 a) $$ HR Hl Hr
      iintro Hr
      isplitr
      · ipureintro; rw [ha]; rfl
      isplitr; · iexact HR
      isplitr; · iexact Hl
      iexact Hr)) $$ [Hst O00 O10 O01 O11 Hrest]
  · isplitr
    · ipureintro; rw [srcAt_zero]; unfold kfold kstepAt kstep; rfl
    isplitr; · iexact HR
    isplitr; · iexact Hl
    unfold ringAt
    isplitl [Hst]; · iexact Hst
    isplitl [O00]; · iexact O00
    isplitl [O10]; · iexact O10
    isplitl [O01]; · iexact O01
    isplitl [O11]; · iexact O11
    iexact Hrest
  iintro %a ⟨%ha, _, _, Hr⟩
  obtain ⟨a1, a2, a3⟩ := a
  rw [wp_ret]; imodintro
  rw [show (a1, a2, a3) = kfold m ρ v388 c 6 from ha] at *
  ihave Hr := (ring_six m ρ c) $$ Hr
  iapply Hk; iexact Hr

end Cert.RingProof

end
-- ==== Proof.Epilogue.lean ====
/-
# After the loop

The seventh and eighth blocks, part by part, and the stores of the result.
-/
module

public import proofs.«01_k».proof.Proof.Loop

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The staged result -/

/-- The result buffer of device `c` at contents `x`. -/
def oS (c : Dev nD) (x : S2x256x768.Idx → Elt F .f32) : sProp 𝕄 := oM.view.loc (c : Thread nD τ) ↦[Finset.univ]{fullShare} x

/-- An element of the result, within its batch. -/
def inBatch (i : S2x256x768.Idx) : S1x256x768.Idx := fun a => match a with
  | ⟨0, _⟩ => ⟨0, Nat.one_pos⟩
  | ⟨1, _⟩ => i 1
  | ⟨2, _⟩ => i 2

/-- The staged result with one batch set to `w`. -/
def outHalf (b : Fin 2) (w : S1x256x768.Idx → Elt F .f32) (f : S2x256x768.Idx → Elt F .f32) : S2x256x768.Idx → Elt F .f32 :=
  fun i => if (i 0).val = b.val then w (inBatch i) else f i

/-- A load from the result buffer changes nothing, whatever it reads. -/
theorem wp_oLoad {c : Dev nD} {x : S2x256x768.Idx → Elt F .f32} {r : Rect S2x256x768} {hl : oM.view.LoadsAt r.toLoadRect}
    {α : Type} {Q : α → sProp 𝕄} {k : (r.shape.Idx → Elt F .f32) → Prog (TpuEff nD τ sig (Elt F) Λ₀ .tc) α} :
    (oS c x : sProp 𝕄)
      ⊢ iprop((∀ u, oS c x -∗ wp frame (wpE (defs₀ (F := F)) 𝒱₀ (c : Thread nD τ) none) Set.univ (k u) Q)
        -∗ wp frame (wpE (defs₀ (F := F)) 𝒱₀ (c : Thread nD τ) none) Set.univ (.op (.load oM r.toLoadRect hl) k) Q) := by
  iintro H Hk
  unfold oS
  iapply (wp_load_rect 𝒱₀ (c : Thread nD τ) none Set.univ (m := oM) (r := r) (S := Finset.univ) (f := x) (Finset.subset_univ _)) $$ H
  iintro H
  iapply Hk
  iexact H

/-- A store of one batch of the result. -/
theorem wp_oStore {c : Dev nD} {f : S2x256x768.Idx → Elt F .f32} (b : Fin 2) {off : Fin 3 → ℕ} (hoff : off = ![b.val, 0, 0])
    {inb : ∀ a, off a + S1x256x768.size a ≤ S2x256x768.size a} {w : S1x256x768.Idx → Elt F .f32}
    {hx : (oM.access (Rect.unit (s := S2x256x768) off S1x256x768.size inb)).Stores Finset.univ}
    {hm : Finset.univ = Finset.univ ∨ ∀ a, (Rect.unit (s := S2x256x768) off S1x256x768.size inb).stride a = 1}
    {α : Type} {Q : α → sProp 𝕄} {k : PUnit → Prog (TpuEff nD τ sig (Elt F) Λ₀ .tc) α} :
    (oS c f : sProp 𝕄)
      ⊢ iprop((oS c (outHalf b w f) -∗ wp frame (wpE (defs₀ (F := F)) 𝒱₀ (c : Thread nD τ) none) Set.univ (k ⟨⟩) Q)
        -∗ wp frame (wpE (defs₀ (F := F)) 𝒱₀ (c : Thread nD τ) none) Set.univ
          (.op (.store oM (Rect.unit (s := S2x256x768) off S1x256x768.size inb) w Finset.univ hx hm) k) Q) := by
  subst hoff
  have hset : (oM.access (Rect.unit (s := S2x256x768) ![b.val, 0, 0] S1x256x768.size inb)).setOn Finset.univ
      = (Rect.unit (s := S2x256x768) ![b.val, 0, 0] S1x256x768.size inb).set :=
    (View.setOn_univ _).trans (View.set_slice_whole cc0_stg5_0 _)
  have hv : (oM.access (Rect.unit (s := S2x256x768) ![b.val, 0, 0] S1x256x768.size inb)).write (Elt F) f w Finset.univ = outHalf b w f := by
    refine funext fun (i : S2x256x768.Idx) => ?_
    by_cases hib : (i 0).val = b.val
    · refine Eq.trans ?_ (show outHalf b w f i = w (inBatch i) from if_pos hib).symm
      have hmem : i ∈ (Rect.unit (s := S2x256x768) ![b.val, 0, 0] S1x256x768.size inb).set := by
        rw [Rect.mem_set_unit]
        intro a
        fin_cases a
        · show b.val ≤ (i 0).val ∧ (i 0).val < b.val + 1; omega
        · exact ⟨Nat.zero_le _, lt_of_lt_of_eq (i 1).isLt (Nat.zero_add _).symm⟩
        · exact ⟨Nat.zero_le _, lt_of_lt_of_eq (i 2).isLt (Nat.zero_add _).symm⟩
      rw [← hset] at hmem
      obtain ⟨y, -, rfl⟩ := Finset.mem_map.mp hmem
      refine (View.write_emb_of_mem (v := oM.access (Rect.unit (s := S2x256x768) ![b.val, 0, 0] S1x256x768.size inb))
        (Val := Elt F) f w (Finset.mem_univ y)).trans ?_
      refine congrArg w (funext fun a => Fin.ext ?_)
      fin_cases a
      · exact Nat.lt_one_iff.mp (y 0).isLt
      · show (y 1).val = 0 + 1 * (y 1).val
        omega
      · show (y 2).val = 0 + 1 * (y 2).val
        omega
    · refine Eq.trans ?_ (show outHalf b w f i = f i from if_neg hib).symm
      refine View.write_of_not_mem _ _ _ ?_
      intro h
      rw [hset, Rect.mem_set_unit] at h
      have := h 0
      change b.val ≤ (i 0).val ∧ (i 0).val < b.val + 1 at this
      omega
  iintro H Hk
  unfold oS
  iapply (wp_store 𝒱₀ (c : Thread nD τ) none Set.univ (m := oM) (r := Rect.unit (s := S2x256x768) ![b.val, 0, 0] S1x256x768.size inb)
    (S := Finset.univ) (f := f) (Finset.subset_univ _)) $$ H
  rw [hv]
  iintro H
  iapply Hk
  iexact H

/-! ## The parts -/

/-- The seventh up K block arrives and makes the last hop. -/
theorem part27 (K : Dev nD × Option (Fin 60) → ℕ) (c : Dev nD) (v7 : BitVec 32) {Q : _ → sProp 𝕄} :
    recs m ρ K ⊢ iprop(levAts L lv -∗ stt c (q4 7 7 7 7) (q4 6 6 6 6) (q4 6 6 6 6) -∗ slotE (nxt c) 0 8 0
      -∗ (stt c (q4 8 7 7 7) (q4 6 6 6 6) (q4 7 6 6 6) -∗ slotP c 0 7 0 fullShare.left (cont m ρ (srcAt 0 c 7) 0) -∗ Q ⟨⟩)
      -∗ wp frame (wpE (defs₀ (F := F)) 𝒱₀ (c : Thread nD τ) none) Set.univ (k0_part27 (F := F) xM (Memref.isWhole_whole _) wqM (Memref.isWhole_whole _) woM (Memref.isWhole_whole _) kM (Memref.isWhole_whole _) vM (Memref.isWhole_whole _) oM (Memref.isWhole_whole _) kvM (Memref.isWhole_whole _) cc0_scratch1 cc0_scratch2 cc0_scratch3 cc0_scratch4 c v7) Q) := by
  simp only [k0_part27_eq_skeleton]; unfold k0_part27_skel
  simp only [Prog.lift, Prog.bind_op, Prog.bind_ret, Prog.pure_eq_ret]
  iintro #HR #Hl Hst D Hk
  iapply (wp_waitR m ρ K c 0 0 6 7 rfl (by decide) (cwR_eq 0 6 (by decide) rfl) win_credit (r' := q4 7 6 6 6) (bump00 6 6 6 6)
    (lt_q4 (by decide) (by decide) (by decide) (by decide)) (le_q4 (by decide))) $$ HR Hl Hst
  iintro Hst P X
  ihave H := (slotP_halves c 0 7 0 _).1 $$ P
  icases H with ⟨N, R⟩
  iapply (wp_hop m ρ K c _ (nxt c) 0 0 7 8 rfl (by decide) (dev11_eq c) rfl off1_7 off1_8 (cwS_eq 0 7 (by decide) rfl) (cwR_eq 0 7 (by decide) rfl) (f' := q4 8 7 7 7) (bump00 7 7 7 7) (by decide)) $$ HR Hst R D []
  · iapply (give_late c 0 0 7 (by decide)); iempintro
  iintro Hst
  rw [wp_ret]; imodintro
  iapply Hk $$ Hst N

/-- The last down K block arrives. -/
theorem part28 (K : Dev nD × Option (Fin 60) → ℕ) (c : Dev nD) (v5 : BitVec 32) {Q : _ → sProp 𝕄} :
    recs m ρ K ⊢ iprop(levAts L lv -∗ stt c (q4 8 7 7 7) (q4 6 6 6 6) (q4 7 6 6 6) -∗ slotP c 0 6 0 fullShare.left (cont m ρ (srcAt 0 c 6) 0)
      -∗ (stt c (q4 8 7 7 7) (q4 7 6 6 6) (q4 7 7 6 6) -∗ slotE c 0 6 0 -∗ slotP c 1 7 0 fullShare (cont m ρ (srcAt 1 c 7) 0) -∗ Q ⟨⟩)
      -∗ wp frame (wpE (defs₀ (F := F)) 𝒱₀ (c : Thread nD τ) none) Set.univ (k0_part28 (F := F) xM (Memref.isWhole_whole _) wqM (Memref.isWhole_whole _) woM (Memref.isWhole_whole _) kM (Memref.isWhole_whole _) vM (Memref.isWhole_whole _) oM (Memref.isWhole_whole _) kvM (Memref.isWhole_whole _) cc0_scratch1 cc0_scratch2 cc0_scratch3 cc0_scratch4 v5) Q) := by
  simp only [k0_part28_eq_skeleton]; unfold k0_part28_skel
  simp only [Prog.lift, Prog.bind_op, Prog.bind_ret, Prog.pure_eq_ret]
  iintro #HR #Hl Hst O Hk
  iapply (wp_waitS m ρ K c 0 0 6 (by decide) (cwS_eq 0 6 (by decide) rfl) win_credit (s' := q4 7 6 6 6) (bump00 6 6 6 6) (by decide)) $$ HR Hl Hst
  iintro Hst R
  ihave E := (join_halves c 0 6 0 _) $$ O R
  iapply (wp_waitR m ρ K c 1 0 6 7 rfl (by decide) (ccwR_eq 0 6 (by decide) rfl) win_credit (r' := q4 7 7 6 6) (bump10 7 6 6 6)
    (lt_q4 (by decide) (by decide) (by decide) (by decide)) (le_q4 (by decide))) $$ HR Hl Hst
  iintro Hst P X
  rw [wp_ret]; imodintro
  iapply Hk $$ Hst E P

/-- The seventh up K block is read. -/
theorem part29 (K : Dev nD × Option (Fin 60) → ℕ) (c : Dev nD) (v7 : BitVec 32) (v388 : FVec F S16x256x64 .bf16) (x y : FVec F S16x256x1 .f32) {Q : _ → sProp 𝕄} :
    recs m ρ K ⊢ iprop(levAts L lv -∗ stt c (q4 8 7 7 7) (q4 7 6 6 6) (q4 7 7 6 6) -∗ slotP c 1 6 0 fullShare.left (cont m ρ (srcAt 1 c 6) 0) -∗ slotP c 0 7 0 fullShare.left (cont m ρ (srcAt 0 c 7) 0)
      -∗ (stt c (q4 8 7 7 7) (q4 7 7 6 6) (q4 7 7 6 6) -∗ slotE c 1 6 0 -∗ slotP c 0 7 0 fullShare.left (cont m ρ (srcAt 0 c 7) 0) -∗ Q ⟨k0_pay127 v388 x (kvChunk m ρ (srcAt 0 c 7) 0), k0_pay128 v388 x (kvChunk m ρ (srcAt 0 c 7) 0), k0_pay130 v388 x y (kvChunk m ρ (srcAt 0 c 7) 0), k0_pay131 v388 x (kvChunk m ρ (srcAt 0 c 7) 0)⟩)
      -∗ wp frame (wpE (defs₀ (F := F)) 𝒱₀ (c : Thread nD τ) none) Set.univ (k0_part29 (F := F) xM (Memref.isWhole_whole _) wqM (Memref.isWhole_whole _) woM (Memref.isWhole_whole _) kM (Memref.isWhole_whole _) vM (Memref.isWhole_whole _) oM (Memref.isWhole_whole _) kvM (Memref.isWhole_whole _) cc0_scratch1 cc0_scratch2 cc0_scratch3 cc0_scratch4 v7 v388 x y) Q) := by
  simp only [k0_part29_eq_skeleton]; unfold k0_part29_skel
  simp only [Prog.lift, Prog.bind_op, Prog.bind_ret, Prog.pure_eq_ret]
  iintro #HR #Hl Hst O N Hk
  iapply (wp_waitS m ρ K c 1 0 6 (by decide) (ccwS_eq 0 6 (by decide) rfl) win_credit (s' := q4 7 7 6 6) (bump10 7 6 6 6) (by decide)) $$ HR Hl Hst
  iintro Hst R
  ihave E := (join_halves c 1 6 0 _) $$ O R
  iapply (wp_contLoad m ρ c _ 0 0 7 rfl) $$ N
  iintro N
  rw [wp_ret]; imodintro
  iapply Hk $$ Hst E N

/-- The seventh up V block arrives and makes the last hop. -/
theorem part30 (K : Dev nD × Option (Fin 60) → ℕ) (c : Dev nD) (v7 : BitVec 32) {Q : _ → sProp 𝕄} :
    recs m ρ K ⊢ iprop(levAts L lv -∗ stt c (q4 8 7 7 7) (q4 7 7 6 6) (q4 7 7 6 6) -∗ slotE (nxt c) 0 8 1 -∗ slotP c 0 6 1 fullShare.left (cont m ρ (srcAt 0 c 6) 1)
      -∗ (stt c (q4 8 7 8 7) (q4 7 7 7 6) (q4 7 7 7 6) -∗ slotP c 0 7 1 fullShare.left (cont m ρ (srcAt 0 c 7) 1) -∗ slotE c 0 6 1 -∗ Q ⟨⟩)
      -∗ wp frame (wpE (defs₀ (F := F)) 𝒱₀ (c : Thread nD τ) none) Set.univ (k0_part30 (F := F) xM (Memref.isWhole_whole _) wqM (Memref.isWhole_whole _) woM (Memref.isWhole_whole _) kM (Memref.isWhole_whole _) vM (Memref.isWhole_whole _) oM (Memref.isWhole_whole _) kvM (Memref.isWhole_whole _) cc0_scratch1 cc0_scratch2 cc0_scratch3 cc0_scratch4 c v7) Q) := by
  simp only [k0_part30_eq_skeleton]; unfold k0_part30_skel
  simp only [Prog.lift, Prog.bind_op, Prog.bind_ret, Prog.pure_eq_ret]
  iintro #HR #Hl Hst D O Hk
  iapply (wp_waitR m ρ K c 0 1 6 7 rfl (by decide) (cwR_eq 1 6 (by decide) rfl) win_credit (r' := q4 7 7 7 6) (bump01 7 7 6 6)
    (lt_q4 (by decide) (by decide) (by decide) (by decide)) (le_q4 (by decide))) $$ HR Hl Hst
  iintro Hst P X
  ihave H := (slotP_halves c 0 7 1 _).1 $$ P
  icases H with ⟨N, R⟩
  iapply (wp_hop m ρ K c _ (nxt c) 0 1 7 8 rfl (by decide) (dev12_eq c) rfl off3_7 off3_8 (cwS_eq 1 7 (by decide) rfl) (cwR_eq 1 7 (by decide) rfl) (f' := q4 8 7 8 7) (bump01 8 7 7 7) (by decide)) $$ HR Hst R D []
  · iapply (give_late c 0 1 7 (by decide)); iempintro
  iintro Hst
  iapply (wp_waitS m ρ K c 0 1 6 (by decide) (cwS_eq 1 6 (by decide) rfl) win_credit (s' := q4 7 7 7 6) (bump01 7 7 6 6) (by decide)) $$ HR Hl Hst
  iintro Hst R
  ihave E := (join_halves c 0 6 1 _) $$ O R
  rw [wp_ret]; imodintro
  iapply Hk $$ Hst N E

/-- The seventh up V block and the last down K block are read. -/
theorem part31 (K : Dev nD × Option (Fin 60) → ℕ) (c : Dev nD) (v5 : BitVec 32) (v388 : FVec F S16x256x64 .bf16) (z : FVec F S16x256x64 .f32) (v469 v471 v478 : FVec F S16x256x1 .f32) (v479 : FVec F S16x256x512 .bf16) {Q : _ → sProp 𝕄} :
    recs m ρ K ⊢ iprop(levAts L lv -∗ slotP c 0 7 1 fullShare.left (cont m ρ (srcAt 0 c 7) 1) -∗ slotP c 1 7 0 fullShare (cont m ρ (srcAt 1 c 7) 0)
      -∗ (slotP c 0 7 1 fullShare.left (cont m ρ (srcAt 0 c 7) 1) -∗ slotP c 1 7 0 fullShare (cont m ρ (srcAt 1 c 7) 0) -∗ Q ⟨k0_pay132 z v471 v479 (kvChunk m ρ (srcAt 0 c 7) 1), k0_pay134 v388 v469 (kvChunk m ρ (srcAt 1 c 7) 0), k0_pay135 v388 v469 (kvChunk m ρ (srcAt 1 c 7) 0), k0_pay137 v388 v469 v478 (kvChunk m ρ (srcAt 1 c 7) 0), k0_pay138 v388 v469 (kvChunk m ρ (srcAt 1 c 7) 0)⟩)
      -∗ wp frame (wpE (defs₀ (F := F)) 𝒱₀ (c : Thread nD τ) none) Set.univ (k0_part31 (F := F) xM (Memref.isWhole_whole _) wqM (Memref.isWhole_whole _) woM (Memref.isWhole_whole _) kM (Memref.isWhole_whole _) vM (Memref.isWhole_whole _) oM (Memref.isWhole_whole _) kvM (Memref.isWhole_whole _) cc0_scratch1 cc0_scratch2 cc0_scratch3 cc0_scratch4 v5 v388 z v469 v471 v478 v479) Q) := by
  simp only [k0_part31_eq_skeleton]; unfold k0_part31_skel
  simp only [Prog.lift, Prog.bind_op, Prog.bind_ret, Prog.pure_eq_ret]
  iintro #HR #Hl N P Hk
  iapply (wp_contLoad m ρ c _ 0 1 7 rfl) $$ N
  iintro N
  iapply (wp_contLoad m ρ c _ 1 0 7 rfl) $$ P
  iintro P
  rw [wp_ret]; imodintro
  iapply Hk $$ N P

/-- The last down V block arrives and is read. -/
theorem part32 (K : Dev nD × Option (Fin 60) → ℕ) (c : Dev nD) (v513 : FVec F S16x256x64 .f32) (v523 : FVec F S16x256x1 .f32) (v531 : FVec F S16x256x512 .bf16) {Q : _ → sProp 𝕄} :
    recs m ρ K ⊢ iprop(levAts L lv -∗ stt c (q4 8 7 8 7) (q4 7 7 7 6) (q4 7 7 7 6) -∗ slotP c 1 6 1 fullShare.left (cont m ρ (srcAt 1 c 6) 1)
      -∗ (stt c (q4 8 7 8 7) (q4 7 7 7 7) (q4 7 7 7 7) -∗ slotE c 1 6 1 -∗ slotP c 1 7 1 fullShare (cont m ρ (srcAt 1 c 7) 1) -∗ Q (k0_pay139 v513 v523 v531 (kvChunk m ρ (srcAt 1 c 7) 1)))
      -∗ wp frame (wpE (defs₀ (F := F)) 𝒱₀ (c : Thread nD τ) none) Set.univ (k0_part32 (F := F) xM (Memref.isWhole_whole _) wqM (Memref.isWhole_whole _) woM (Memref.isWhole_whole _) kM (Memref.isWhole_whole _) vM (Memref.isWhole_whole _) oM (Memref.isWhole_whole _) kvM (Memref.isWhole_whole _) cc0_scratch1 cc0_scratch2 cc0_scratch3 cc0_scratch4 v513 v523 v531) Q) := by
  simp only [k0_part32_eq_skeleton]; unfold k0_part32_skel
  simp only [Prog.lift, Prog.bind_op, Prog.bind_ret, Prog.pure_eq_ret]
  iintro #HR #Hl Hst O Hk
  iapply (wp_waitR m ρ K c 1 1 6 7 rfl (by decide) (ccwR_eq 1 6 (by decide) rfl) win_credit (r' := q4 7 7 7 7) (bump11 7 7 7 6)
    (lt_q4 (by decide) (by decide) (by decide) (by decide)) (le_q4 (by decide))) $$ HR Hl Hst
  iintro Hst P X
  iapply (wp_waitS m ρ K c 1 1 6 (by decide) (ccwS_eq 1 6 (by decide) rfl) win_credit (s' := q4 7 7 7 7) (bump11 7 7 7 6) (by decide)) $$ HR Hl Hst
  iintro Hst R
  ihave E := (join_halves c 1 6 1 _) $$ O R
  iapply (wp_contLoad m ρ c _ 1 1 7 rfl) $$ P
  iintro P
  rw [wp_ret]; imodintro
  iapply Hk $$ Hst E P

/-- The last up K block arrives and is read. -/
theorem part33 (K : Dev nD × Option (Fin 60) → ℕ) (c : Dev nD) (v7 : BitVec 32) (v388 : FVec F S16x256x64 .bf16) (v521 : FVec F S16x256x1 .f32) {Q : _ → sProp 𝕄} :
    recs m ρ K ⊢ iprop(levAts L lv -∗ stt c (q4 8 7 8 7) (q4 7 7 7 7) (q4 7 7 7 7) -∗ slotP c 0 7 0 fullShare.left (cont m ρ (srcAt 0 c 7) 0)
      -∗ (stt c (q4 8 7 8 7) (q4 8 7 7 7) (q4 8 7 7 7) -∗ slotE c 0 7 0 -∗ slotP c 0 8 0 fullShare (cont m ρ (srcAt 0 c 8) 0) -∗ Q ⟨k0_pay140 v388 (kvChunk m ρ (srcAt 0 c 8) 0), k0_pay142 v388 v521 (kvChunk m ρ (srcAt 0 c 8) 0), k0_pay143 v388 v521 (kvChunk m ρ (srcAt 0 c 8) 0)⟩)
      -∗ wp frame (wpE (defs₀ (F := F)) 𝒱₀ (c : Thread nD τ) none) Set.univ (k0_part33 (F := F) xM (Memref.isWhole_whole _) wqM (Memref.isWhole_whole _) woM (Memref.isWhole_whole _) kM (Memref.isWhole_whole _) vM (Memref.isWhole_whole _) oM (Memref.isWhole_whole _) kvM (Memref.isWhole_whole _) cc0_scratch1 cc0_scratch2 cc0_scratch3 cc0_scratch4 v7 v388 v521) Q) := by
  simp only [k0_part33_eq_skeleton]; unfold k0_part33_skel
  simp only [Prog.lift, Prog.bind_op, Prog.bind_ret, Prog.pure_eq_ret]
  iintro #HR #Hl Hst O Hk
  iapply (wp_waitR m ρ K c 0 0 7 8 rfl (by decide) (cwR_eq 0 7 (by decide) rfl) win_credit (r' := q4 8 7 7 7) (bump00 7 7 7 7)
    (by decide) (by decide)) $$ HR Hl Hst
  iintro Hst P X
  iapply (wp_waitS m ρ K c 0 0 7 (by decide) (cwS_eq 0 7 (by decide) rfl) win_credit (s' := q4 8 7 7 7) (bump00 7 7 7 7) (by decide)) $$ HR Hl Hst
  iintro Hst R
  ihave E := (join_halves c 0 7 0 _) $$ O R
  iapply (wp_contLoad m ρ c _ 0 0 8 rfl) $$ P
  iintro P
  rw [wp_ret]; imodintro
  iapply Hk $$ Hst E P

/-- The last up V block arrives. -/
theorem part34 (K : Dev nD × Option (Fin 60) → ℕ) (c : Dev nD) (v7 : BitVec 32) (v530 : FVec F S16x256x1 .f32) (v574 : FVec F S16x256x512 .f32) (v579 : FVec F S16x256x1 .f32) (v580 : FVec F S16x256x512 .f32) {Q : _ → sProp 𝕄} :
    recs m ρ K ⊢ iprop(levAts L lv -∗ stt c (q4 8 7 8 7) (q4 8 7 7 7) (q4 8 7 7 7)
      -∗ (stt c (q4 8 7 8 7) (q4 8 7 7 7) (q4 8 7 8 7) -∗ slotP c 0 8 1 fullShare (cont m ρ (srcAt 0 c 8) 1) -∗ Q ⟨k0_pay145 v530 v574 v579 v580, k0_pay146 v574 v580⟩)
      -∗ wp frame (wpE (defs₀ (F := F)) 𝒱₀ (c : Thread nD τ) none) Set.univ (k0_part34 (F := F) xM (Memref.isWhole_whole _) wqM (Memref.isWhole_whole _) woM (Memref.isWhole_whole _) kM (Memref.isWhole_whole _) vM (Memref.isWhole_whole _) oM (Memref.isWhole_whole _) kvM (Memref.isWhole_whole _) cc0_scratch1 cc0_scratch2 cc0_scratch3 cc0_scratch4 v7 v530 v574 v579 v580) Q) := by
  simp only [k0_part34_eq_skeleton]; unfold k0_part34_skel
  simp only [Prog.lift, Prog.bind_op, Prog.bind_ret, Prog.pure_eq_ret]
  iintro #HR #Hl Hst Hk
  iapply (wp_waitR m ρ K c 0 1 7 8 rfl (by decide) (cwR_eq 1 7 (by decide) rfl) win_credit (r' := q4 8 7 8 7) (bump01 8 7 7 7)
    (by decide) (by decide)) $$ HR Hl Hst
  iintro Hst P X
  rw [wp_ret]; imodintro
  iapply Hk $$ Hst P

/-- The last up V block is read, and the first batch of the result stored. -/
theorem part35 (K : Dev nD × Option (Fin 60) → ℕ) (c : Dev nD) (v553 : FVec F S16x256x64 .f32) (v579 v586 : FVec F S16x256x1 .f32) (v587 : FVec F S16x256x512 .bf16) (wo : S512x768.Idx → Elt F .bf16) (f0 : S2x256x768.Idx → Elt F .f32) {Q : _ → sProp 𝕄} :
    recs m ρ K ⊢ iprop(levAts L lv -∗ stt c (q4 8 7 8 7) (q4 8 7 7 7) (q4 8 7 8 7) -∗ slotP c 0 7 1 fullShare.left (cont m ρ (srcAt 0 c 7) 1) -∗ slotP c 0 8 1 fullShare (cont m ρ (srcAt 0 c 8) 1) -∗ woS c wo -∗ oS c f0
      -∗ (stt c (q4 8 7 8 7) (q4 8 7 8 7) (q4 8 7 8 7) -∗ slotE c 0 7 1 -∗ slotP c 0 8 1 fullShare (cont m ρ (srcAt 0 c 8) 1) -∗ woS c wo -∗ oS c (outHalf 0 (k0_pay148 v553 v579 v586 v587 (kvChunk m ρ (srcAt 0 c 8) 1) wo) f0) -∗ Q ⟨k0_pay147 v553 v579 v586 v587 (kvChunk m ρ (srcAt 0 c 8) 1), k0_pay149 v553 v579 v586 v587 (kvChunk m ρ (srcAt 0 c 8) 1), k0_pay150 v553 v579 v586 v587 (kvChunk m ρ (srcAt 0 c 8) 1), k0_pay151 v553 v579 v586 v587 (kvChunk m ρ (srcAt 0 c 8) 1), k0_pay152 v553 v579 v586 v587 (kvChunk m ρ (srcAt 0 c 8) 1), k0_pay153 v553 v579 v586 v587 (kvChunk m ρ (srcAt 0 c 8) 1), k0_pay154 v553 v579 v586 v587 (kvChunk m ρ (srcAt 0 c 8) 1), k0_pay155 v553 v579 v586 v587 (kvChunk m ρ (srcAt 0 c 8) 1)⟩)
      -∗ wp frame (wpE (defs₀ (F := F)) 𝒱₀ (c : Thread nD τ) none) Set.univ (k0_part35 (F := F) xM (Memref.isWhole_whole _) wqM (Memref.isWhole_whole _) woM (Memref.isWhole_whole _) kM (Memref.isWhole_whole _) vM (Memref.isWhole_whole _) oM (Memref.isWhole_whole _) kvM (Memref.isWhole_whole _) cc0_scratch1 cc0_scratch2 cc0_scratch3 cc0_scratch4 v553 v579 v586 v587) Q) := by
  simp only [k0_part35_eq_skeleton]; unfold k0_part35_skel
  simp only [Prog.lift, Prog.bind_op, Prog.bind_ret, Prog.pure_eq_ret]
  iintro #HR #Hl Hst O P Hw Ho Hk
  iapply (wp_waitS m ρ K c 0 1 7 (by decide) (cwS_eq 1 7 (by decide) rfl) win_credit (s' := q4 8 7 8 7) (bump01 8 7 7 7) (by decide)) $$ HR Hl Hst
  iintro Hst R
  ihave E := (join_halves c 0 7 1 _) $$ O R
  iapply (wp_contLoad m ρ c _ 0 1 8 rfl) $$ P
  iintro P
  iapply wp_woLoad $$ Hw
  iintro Hw
  iapply wp_oLoad $$ Ho
  iintro %u Ho
  iapply (wp_oStore 0 rfl) $$ Ho
  iintro Ho
  rw [wp_ret]; imodintro
  iapply Hk $$ Hst E P Hw Ho

end Cert.RingProof

end
-- ==== Proof.Body.lean ====
/-
# The body

The scratch buffer cut in its windows, and the parts put together.
-/
module

public import proofs.«01_k».proof.Proof.Epilogue
public import proofs.«01_k».proof.Proof.Prologue
public import proofs.«01_k».proof.Proof.FillK
public import proofs.«01_k».proof.Proof.FillV
public import Idealize.ShloMosaic.Lib.Ring

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The scratch buffer and its sixteen windows -/

/-- The scratch buffer of device `c` outright, at any contents. -/
def scr (c : Dev nD) : sProp 𝕄 := iprop(∃ f : KVBuf F, kvL c ↦{fullShare} f)

/-- A window by its direction, slot, and K or V. -/
def wn (b : Fin 2 × Fin 4 × Fin 2) : Finset S2x4x2x16x64x512.Idx := W b.1 b.2.1.val b.2.2

/-- Different windows have no element in common. -/
theorem wn_disjoint (b b' : Fin 2 × Fin 4 × Fin 2) (h : b ≠ b') : Disjoint (wn b) (wn b') := by
  rw [Finset.disjoint_left]
  intro i hi hi'
  apply h
  obtain ⟨d, s, kv⟩ := b
  obtain ⟨d', s', kv'⟩ := b'
  obtain ⟨h0, h1, h2⟩ := mem_W.mp hi
  obtain ⟨g0, g1, g2⟩ := mem_W.mp hi'
  change (i 0).val = d.val at h0; change (i 1).val = s.val % 4 at h1; change (i 2).val = kv.val at h2
  change (i 0).val = d'.val at g0; change (i 1).val = s'.val % 4 at g1; change (i 2).val = kv'.val at g2
  have hs := s.isLt
  have hs' := s'.isLt
  have e0 : d = d' := Fin.ext (h0.symm.trans g0)
  have e1 : s = s' := Fin.ext (by omega)
  have e2 : kv = kv' := Fin.ext (h2.symm.trans g2)
  rw [e0, e1, e2]

/-- The sixteen windows are the whole scratch buffer. -/
theorem wn_cover : Finset.univ.biUnion wn = Finset.univ := by
  ext i
  refine iff_of_true (Finset.mem_biUnion.mpr ⟨(⟨(i 0).val, (i 0).isLt⟩, ⟨(i 1).val, (i 1).isLt⟩, ⟨(i 2).val, (i 2).isLt⟩), Finset.mem_univ _, mem_W.mpr ⟨rfl, ?_, rfl⟩⟩) (Finset.mem_univ _)
  exact (Nat.mod_eq_of_lt (i 1).isLt).symm

omit [FloatOps F] in
/-- All the windows at any contents, written out one by one. -/
theorem windows_eq (c : Dev nD) : (bigSep Finset.univ (fun b : Fin 2 × Fin 4 × Fin 2 => iprop(∃ f : KVBuf F, kvL c ↦[wn b]{fullShare} f)) : sProp 𝕄)
    = iprop(slotE c 0 0 0 ∗ slotE c 0 0 1 ∗ slotE c 0 1 0 ∗ slotE c 0 1 1 ∗ slotE c 0 2 0 ∗ slotE c 0 2 1 ∗ slotE c 0 3 0 ∗ slotE c 0 3 1 ∗ slotE c 1 0 0 ∗ slotE c 1 0 1 ∗ slotE c 1 1 0 ∗ slotE c 1 1 1 ∗ slotE c 1 2 0 ∗ slotE c 1 2 1 ∗ slotE c 1 3 0 ∗ slotE c 1 3 1) := by
  rw [bigSep_univ_eq_bigSepL ([(0, 0, 0), (0, 0, 1), (0, 1, 0), (0, 1, 1), (0, 2, 0), (0, 2, 1), (0, 3, 0), (0, 3, 1), (1, 0, 0), (1, 0, 1), (1, 1, 0), (1, 1, 1), (1, 2, 0), (1, 2, 1), (1, 3, 0), (1, 3, 1)] : List (Fin 2 × Fin 4 × Fin 2)) (by decide) (by decide)]
  simp only [bigSepL_cons_cons, bigSepL_singleton]
  rfl

omit [FloatOps F] in
/-- The scratch buffer is its sixteen windows; -/
theorem scr_split (c : Dev nD) : (scr c : sProp 𝕄) ⊢ iprop(slotE c 0 0 0 ∗ slotE c 0 0 1 ∗ slotE c 0 1 0 ∗ slotE c 0 1 1 ∗ slotE c 0 2 0 ∗ slotE c 0 2 1 ∗ slotE c 0 3 0 ∗ slotE c 0 3 1 ∗ slotE c 1 0 0 ∗ slotE c 1 0 1 ∗ slotE c 1 1 0 ∗ slotE c 1 1 1 ∗ slotE c 1 2 0 ∗ slotE c 1 2 1 ∗ slotE c 1 3 0 ∗ slotE c 1 3 1) := by
  rw [← windows_eq c]
  unfold scr
  iintro ⟨%f, H⟩
  ihave H := (Entails.of_eq (Ring.pointsTo_blocks (ℓ := kvL c) wn wn_disjoint wn_cover f)) $$ H
  have h : (bigSep Finset.univ (fun b => kvL c ↦[wn b]{fullShare} f) : sProp 𝕄)
      ⊢ bigSep Finset.univ (fun b : Fin 2 × Fin 4 × Fin 2 => iprop(∃ f : KVBuf F, kvL c ↦[wn b]{fullShare} f)) :=
    bigSep_mono fun b _ => (show (kvL c ↦[wn b]{fullShare} f : sProp 𝕄) ⊢ iprop(∃ f : KVBuf F, kvL c ↦[wn b]{fullShare} f) from by iintro H; iexists f; iexact H)
  iapply h; iexact H

omit [FloatOps F] in
/-- and back. -/
theorem scr_join (c : Dev nD) (f₀ : KVBuf F) : (iprop(slotE c 0 0 0 ∗ slotE c 0 0 1 ∗ slotE c 0 1 0 ∗ slotE c 0 1 1 ∗ slotE c 0 2 0 ∗ slotE c 0 2 1 ∗ slotE c 0 3 0 ∗ slotE c 0 3 1 ∗ slotE c 1 0 0 ∗ slotE c 1 0 1 ∗ slotE c 1 1 0 ∗ slotE c 1 1 1 ∗ slotE c 1 2 0 ∗ slotE c 1 2 1 ∗ slotE c 1 3 0 ∗ slotE c 1 3 1) : sProp 𝕄) ⊢ scr c := by
  rw [← windows_eq c]
  unfold scr
  exact Ring.pointsTo_blocks_join_exists (ℓ := kvL c) wn wn_disjoint wn_cover f₀

/-! ## What the body leaves -/

/-- The query of device `c`: what the kernel multiplies with every K block. -/
def qOf (c : Dev nD) : FVec F S16x256x64 .bf16 := k0_pay115 (xstg m ρ c) (wqstg m ρ c)

/-- The result of device `c`: the eighth block up the ring taken in after the other fifteen, the quotient, the output projection. -/
def outB (c : Dev nD) : S2x256x768.Idx → Elt F .f32 :=
  let q := qOf m ρ c
  let a := kfold m ρ q c 7
  let kc : S1x1x1x16x64x512.Idx → Elt F .bf16 := kvChunk m ρ (srcAt 0 c 8) 0
  let vc : S1x1x1x16x64x512.Idx → Elt F .bf16 := kvChunk m ρ (srcAt 0 c 8) 1
  let n := k0_pay142 q a.1 kc
  let l := k0_pay145 a.2.1 (k0_pay140 q kc) n (k0_pay143 q a.1 kc)
  let p := k0_pay146 (k0_pay140 q kc) (k0_pay143 q a.1 kc)
  fun i => if (i 0).val = 1
    then k0_pay1 (k0_pay147 a.2.2 n l p vc) (k0_pay149 a.2.2 n l p vc) (k0_pay150 a.2.2 n l p vc) (k0_pay151 a.2.2 n l p vc) (k0_pay152 a.2.2 n l p vc)
      (k0_pay153 a.2.2 n l p vc) (k0_pay154 a.2.2 n l p vc) (k0_pay155 a.2.2 n l p vc) (wostg m ρ c) (inBatch i)
    else k0_pay148 a.2.2 n l p vc (wostg m ρ c) (inBatch i)

/-- The seventh round's printed values are the two steps of the running softmax. -/
theorem seven_eq (q : FVec F S16x256x64 .bf16) (x y : FVec F S16x256x1 .f32) (z : FVec F S16x256x64 .f32)
    (k0 v0 k1 v1 : Vec F S1x1x1x16x64x512 .bf16) :
    (k0_pay134 q (k0_pay127 q x k0) k1, k0_pay137 q (k0_pay127 q x k0) (k0_pay130 q x y k0) k1,
      k0_pay139 (k0_pay132 z (k0_pay128 q x k0) (k0_pay131 q x k0) v0) (k0_pay135 q (k0_pay127 q x k0) k1) (k0_pay138 q (k0_pay127 q x k0) k1) v1)
      = kstep q (kstep q (x, y, z) k0 v0) k1 v1 := rfl

/-- Both batches are stored, so what the staged result held before does not matter. -/
theorem out_eq (A : S1x256x768.Idx → Elt F .f32) (B : S1x256x768.Idx → Elt F .f32) (f : S2x256x768.Idx → Elt F .f32) :
    outHalf 1 A (outHalf 0 B f) = fun i => if (i 0).val = 1 then A (inBatch i) else B (inBatch i) := by
  refine funext fun (i : S2x256x768.Idx) => ?_
  have h2 : (i 0).val < 2 := (i 0).isLt
  unfold outHalf
  by_cases h : (i 0).val = 1
  · rw [if_pos (show (i 0).val = (1 : Fin 2).val from h), if_pos h]
  · rw [if_neg (show ¬ (i 0).val = (1 : Fin 2).val from h), if_neg h, if_pos (show (i 0).val = (0 : Fin 2).val from (show (i 0).val = 0 by omega))]

omit [FloatOps F] in
/-- The result buffer at equal contents. -/
theorem oS_of_eq (c : Dev nD) {f g : S2x256x768.Idx → Elt F .f32} (h : f = g) : (oS c f : sProp 𝕄) ⊢ oS c g := by rw [h]
omit [FloatOps F] in
/-- After the last round the down slot kept back is slot 8 modulo 4. -/
theorem keep1_six (c : Dev nD) : (keep1 c 6 : sProp 𝕄) ⊢ slotB c 1 8 := by unfold keep1; rw [if_neg (by decide)]
omit [FloatOps F] in
/-- After the last round the up slot kept back is slot 9 modulo 4. -/
theorem keep0_six (c : Dev nD) : (keep0 c 6 : sProp 𝕄) ⊢ slotB c 0 9 := by unfold keep0; rw [if_neg (by decide)]

/-- The protocol's state at the end: every counter at zero, nothing owed. -/
def endSt (c : Dev nD) : sProp 𝕄 :=
  iprop((bigSep Finset.univ fun k => semVal (kcell c k) 0) ∗ semVal (barCell c) 0 ∗ ∃ Wt, owes (c : Thread nD τ) 0 Wt)

/-- When all hops have been started nothing is left to start. -/
theorem Df_end : Df (q4 8 7 8 7) = ∅ := by decide
/-- When all waits are over no cell is left to wait on. -/
theorem Af_end : Af (q4 8 7 8 7) (q4 8 7 8 7) = ∅ := by decide

/-- The protocol's state after all hops and waits: every transfer counter at zero, nothing owed. -/
theorem stt_end (c : Dev nD) : (stt c (q4 8 7 8 7) (q4 8 7 8 7) (q4 8 7 8 7) : sProp 𝕄)
    ⊢ iprop((bigSep Finset.univ fun k => semVal (kcell c k) 0) ∗ ∃ Wt, owes (c : Thread nD τ) 0 Wt) := by
  have h0 : owedK c ∅ = 0 := by unfold owedK; rw [Finset.filter_empty, Finset.sum_empty]
  unfold stt hopSt hopG
  rw [Df_end, Af_end, Finset.compl_empty, h0]
  iintro ⟨⟨-, H, -, -⟩, HO⟩
  isplitl [H]; · iexact H
  iexact HO

-- The body is one long program, stepped through part by part in one proof: the limits are raised for its length alone.
set_option maxHeartbeats 4000000 in
set_option maxRecDepth 8000 in
/-- The whole body on device `c`: from the launch state, the scratch buffer and the staged operands to counters at zero, nothing owed and the
    result staged. -/
theorem body_run (K : Dev nD × Option (Fin 60) → ℕ) (c : Dev nD) (f0 : S2x256x768.Idx → Elt F .f32) {Q : PUnit → sProp 𝕄} :
    recs m ρ K ⊢ iprop(levAts L lv -∗ startSt c -∗ scr c -∗ xS c (xstg m ρ c) -∗ wqS c (wqstg m ρ c) -∗ woS c (wostg m ρ c)
      -∗ kS c (kstg m ρ c) -∗ vS c (vstg m ρ c) -∗ oS c f0
      -∗ (endSt c -∗ scr c -∗ xS c (xstg m ρ c) -∗ wqS c (wqstg m ρ c) -∗ woS c (wostg m ρ c)
        -∗ kS c (kstg m ρ c) -∗ vS c (vstg m ρ c) -∗ oS c (outB m ρ c) -∗ Q ⟨⟩)
      -∗ wp frame (wpE (defs₀ (F := F)) 𝒱₀ (c : Thread nD τ) none) Set.univ (cc0_body (F := F) xM (Memref.isWhole_whole _) wqM (Memref.isWhole_whole _) woM (Memref.isWhole_whole _) kM (Memref.isWhole_whole _) vM (Memref.isWhole_whole _) oM (Memref.isWhole_whole _) kvM (Memref.isWhole_whole _) cc0_scratch1 cc0_scratch2 cc0_scratch3 cc0_scratch4) Q) := by
  simp only [cc0_body_eq_skeleton]; unfold cc0_body_skel
  simp only [Prog.lift, Prog.bind_op, Prog.bind_ret, Prog.pure_eq_ret, Prog.bind_assoc]
  iintro #HR #Hl Hst Hscr HX HWQ HWO HK HV HO Hk
  ihave Hscr := (scr_split c) $$ Hscr
  icases Hscr with ⟨S000, S001, S010, S011, S020, S021, S030, S031, S100, S101, S110, S111, S120, S121, S130, S131⟩
  ihave R0 := (rows_start c 0 0 (kstg m ρ c)) $$ S000
  ihave R1 := (rows_start c 1 0 (kstg m ρ c)) $$ S100
  rw [wp_bind]
  iapply (part8 c (kstg m ρ c) )
  isplitl [HK R0 R1]
  · isplitl [HK]; · iexact HK
    isplitl [R0]; · iexact R0
    iexact R1
  iintro %v5 %v7 %r8 ⟨%h8, HK, R0, R1⟩
  rw [wp_bind]
  iapply (part9 c (kstg m ρ c) _ h8)
  isplitl [HK R0 R1]
  · isplitl [HK]; · iexact HK
    isplitl [R0]; · iexact R0
    iexact R1
  iintro %r9 ⟨%h9, HK, R0, R1⟩
  rw [wp_bind]
  iapply (part10 c (kstg m ρ c) _ h9)
  isplitl [HK R0 R1]
  · isplitl [HK]; · iexact HK
    isplitl [R0]; · iexact R0
    iexact R1
  iintro ⟨HK, R0, R1⟩
  rw [wp_bind]
  iapply (part11 c (kstg m ρ c) )
  isplitl [HK R0 R1]
  · isplitl [HK]; · iexact HK
    isplitl [R0]; · iexact R0
    iexact R1
  iintro %r11 ⟨%h11, HK, R0, R1⟩
  rw [wp_bind]
  iapply (part12 c (kstg m ρ c) _ h11)
  isplitl [HK R0 R1]
  · isplitl [HK]; · iexact HK
    isplitl [R0]; · iexact R0
    iexact R1
  iintro %r12 %u12 ⟨%h12, HK, R0, R1⟩
  rw [wp_bind]
  iapply (part13 c (kstg m ρ c) _ _ h12)
  isplitl [HK R0 R1]
  · isplitl [HK]; · iexact HK
    isplitl [R0]; · iexact R0
    iexact R1
  iintro %r13 ⟨%h13, HK, R0, R1⟩
  rw [wp_bind]
  iapply (part14 c (kstg m ρ c) _ h13)
  isplitl [HK R0 R1]
  · isplitl [HK]; · iexact HK
    isplitl [R0]; · iexact R0
    iexact R1
  iintro %r14 ⟨%h14, HK, R0, R1⟩
  rw [wp_bind]
  iapply (part15 m ρ K c _ _ _ h14) $$ HR Hl Hst [S010 S011] [S020 S021] [S110 S111] HK R0 R1
  · unfold slotB; isplitl [S010] <;> iassumption
  · unfold slotB; isplitl [S020] <;> iassumption
  · unfold slotB; isplitl [S110] <;> iassumption
  iintro %r15 Hst Hbar B1 B2 C1 HK P00 P10
  ihave B1 := (slotB_open (nxt c) 0 1) $$ B1
  icases B1 with ⟨D00, D01⟩
  ihave C1 := (slotB_open (prv c) 1 1) $$ C1
  icases C1 with ⟨D10, D11⟩
  rw [wp_bind]
  iapply (part16 m ρ K c _ _) $$ HR Hst P00 P10 D00 D10 [S120 S121] HV
  · unfold slotB; isplitl [S120] <;> iassumption
  iintro %r16 %h16 Hst O00 O10 HV
  ihave R0 := (rows_start c 0 1 (vstg m ρ c)) $$ S001
  ihave R1 := (rows_start c 1 1 (vstg m ρ c)) $$ S101
  rw [wp_bind]
  iapply (part17 c (vstg m ρ c) _ h16)
  isplitl [HV R0 R1]
  · isplitl [HV]; · iexact HV
    isplitl [R0]; · iexact R0
    iexact R1
  iintro %r17 %u17 ⟨%h17, %g17, HV, R0, R1⟩
  rw [wp_bind]
  iapply (part18 c (vstg m ρ c) _ _ h17 g17)
  isplitl [HV R0 R1]
  · isplitl [HV]; · iexact HV
    isplitl [R0]; · iexact R0
    iexact R1
  iintro %r18 ⟨%h18, HV, R0, R1⟩
  rw [wp_bind]
  iapply (part19 c (vstg m ρ c) _ h18)
  isplitl [HV R0 R1]
  · isplitl [HV]; · iexact HV
    isplitl [R0]; · iexact R0
    iexact R1
  iintro ⟨HV, R0, R1⟩
  rw [wp_bind]
  iapply (part20 c (vstg m ρ c) )
  isplitl [HV R0 R1]
  · isplitl [HV]; · iexact HV
    isplitl [R0]; · iexact R0
    iexact R1
  iintro %r20 ⟨%h20, HV, R0, R1⟩
  rw [wp_bind]
  iapply (part21 c (vstg m ρ c) _ h20)
  isplitl [HV R0 R1]
  · isplitl [HV]; · iexact HV
    isplitl [R0]; · iexact R0
    iexact R1
  iintro %r21 ⟨%h21, HV, R0, R1⟩
  rw [wp_bind]
  iapply (part22 c (vstg m ρ c) _ h21)
  isplitl [HV R0 R1]
  · isplitl [HV]; · iexact HV
    isplitl [R0]; · iexact R0
    iexact R1
  iintro %r22 ⟨%h22, HV, R0, R1⟩
  rw [wp_bind]
  iapply (part23 c (vstg m ρ c) _ h22)
  isplitl [HV R0 R1]
  · isplitl [HV]; · iexact HV
    isplitl [R0]; · iexact R0
    iexact R1
  iintro %r23 ⟨%h23, HV, R0, R1⟩
  rw [wp_bind]
  iapply (part24 m ρ K c _ _ _ h23) $$ HR Hst R0 R1 D01
  iintro Hst O01 P11
  rw [wp_bind]
  iapply (part25 m ρ K c) $$ HR Hst P11 D11 [S030 S031] HX HWQ
  · unfold slotB; isplitl [S030] <;> iassumption
  iintro Hst O11 HX HWQ
  rw [wp_bind]
  iapply (part26 m ρ K c _ _ _) $$ HR Hl [Hst O00 O10 O01 O11 S130 S131 B2]
  · unfold ringAt
    isplitl [Hst]; · iexact Hst
    isplitl [O00]; · iexact O00
    isplitl [O10]; · iexact O10
    isplitl [O01]; · iexact O01
    isplitl [O11]; · iexact O11
    isplitl [S130 S131]
    · unfold slotB; isplitl [S130] <;> iassumption
    isplitl [B2]; · iexact B2
    isplitl []
    · unfold keep1; rw [if_pos (by decide)]; iempintro
    · unfold keep0; rw [if_pos (by decide)]; iempintro
  iintro Hr
  ihave Hr := (ring_open m ρ c 6) $$ Hr
  icases Hr with ⟨Hst, O00, O10, O01, O11, B19, B08, Kp1, Kp0⟩
  ihave B08 := (slotB_open (nxt c) 0 8) $$ B08
  icases B08 with ⟨D00, D01⟩
  rw [wp_bind]
  iapply (part27 m ρ K c _) $$ HR Hl Hst D00
  iintro Hst N00
  rw [wp_bind]
  iapply (part28 m ρ K c _) $$ HR Hl Hst O00
  iintro Hst E060 P170
  rw [wp_bind]
  iapply (part29 m ρ K c _ _ _ _) $$ HR Hl Hst O10 N00
  iintro Hst E160 N00
  rw [wp_bind]
  iapply (part30 m ρ K c _) $$ HR Hl Hst D01 O01
  iintro Hst N01 E061
  rw [wp_bind]
  iapply (part31 m ρ K c _ _ _ _ _ _ _) $$ HR Hl N01 P170
  iintro N01 P170
  rw [wp_bind]
  iapply (part32 m ρ K c _ _ _) $$ HR Hl Hst O11
  iintro Hst E161 P171
  rw [wp_bind]
  iapply (part33 m ρ K c _ _ _) $$ HR Hl Hst N00
  iintro Hst E070 P080
  rw [wp_bind]
  iapply (part34 m ρ K c _ _ _ _ _) $$ HR Hl Hst
  iintro Hst P081
  rw [wp_bind]
  iapply (part35 m ρ K c _ _ _ _ (wostg m ρ c) f0) $$ HR Hl Hst N01 P081 HWO HO
  iintro Hst E071 P081 HWO HO
  iapply wp_woLoad $$ HWO
  iintro HWO
  iapply wp_oLoad $$ HO
  iintro %u HO
  iapply (wp_oStore 1 rfl) $$ HO
  iintro HO
  rw [wp_ret]; imodintro
  ihave HO := (oS_of_eq c (out_eq _ _ f0)) $$ HO
  ihave Hst := (stt_end c) $$ Hst
  icases Hst with ⟨Hsem, How⟩
  ihave Kp1 := (keep1_six c) $$ Kp1
  ihave Kp0 := (keep0_six c) $$ Kp0
  ihave B19 := (slotB_open c 1 9) $$ B19
  icases B19 with ⟨E190, E191⟩
  ihave Kp1 := (slotB_open c 1 8) $$ Kp1
  icases Kp1 with ⟨E180, E181⟩
  ihave Kp0 := (slotB_open c 0 9) $$ Kp0
  icases Kp0 with ⟨E090, E091⟩
  ihave E170 := (slotE_intro c 1 7 0 _) $$ P170
  ihave E171 := (slotE_intro c 1 7 1 _) $$ P171
  ihave E080 := (slotE_intro c 0 8 0 _) $$ P080
  ihave E081 := (slotE_intro c 0 8 1 _) $$ P081
  ihave E080 := (slotE_mod c 0 8 0 0 (by decide)) $$ E080
  ihave E081 := (slotE_mod c 0 8 0 1 (by decide)) $$ E081
  ihave E090 := (slotE_mod c 0 9 1 0 (by decide)) $$ E090
  ihave E091 := (slotE_mod c 0 9 1 1 (by decide)) $$ E091
  ihave E060 := (slotE_mod c 0 6 2 0 (by decide)) $$ E060
  ihave E061 := (slotE_mod c 0 6 2 1 (by decide)) $$ E061
  ihave E070 := (slotE_mod c 0 7 3 0 (by decide)) $$ E070
  ihave E071 := (slotE_mod c 0 7 3 1 (by decide)) $$ E071
  ihave E180 := (slotE_mod c 1 8 0 0 (by decide)) $$ E180
  ihave E181 := (slotE_mod c 1 8 0 1 (by decide)) $$ E181
  ihave E190 := (slotE_mod c 1 9 1 0 (by decide)) $$ E190
  ihave E191 := (slotE_mod c 1 9 1 1 (by decide)) $$ E191
  ihave E160 := (slotE_mod c 1 6 2 0 (by decide)) $$ E160
  ihave E161 := (slotE_mod c 1 6 2 1 (by decide)) $$ E161
  ihave E170 := (slotE_mod c 1 7 3 0 (by decide)) $$ E170
  ihave E171 := (slotE_mod c 1 7 3 1 (by decide)) $$ E171
  iapply Hk $$ [Hsem Hbar How] [E080 E081 E090 E091 E060 E061 E070 E071 E180 E181 E190 E191 E160 E161 E170 E171] HX HWQ HWO HK HV [HO]
  · unfold endSt
    isplitl [Hsem]; · iexact Hsem
    isplitl [Hbar]; · iexact Hbar
    iexact How
  · iapply (scr_join c (cont m ρ c 0))
    isplitl [E080]; · iexact E080
    isplitl [E081]; · iexact E081
    isplitl [E090]; · iexact E090
    isplitl [E091]; · iexact E091
    isplitl [E060]; · iexact E060
    isplitl [E061]; · iexact E061
    isplitl [E070]; · iexact E070
    isplitl [E071]; · iexact E071
    isplitl [E180]; · iexact E180
    isplitl [E181]; · iexact E181
    isplitl [E190]; · iexact E190
    isplitl [E191]; · iexact E191
    isplitl [E160]; · iexact E160
    isplitl [E161]; · iexact E161
    isplitl [E170]; · iexact E170
    iexact E171
  · iapply (oS_of_eq c (show _ = outB m ρ c from rfl)); iexact HO

end Cert.RingProof

end
-- ==== Proof.Obligation.lean ====
/-
# The body as the pipeline calls it

The body run from and to what the pipeline hands over and takes back.
-/
module

public import proofs.«01_k».proof.Proof.Body
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

/-- What device `c`'s body starts from, besides what it owes and the scratch buffer: the shared records, the levels, the protocol's
    launch state. -/
def start (c : Dev nD) : sProp 𝕄 :=
  iprop((∃ K, recs m ρ K) ∗ levAts L lv ∗ hopG c Finset.univ Finset.univ ∗ barG c ∗ cred (tallyAt (barCell c) () 2))

/-- Before the body: what it starts from, and the scratch buffer. -/
def Φ₀ (c : Dev nD) : sProp 𝕄 := iprop(start m ρ c ∗ scr c)
/-- After the body: every counter at zero, the scratch buffer at any contents. -/
def Φ₁ (c : Dev nD) : sProp 𝕄 := iprop((bigSep Finset.univ fun k => semVal (kcell c k) 0) ∗ semVal (barCell c) 0 ∗ scr c)

/-- The pipeline's data: what the arrays hold, what each window holds after the body, the invariant before and after, what is owed. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wqstg m ρ c
    | ⟨2, _⟩ => wostg m ρ c
    | ⟨3, _⟩ => kstg m ρ c
    | ⟨4, _⟩ => vstg m ρ c
    | ⟨5, _⟩ => outB m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
/-- A conjunction over the six windows, written out. -/
theorem bigSep_W (Φ : Fin cfg0.W → sProp 𝕄) : bigSep Finset.univ Φ
    = iprop(Φ (0 : Fin 6) ∗ Φ (1 : Fin 6) ∗ Φ (2 : Fin 6) ∗ Φ (3 : Fin 6) ∗ Φ (4 : Fin 6) ∗ Φ (5 : Fin 6)) := bigSep_W0 Φ

omit [FloatOps F] in
/-- Owning a whole buffer at contents `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

/-- A staging buffer of device `c` at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

-- The depth is for the shapes of the six staging buffers.
set_option maxRecDepth 4000 in
/-- What the body is given. -/
def bodyPre (c : Dev nD) : sProp 𝕄 :=
  iprop(Φ₀ m ρ c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

/-- What the body leaves. -/
def bodyPost (c : Dev nD) : sProp 𝕄 :=
  iprop(Φ₁ c ∗ (dats m ρ 0 c).owesAt () t0_0.succ
    ∗ stg c cc0_stg0_0 (xstg m ρ c)
    ∗ stg c cc0_stg1_0 (wqstg m ρ c)
    ∗ stg c cc0_stg2_0 (wostg m ρ c)
    ∗ stg c cc0_stg3_0 (kstg m ρ c)
    ∗ stg c cc0_stg4_0 (vstg m ρ c)
    ∗ stg c cc0_stg5_0 (outB m ρ c))

/-- Before the body window 0 holds the inputs of the queries; -/
theorem before_0 (c : Dev nD) (d : (cfg0.win (0 : Fin 6)).block.Idx → Elt F (cfg0.win (0 : Fin 6)).elt) : (dats m ρ 0 c).before (0 : Fin 6) t0_0 d = xstg m ρ c := by
  unfold Dat.before; rw [if_pos (fetch0_0 t0_0)]; rfl
/-- window 1 the query projection; -/
theorem before_1 (c : Dev nD) (d : (cfg0.win (1 : Fin 6)).block.Idx → Elt F (cfg0.win (1 : Fin 6)).elt) : (dats m ρ 0 c).before (1 : Fin 6) t0_0 d = wqstg m ρ c := by
  unfold Dat.before; rw [if_pos (fetch0_1 t0_0)]; rfl
/-- window 2 the output projection; -/
theorem before_2 (c : Dev nD) (d : (cfg0.win (2 : Fin 6)).block.Idx → Elt F (cfg0.win (2 : Fin 6)).elt) : (dats m ρ 0 c).before (2 : Fin 6) t0_0 d = wostg m ρ c := by
  unfold Dat.before; rw [if_pos (fetch0_2 t0_0)]; rfl
/-- window 3 the keys; -/
theorem before_3 (c : Dev nD) (d : (cfg0.win (3 : Fin 6)).block.Idx → Elt F (cfg0.win (3 : Fin 6)).elt) : (dats m ρ 0 c).before (3 : Fin 6) t0_0 d = kstg m ρ c := by
  unfold Dat.before; rw [if_pos (fetch0_3 t0_0)]; rfl
/-- window 4 the values. -/
theorem before_4 (c : Dev nD) (d : (cfg0.win (4 : Fin 6)).block.Idx → Elt F (cfg0.win (4 : Fin 6)).elt) : (dats m ρ 0 c).before (4 : Fin 6) t0_0 d = vstg m ρ c := by
  unfold Dat.before; rw [if_pos (fetch0_4 t0_0)]; rfl
-- The depth is for the shapes of the six staging buffers.
set_option maxRecDepth 4000 in
/-- The library's body obligation on core `c`. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  show bodyPre m ρ c ⊢ wp frame (wpE (defs₀ (F := F)) 𝒱₀ (c : Thread nD τ) none) Set.univ
    (cc0_body xM (Memref.isWhole_whole _) wqM (Memref.isWhole_whole _) woM (Memref.isWhole_whole _) kM (Memref.isWhole_whole _) vM (Memref.isWhole_whole _) oM (Memref.isWhole_whole _) kvM (Memref.isWhole_whole _) cc0_scratch1 cc0_scratch2 cc0_scratch3 cc0_scratch4) (fun _ => bodyPost m ρ c)
  unfold bodyPre Φ₀ start
  iintro ⟨⟨⟨⟨%K, #HR⟩, #Hl, Hh, Hb, Hc⟩, Hscr⟩, Ho, ⟨%d0, %g0, %h0, HX⟩, ⟨%d1, %g1, %h1, HWQ⟩, ⟨%d2, %g2, %h2, HWO⟩, ⟨%d3, %g3, %h3, HK⟩, ⟨%d4, %g4, %h4, HV⟩, ⟨%d5, %g5, %h5, HO⟩⟩
  rw [before_0] at h0
  rw [before_1] at h1
  rw [before_2] at h2
  rw [before_3] at h3
  rw [before_4] at h4
  subst h0 h1 h2 h3 h4
  unfold Dat.owesAt Pipeline.owesWithin
  icases Ho with ⟨%W, %hW, How⟩
  rw [show (dats m ρ 0 c).owed t0_0.castSucc = O₀ c from rfl]
  iapply (body_run m ρ K c g5) $$ HR Hl [Hh Hb Hc How] Hscr [HX] [HWQ] [HWO] [HK] [HV] [HO]
  · unfold startSt
    isplitl [Hh]; · iexact Hh
    isplitl [Hb]; · iexact Hb
    isplitl [Hc]; · iexact Hc
    iexists W; iexact How
  · unfold xS; iexact HX
  · unfold wqS; iexact HWQ
  · unfold woS; iexact HWO
  · unfold kS; iexact HK
  · unfold vS; iexact HV
  · unfold oS; iexact HO
  iintro He Hscr HX HWQ HWO HK HV HO
  unfold endSt
  icases He with ⟨Hsem, Hbar, ⟨%Wt, How⟩⟩
  unfold bodyPost Φ₁ Dat.owesAt Pipeline.owesWithin
  rw [show (dats m ρ 0 c).owed t0_0.succ = 0 from rfl]
  isplitl [Hsem Hbar Hscr]
  · isplitl [Hsem]; · iexact Hsem
    isplitl [Hbar] <;> iassumption
  isplitl [How]
  · iexists Wt
    isplitr; · ipureintro; exact fun _ _ => Or.inl trivial
    iexact How
  isplitl [HX]
  · iexists _; isplitr; · (ipureintro; rfl)
    unfold xS; iexact HX
  isplitl [HWQ]
  · iexists _; isplitr; · (ipureintro; rfl)
    unfold wqS; iexact HWQ
  isplitl [HWO]
  · iexists _; isplitr; · (ipureintro; rfl)
    unfold woS; iexact HWO
  isplitl [HK]
  · iexists _; isplitr; · (ipureintro; rfl)
    unfold kS; iexact HK
  isplitl [HV]
  · iexists _; isplitr; · (ipureintro; rfl)
    unfold vS; iexact HV
  iexists _; isplitr; · (ipureintro; rfl)
  unfold oS; iexact HO

end Cert.RingProof

end
-- ==== Proof.Launch.lean ====
/-
# The launch

The shared protocol is set up once for all sixteen devices, and the kernels run.
-/
module

public import proofs.«01_k».proof.Proof.Obligation
public import Idealize.ShloMosaic.Lib.Pipeline.CollectiveSegs

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the launch mints -/

/-- The kernel's own semaphores: the sixty transfer semaphores. -/
def osem : Fin 60 → SemLoc sig := fun k => .dma (dsem k)

/-- The kernel's own semaphores are the sixty, each once. -/
theorem ownSemFacts : Pipeline.OwnSemFacts cfg0.spec osem := by decide +kernel

/-- Every window's array is held whole. -/
theorem share_eq (c : Dev nD) (w : Fin cfg0.W) : (dats m ρ 0 c).share w = fullShare := by unfold Dat.share; split <;> rfl

/-- Different cells of different devices are different semaphores. -/
theorem ccell_injective : Function.Injective (ccell : Dev nD × Option (Fin 60) → GSem nD τ sig) := by
  rintro ⟨c, k⟩ ⟨c', k'⟩ h
  have h1 : c = c' := by
    have := congrArg (fun g : GSem nD τ sig => g.1.1) h
    cases k <;> cases k' <;> exact this
  subst h1
  have h2 := congrArg Prod.snd h
  cases k with
  | none => cases k' with
    | none => rfl
    | some k' => exact absurd h2.symm (k_ne_bar k')
  | some k => cases k' with
    | none => exact absurd h2 (k_ne_bar k)
    | some k' => have h3 : dsem k = dsem k' := SemLoc.dma.inj h2
                 rw [dsem_inj h3]

/-- All the cells of the protocol. -/
def ringCells : Finset (GSem nD τ sig) := Finset.univ.map ⟨ccell, ccell_injective⟩

/-- A device's own cells' duty tokens as minted: its barrier's two and one of each transfer cell. -/
abbrev tokOf (cj : Dev nD × (Bool ⊕ Fin 60)) : GSem nD τ sig × ℕ × Bool := match cj.2 with
  | .inl b => (barCell cj.1, 0, b)
  | .inr k => (kcell cj.1 k, 0, false)

/-- Different duty tokens are of different duties. -/
theorem tokOf_injective : Function.Injective (tokOf : Dev nD × (Bool ⊕ Fin 60) → GSem nD τ sig × ℕ × Bool) := by
  rintro ⟨c, j⟩ ⟨c', j'⟩ h
  have h1 : c = c' := by
    have := congrArg (fun x : GSem nD τ sig × ℕ × Bool => x.1.1.1) h
    cases j <;> cases j' <;> exact this
  subst h1
  have h2 := congrArg (fun x : GSem nD τ sig × ℕ × Bool => x.1.2) h
  have h3 := congrArg (fun x : GSem nD τ sig × ℕ × Bool => x.2.2) h
  cases j with
  | inl b => cases j' with
    | inl b' => have : b = b' := h3
                rw [this]
    | inr k => exact absurd (Eq.symm h2) (k_ne_bar k)
  | inr k => cases j' with
    | inl b' => exact absurd h2 (k_ne_bar k)
    | inr k' => have h4 : dsem k = dsem k' := SemLoc.dma.inj h2
                rw [dsem_inj h4]

/-- All the duty tokens of the protocol. -/
def ringToks : Finset (GSem nD τ sig × ℕ × Bool) := Finset.univ.map ⟨tokOf, tokOf_injective⟩

/-- The ghost state at launch: the pipeline's and the ring protocol's. -/
def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop(dutyTok ER (barCell c) 0 false ∗ dutyTok ER (barCell c) 0 true ∗ bigSep Finset.univ fun k : Fin 60 => dutyTok ER (kcell c k) 0 false)

/-- The tokens of the duties device `c` pays. -/
def payToks (c : Dev nD) : sProp 𝕄 :=
  iprop(dutyTok ER (barCell (prv c)) 0 false ∗ dutyTok ER (barCell (nxt c)) 0 true ∗ bigSep Finset.univ fun k : Fin 60 => dutyTok ER (kcell (dst c k) k) 0 false)

/-- What the launch element deals device `c`. -/
def G (c : Dev nD) : sProp 𝕄 :=
  iprop((bigSep Finset.univ fun k : Option (Fin 60) => roundState ER (ringRd m ρ) (ccell (c, k)) 0)
    ∗ (bigSep Finset.univ fun k : Option (Fin 60) => iprop(atPos ER (ccell (c, k)) 0 ∅ 0 ∗ reached ER (ccell (c, k)) 0)) ∗ toks c)

/-- What stays with device `c` after the global step: its positions and the tokens it pays with. -/
def linear (c : Dev nD) : sProp 𝕄 :=
  iprop((bigSep Finset.univ fun k : Option (Fin 60) => atPos ER (ccell (c, k)) 0 ∅ 0) ∗ payToks c)

/-- What the global step makes of `G`. -/
def G' (c : Dev nD) : sProp 𝕄 := iprop(∃ K, recs m ρ K ∗ linear c)

omit [FloatOps F] in
/-- A conjunction over an optional number: the one without, and the others. -/
theorem bigSep_opt (Φ : Option (Fin 60) → sProp 𝕄) :
    bigSep Finset.univ Φ = iprop(Φ none ∗ bigSep Finset.univ fun k => Φ (some k)) := by
  have h : (Finset.univ.erase none : Finset (Option (Fin 60))) = Finset.univ.map Function.Embedding.some := by
    ext k; cases k <;> simp
  rw [bigSep_univ_at Φ none, h, bigSep_map]; rfl

omit [FloatOps F] in
/-- A conjunction over the two Booleans. -/
theorem bigSep_bool (Φ : Bool → sProp 𝕄) : bigSep Finset.univ Φ = iprop(Φ false ∗ Φ true) :=
  bigSep_univ_eq_bigSepL [false, true] (by decide) (by decide) Φ

omit [FloatOps F] in
/-- The protocol's ghost state at launch deals every device its part. -/
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Option (Fin 60) => Φ (ccell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks; rw [bigSep_univ_sum, bigSep_bool]
    exact equiv_iff.mp ⟨BI.sep_assoc, BI.sep_assoc'⟩
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The kernel's own semaphores at zero are the sixty transfer cells at zero. -/
theorem ownSems0_eq (c : Dev nD) : (Pipeline.ownSems0 (Ix := Unit) (Name := ℕ) (U := UU) (Lvl := ℕ) (Val := Elt F) (τ := τ) osem c : sProp 𝕄)
    = bigSep Finset.univ fun k : Fin 60 => semVal (kcell c k) 0 := by
  unfold Pipeline.ownSems0 osem; rfl
omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide +kernel)]; rfl

omit [FloatOps F] in
/-- The semaphores at zero are the cells at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option (Fin 60) => semVal (ccell (c, k)) 0 : sProp 𝕄) := by
  rw [ownSems0_eq, unscopedSems0_eq, bigSep_opt]
  iintro ⟨HS, HB⟩
  isplitl [HB] <;> iassumption

omit [FloatOps F] in
/-- One device's cells become invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (ccell (c, k))))
          ∗ (bigSep Finset.univ fun k => iprop(atPos ER (ccell (c, k)) 0 ∅ 0 ∗ reached ER (ccell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Option (Fin 60) => semVal (ccell (c, k)) 0) ∗ bigSep Finset.univ fun k : Option (Fin 60) => roundState ER (ringRd m ρ) (ccell (c, k)) 0)
      ⊢ (|={Set.univ}=> bigSep Finset.univ fun k => iprop(∃ κ : ℕ, cellInv ER (ringRd m ρ) κ (ccell (c, k))) : sProp 𝕄) from by
        rw [← bigSep_sep']
        exact (bigSep_mono fun k _ => (Rounds.body_intro ER (ringRd m ρ) (ccell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Where the token of cell `k` goes from: the device that completes a receive of `c` sits the other way. -/
def dstE (k : Fin 60) : Dev nD ≃ Dev nD := if isRecv k then ringD (dirK k) else Equiv.refl _
/-- The bijection says where a token goes. -/
theorem dstE_apply (k : Fin 60) (c : Dev nD) : dstE k c = dst c k := by
  unfold dstE dst; split <;> rfl

omit [FloatOps F] in
/-- The transfer cells' tokens, dealt by owner, are the same tokens dealt by payer. -/
theorem ktoks_around : (bigSep Finset.univ fun c : Dev nD => bigSep Finset.univ fun k : Fin 60 => (dutyTok ER (kcell c k) 0 false : sProp 𝕄))
    = bigSep Finset.univ fun c : Dev nD => bigSep Finset.univ fun k : Fin 60 => dutyTok ER (kcell (dst c k) k) 0 false := by
  rw [Pipeline.bigSep_univ_comm (fun (c : Dev nD) (k : Fin 60) => (dutyTok ER (kcell c k) 0 false : sProp 𝕄)),
    Pipeline.bigSep_univ_comm (fun (c : Dev nD) (k : Fin 60) => (dutyTok ER (kcell (dst c k) k) 0 false : sProp 𝕄))]
  refine bigSep_congr fun k _ => ?_
  rw [bigSep_univ_equiv (dstE k) (fun c : Dev nD => (dutyTok ER (kcell c k) 0 false : sProp 𝕄))]
  exact bigSep_congr fun c _ => by rw [dstE_apply]

omit [FloatOps F] in
/-- The tokens dealt around the ring. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', ktoks_around,
    bigSep_univ_equiv ring.symm (fun c : Dev nD => (dutyTok ER (barCell c) 0 false : sProp 𝕄)),
    bigSep_univ_equiv ring (fun c : Dev nD => (dutyTok ER (barCell c) 0 true : sProp 𝕄))]
  exact Entails.refl _

omit [FloatOps F] in
/-- What may be repeated is shared out to every device. -/
theorem share_out {R : sProp 𝕄} [BI.Persistent R] {Φ Ψ : Dev nD → sProp 𝕄}
    (h : ∀ c, iprop(R ∗ Φ c) ⊢ Ψ c) : iprop(R ∗ bigSep Finset.univ Φ) ⊢ bigSep Finset.univ Ψ :=
  (sep_mono_left (BI.bigSep_of_persistent Finset.univ R)).trans (by rw [← bigSep_sep']; exact bigSep_mono fun c _ => h c)

omit [FloatOps F] in
/-- The records and a device's positions and tokens are what the device starts with. -/
theorem ghost_intro (K : Dev nD × Option (Fin 60) → ℕ) (c : Dev nD) : iprop(recs m ρ K ∗ linear c) ⊢ G' m ρ c := by
  unfold G'
  iintro H
  iexists K
  iexact H

omit [FloatOps F] in
/-- The devices' parts, put together, name every invariant and send the tokens round. -/
theorem regroup :
    (bigSep Finset.univ fun c : Dev nD => iprop((bigSep Finset.univ fun k => iprop(∃ κ : ℕ, cellInv ER (ringRd m ρ) κ (ccell (c, k))))
          ∗ (bigSep Finset.univ fun k => iprop(atPos ER (ccell (c, k)) 0 ∅ 0 ∗ reached ER (ccell (c, k)) 0)) ∗ toks c) : sProp 𝕄)
      ⊢ bigSep Finset.univ (G' m ρ) := by
  rw [bigSep_sep', bigSep_sep', ← bigSep_univ_prod (fun ck : Dev nD × Option (Fin 60) => iprop(∃ κ : ℕ, cellInv ER (ringRd m ρ) κ (ccell ck))),
    bigSep_congr (s := Finset.univ) (fun (c : Dev nD) _ => bigSep_sep' Finset.univ (fun k : Option (Fin 60) => (atPos ER (ccell (c, k)) 0 ∅ 0 : sProp 𝕄)) (fun k => reached ER (ccell (c, k)) 0)),
    bigSep_sep', ← bigSep_univ_prod (fun ck : Dev nD × Option (Fin 60) => (reached ER (ccell ck) 0 : sProp 𝕄))]
  iintro ⟨HI, ⟨Hat, #HR⟩, Htok⟩
  ihave HK := (BI.bigSep_exists_pi Finset.univ (fun (ck : Dev nD × Option (Fin 60)) (κ : ℕ) => (cellInv ER (ringRd m ρ) κ (ccell ck) : sProp 𝕄))) $$ HI
  icases HK with ⟨%K, #HI⟩
  ihave Htk := (toks_around (F := F)) $$ Htok
  iapply (share_out (R := recs m ρ K) fun c => ghost_intro m ρ K c)
  isplitr
  · unfold recs; isplitl; · iexact HI
    iexact HR
  · unfold linear
    rw [bigSep_sep']
    isplitl [Hat]; · iexact Hat
    iexact Htk

omit [FloatOps F] in
/-- The global step: every device's semaphores at once become invariants, the tokens go around. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- Barrier cells are equal when their devices are. -/
theorem bar_eq_iff {a b : Dev nD} : Iff (barCell a = barCell b) (a = b) :=
  ⟨fun h => Fin.ext (congrArg (fun g : GSem nD τ sig => g.1.1.val) h), fun h => h ▸ rfl⟩
/-- Transfer cells are equal when their devices and numbers are. -/
theorem kcell_eq {a b : Dev nD} {k j : Fin 60} (h : kcell a k = kcell b j) : a = b ∧ k = j :=
  ⟨Fin.ext (congrArg (fun g : GSem nD τ sig => g.1.1.val) h), dsem_inj (SemLoc.dma.inj (congrArg Prod.snd h))⟩

/-- The transfers owe the barrier nothing. -/
theorem owedK_bar (d c : Dev nD) : owedK d Finset.univ (barCell c) () = 0 := by
  unfold owedK
  rw [Finset.sum_apply, Finsupp.finset_sum_apply]
  refine Finset.sum_eq_zero fun k _ => ?_
  rw [tallyAt_apply, if_neg (fun h => k_ne_bar k (congrArg Prod.snd h.1).symm)]

/-- A receive cell is owed one window's credit, by the device that sends to it. -/
theorem owedK_k (d c : Dev nD) (k : Fin 60) (hk : isRecv k = true) :
    owedK d Finset.univ (kcell c k) () = if d = fromD (dirK k) c then N else 0 := by
  unfold owedK
  rw [Finset.sum_apply, Finsupp.finset_sum_apply, Finset.sum_eq_single k]
  · rw [tallyAt_apply]
    by_cases h : d = fromD (dirK k) c
    · rw [if_pos h, h, toD_fromD, if_pos ⟨rfl, rfl⟩]
    · rw [if_neg h, if_neg (fun h' => h (by rw [(kcell_eq (And.left h')).1, fromD_toD]))]
  · intro j _ hj
    rw [tallyAt_apply, if_neg (fun h => hj (kcell_eq h.1).2.symm)]
  · intro h
    exact absurd (Finset.mem_filter.mpr ⟨Finset.mem_univ k, hk⟩) h

/-- What device `d` owes device `c`'s barrier cell: a unit for each neighbour. -/
theorem owed_bar (d c : Dev nD) : O₀ d (barCell c) () = (if d = prv c then 1 else 0) + (if d = nxt c then 1 else 0) := by
  unfold O₀ O₁
  rw [Pi.add_apply, Finsupp.add_apply, Pi.add_apply, Finsupp.add_apply, owedK_bar, tallyAt_apply, tallyAt_apply, Nat.zero_add]
  congr 1
  · by_cases h : d = prv c
    · subst h; rw [nxt_prv, if_pos ⟨rfl, rfl⟩, if_pos rfl]
    · rw [if_neg (fun ⟨h1, _⟩ => h (by rw [← prv_nxt d]; exact congrArg prv (bar_eq_iff.mp h1).symm)), if_neg h]
  · by_cases h : d = nxt c
    · subst h; rw [prv_nxt, if_pos ⟨rfl, rfl⟩, if_pos rfl]
    · rw [if_neg (fun ⟨h1, _⟩ => h (by rw [← nxt_prv d]; exact congrArg nxt (bar_eq_iff.mp h1).symm)), if_neg h]

/-- The same of all that a device owes at launch. -/
theorem owed_k (d c : Dev nD) (k : Fin 60) (hk : isRecv k = true) : O₀ d (kcell c k) () = if d = fromD (dirK k) c then N else 0 := by
  unfold O₀ O₁
  rw [Pi.add_apply, Finsupp.add_apply, Pi.add_apply, Finsupp.add_apply, owedK_k d c k hk,
    tallyAt_ne_cell (fun h => k_ne_bar k (congrArg Prod.snd h)), tallyAt_ne_cell (fun h => k_ne_bar k (congrArg Prod.snd h)), Finsupp.zero_apply, Nat.add_zero, Nat.add_zero]

/-- Together the devices owe a barrier cell two units. -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

/-- Together the devices owe a receive cell one window's credit. -/
theorem launch_k (c : Dev nD) (k : Fin 60) (hk : isRecv k = true) :
    tallyOn (kcell c k) (launchCredit (Pipeline.owing O₀) 0 (kcell c k)) = (tallyAt (kcell c k) () N : CellTallies nD τ sig Unit) := by
  unfold tallyAt; refine congrArg _ (Finsupp.ext fun u => ?_); cases u
  rw [Pipeline.launchCredit_owing, Finsupp.single_eq_same, Finset.sum_congr rfl fun d _ => owed_k d c k hk, Finset.sum_ite_eq' Finset.univ (fromD (dirK k) c) fun _ => N,
    if_pos (Finset.mem_univ _)]

/-- At launch the cells whose credit is dealt are receive cells. -/
theorem recv_of_credS {k : Fin 60} (h : k ∈ credS Finset.univ Finset.univ) : isRecv k = true := by
  unfold credS at h
  rcases (Finset.mem_filter.mp h).2 with h' | h'
  · exact h'
  · exact absurd (Finset.mem_univ k) h'

omit [FloatOps F] in
/-- The credit at launch: two units of the barrier and one window's for each receive cell. -/
theorem creds (c : Dev nD) :
    (Pipeline.launchCred O₀ c : sProp 𝕄) ⊢ iprop(cred (tallyAt (barCell c) () 2)
      ∗ bigSep (credS Finset.univ Finset.univ) fun k => cred (tallyAt (kcell c k) () N)) := by
  unfold Pipeline.launchCred
  rw [bigSep_univ_at _ (SemLoc.reg barS), launch_bar]
  refine sep_mono_right ?_
  refine (bigSep_subset (t := (credS Finset.univ Finset.univ).map ⟨fun k => SemLoc.dma (dsem k), fun a b h => dsem_inj (SemLoc.dma.inj h)⟩) ?_).trans ?_
  · intro sm hsm
    obtain ⟨k, _, rfl⟩ := Finset.mem_map.mp hsm
    exact Finset.mem_erase.mpr ⟨k_ne_bar k, Finset.mem_univ _⟩
  · rw [bigSep_map]
    refine bigSep_mono fun k hk => ?_
    exact Entails.of_eq (congrArg cred (launch_k c k (recv_of_credS hk)))

/-! ## The side conditions -/

omit [FloatOps F] in
/-- What the launch deals a device is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  unfold G' linear payToks
  icases HG with ⟨%K, HR, Hat, Hf, Ht, Hk⟩
  ihave Hat' := (Entails.of_eq (bigSep_opt (F := F) fun k => atPos ER (ccell (c, k)) 0 ∅ 0)) $$ Hat
  icases Hat' with ⟨HaB, HaK⟩
  imodintro
  unfold start hopG barG
  isplitl
  · isplitl [HR]; · iexists K; iexact HR
    isplitl [Hlev]; · iexact Hlev
    isplitl [HaK Hk HN]
    · isplitl [HaK]; · iexact HaK
      isplitr
      · rw [Finset.compl_univ, bigSep_empty]; iempintro
      isplitl [Hk] <;> iassumption
    isplitl [HaB Hf Ht]
    · isplitl [HaB]; · iexact HaB
      isplitl [Hf] <;> iassumption
    iexact H1
  · iempintro

/-- With the scratch buffer it is the pipeline's invariant before the body. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

/-- The pipeline's invariant after the body gives back every semaphore at zero and the scratch buffer. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scr
  iintro ⟨Hk, Hb, Hr⟩
  isplitl [Hb]; · iexact Hb
  isplitl [Hk]; · iexact Hk
  iexact Hr

/-- Everything owed at launch lies above level 0. -/
theorem above_start (c : Dev nD) : Above 0 (O₀ c) := by
  unfold O₀ O₁ owedK
  refine Above.add (Above.add (Above.sum _ _ fun j hj => Above.tally _ _ _ ?_) (Above.tally _ _ _ ?_)) (Above.tally _ _ _ ?_)
  · rw [lv_k, if_pos (Finset.mem_filter.mp hj).2]; omega
  · rw [lv_bar]; omega
  · rw [lv_bar]; omega

/-- The pipeline's own waits are allowed. -/
theorem waits (c : Dev nD) : (levAts L lv : sProp 𝕄) ⊢ Pipeline.cellsWaits cfgs (dats m ρ) () 0 c :=
  Pipeline.cellsWaits_intro cfgs (dats m ρ) () 0 c fun w s t =>
    mayWait_above c _ 0 (by fin_cases w <;> fin_cases s <;> (revert c; decide)) _ (by
      rcases t with ⟨_ | _, ht⟩
      · exact above_start c
      · exact Above.zero 0)

/-! ## The run -/

/-- The contents of a window's array after the run. -/
def finalA (c : Dev nD) (w : Fin cfg0.W) : Buf (Elt F) ((cfg0.win w).arr.view.loc (c : Thread nD τ)) := (dats m ρ 0 c).arrAt w cfg0.N

/-- Every device's arrays end at those contents. -/
def QC : PUnit × MemSt nD τ sig (Elt F) → Prop := fun r =>
  ∀ c : Dev nD, ∀ w : Fin cfg0.W, r.2.mem ((cfg0.win w).arr.view.loc (c : Thread nD τ)) = finalA m ρ c w

-- The depth is for the six windows' side conditions, which are compared through the whole program.
set_option maxRecDepth 8000 in
/-- On sixteen devices, for any float values, from any memory with zero counters: every weakly fair execution of the kernels ends,
    and every final state has each device's arrays at the computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input's array after the run holds what it held. -/
theorem finalA_in (c : Dev nD) (w : Fin cfg0.W) (h : (cfg0.win w).isOut = false) : finalA m ρ c w = (s₀ m ρ).mem ((cfg0.win w).arr.view.loc (c : Thread nD τ)) :=
  (dats (F := F) m ρ 0 c).arrAt_in w h _

end Cert.RingProof

end
-- ==== Proof.Frames.lean ====
/-
# The frames

The kernel, its idealization and the reference run, leave their arguments as they were, and leave every semaphore at zero.
-/
module

public import proofs.«01_k».proof.Defs
public import proofs.«01_k».proof.Proof.Gen.Kernel
public import proofs.«01_k».proof.Proof.Gen.ReferenceIdeal.Run
public import proofs.«01_k».proof.Proof.Launch
public import Idealize.ShloMosaic.Lib.Quiescent

@[expose] public section

noncomputable section

namespace Cert.Proof

open Idealize.ShloMosaic Idealize.ShloMosaic.TcCoe Idealize.SL.Sem
open Cert.RingProof

/-- At the end of the run the five arguments hold what they held. -/
theorem args_kept {F : FTy → Type} [FloatOps F] (m : (ℓ : Loc Cert.KernelIdeal.nD Cert.KernelIdeal.τ Cert.KernelIdeal.sig) → Buf (Elt F) ℓ)
    (ρ : Dev Cert.KernelIdeal.nD → PrngReg) (r : PUnit × MemSt Cert.KernelIdeal.nD Cert.KernelIdeal.τ Cert.KernelIdeal.sig (Elt F))
    (h : QC m ρ r) (c : Dev Cert.KernelIdeal.nD) :
    r.2.mem ((c : Thread Cert.KernelIdeal.nD Cert.KernelIdeal.τ).loc Cert.KernelIdeal.main_arg0) = m ((c : Thread Cert.KernelIdeal.nD Cert.KernelIdeal.τ).loc Cert.KernelIdeal.main_arg0)
    ∧ r.2.mem ((c : Thread Cert.KernelIdeal.nD Cert.KernelIdeal.τ).loc Cert.KernelIdeal.main_arg1) = m ((c : Thread Cert.KernelIdeal.nD Cert.KernelIdeal.τ).loc Cert.KernelIdeal.main_arg1)
    ∧ r.2.mem ((c : Thread Cert.KernelIdeal.nD Cert.KernelIdeal.τ).loc Cert.KernelIdeal.main_arg2) = m ((c : Thread Cert.KernelIdeal.nD Cert.KernelIdeal.τ).loc Cert.KernelIdeal.main_arg2)
    ∧ r.2.mem ((c : Thread Cert.KernelIdeal.nD Cert.KernelIdeal.τ).loc Cert.KernelIdeal.main_arg3) = m ((c : Thread Cert.KernelIdeal.nD Cert.KernelIdeal.τ).loc Cert.KernelIdeal.main_arg3)
    ∧ r.2.mem ((c : Thread Cert.KernelIdeal.nD Cert.KernelIdeal.τ).loc Cert.KernelIdeal.main_arg4) = m ((c : Thread Cert.KernelIdeal.nD Cert.KernelIdeal.τ).loc Cert.KernelIdeal.main_arg4) :=
  ⟨(h c (0 : Fin 6)).trans (finalA_in m ρ c (0 : Fin 6) rfl), (h c (1 : Fin 6)).trans (finalA_in m ρ c (1 : Fin 6) rfl),
    (h c (3 : Fin 6)).trans (finalA_in m ρ c (3 : Fin 6) rfl), (h c (4 : Fin 6)).trans (finalA_in m ρ c (4 : Fin 6) rfl),
    (h c (2 : Fin 6)).trans (finalA_in m ρ c (2 : Fin 6) rfl)⟩

/-- The run over any float values: the arguments are kept and every semaphore ends at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun r h => ⟨fun c => args_kept m ρ r h.1 c, h.2⟩) (run_main (F := F) m ρ)

/-- The idealization's frame, from its run. -/
theorem frame_ideal : Cert.quiescent_KernelIdeal := fun m ρ _ => frame_any (F := Ideal) m ρ

/-- The two programs have one text: their kernels are the same function, -/
theorem defs₀_same : Cert.Kernel.defs₀ (F := Bits) = Cert.KernelIdeal.defs₀ := by
  unfold Cert.Kernel.defs₀ Cert.KernelIdeal.defs₀
  refine congrArg Defs.onTc (funext fun l => funext fun p => ?_)
  match l, p with
  | 0, (t, s) => rfl
  | ⟨_ + 1, h⟩, _ => exact absurd h (Nat.not_lt.2 (Nat.le_add_left _ _))

/-- and so are the tables the pipeline adds its own entries to. -/
theorem defs_same : Cert.Kernel.defs (F := Bits) = Cert.KernelIdeal.defs := congrArg (Pipeline.defs _) defs₀_same

/-- The kernel's frame: the same run, over bit-exact floats. -/
theorem frame_kernel : Cert.quiescent_Kernel := fun m ρ _ => by
  rw [defs_same]
  exact frame_any (F := Bits) m ρ

/-- The reference's frame: it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Softmax.lean ====
/-
# A softmax taken in block by block

Sums of exponentials over a set of blocks of scores, taken against the set's maximum, and how they change when
one more block is taken in. All over the extended reals, infinities included: nothing is assumed of the scores
or of the weighted values.
-/
module

public import proofs.«01_k».proof.Proof.Common
public import Idealize.ShloMosaic.PureOps.Ideal

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- An exponential is not negative. -/
theorem exp_nonneg (x : EReal) : 0 ≤ Ideal.exp x := by
  induction x with
  | bot => exact le_refl _
  | top => exact le_top
  | coe r =>
    show (0 : EReal) ≤ ((Real.exp r : ℝ) : EReal)
    exact_mod_cast (Real.exp_pos r).le

/-- Nothing times the exponential of a sum that is no more than zero is infinite: that exponential is finite. -/
theorem exp_ne_top {m M : EReal} (h : m ≤ M) : Ideal.exp (m - M) ≠ ⊤ := by
  induction M with
  | bot =>
    obtain rfl : m = ⊥ := le_bot_iff.mp h
    exact EReal.zero_ne_top
  | top =>
    have : m - (⊤ : EReal) = ⊥ := by rw [sub_eq_add_neg, EReal.neg_top, EReal.add_bot]
    rw [this]; exact EReal.zero_ne_top
  | coe M =>
    induction m with
    | bot => rw [EReal.bot_sub]; exact EReal.zero_ne_top
    | top => exact absurd h (by simp)
    | coe m => exact EReal.coe_ne_top _

/-- Moving an exponential from one bound to a larger one is a product. -/
theorem exp_rebase {s m M : EReal} (h : s ≤ m) (h' : m ≤ M) :
    Ideal.exp (s - m) * Ideal.exp (m - M) = Ideal.exp (s - M) := by
  induction M with
  | bot =>
    obtain rfl : m = ⊥ := le_bot_iff.mp h'
    obtain rfl : s = ⊥ := le_bot_iff.mp h
    exact mul_zero _
  | top =>
    have a : ∀ x : EReal, x - (⊤ : EReal) = ⊥ := fun x => by rw [sub_eq_add_neg, EReal.neg_top, EReal.add_bot]
    rw [a, a]; exact mul_zero _
  | coe M =>
    induction m with
    | bot =>
      obtain rfl : s = ⊥ := le_bot_iff.mp h
      rw [EReal.bot_sub]; exact mul_zero _
    | top => exact absurd h' (by simp)
    | coe m =>
      induction s with
      | bot => rw [EReal.bot_sub, EReal.bot_sub]; exact zero_mul _
      | top => exact absurd h (by simp)
      | coe s =>
        show ((Real.exp (s - m) : ℝ) : EReal) * ((Real.exp (m - M) : ℝ) : EReal) = ((Real.exp (s - M) : ℝ) : EReal)
        rw [← EReal.coe_mul, ← Real.exp_add]
        congr 2; ring

/-- A finite factor that is not negative goes through a sum, whatever the signs and infinities of its terms. -/
theorem sum_mul_fin {α : Type} (T : Finset α) (f : α → EReal) {c : EReal} (h : 0 ≤ c) (h' : c ≠ ⊤) :
    (∑ j ∈ T, f j) * c = ∑ j ∈ T, f j * c := by
  classical
  induction T using Finset.induction_on with
  | empty => simp
  | insert a T ha ih =>
    rw [Finset.sum_insert ha, Finset.sum_insert ha, EReal.right_distrib_of_nonneg_of_ne_top h h', ih]

section Blocks
variable {ι : Type} [DecidableEq ι] {n : ℕ}

/-- The largest score in the blocks of a set. -/
def topOf (S : Finset ι) (s : ι → Fin n → EReal) : EReal := S.sup fun e => Finset.univ.sup (s e)
/-- The sum of the exponentials of the scores in the blocks of a set, against `M`. -/
def massOf (S : Finset ι) (s : ι → Fin n → EReal) (M : EReal) : EReal := ∑ e ∈ S, ∑ t, Ideal.exp (s e t - M)
/-- The same sum with each term times its value. -/
def wsumOf (S : Finset ι) (s v : ι → Fin n → EReal) (M : EReal) : EReal :=
  ∑ e ∈ S, ∑ t, Ideal.exp (s e t - M) * v e t

/-- No score is above the largest. -/
theorem le_topOf (S : Finset ι) (s : ι → Fin n → EReal) {e : ι} (he : e ∈ S) (t : Fin n) : s e t ≤ topOf S s :=
  (Finset.le_sup (f := s e) (Finset.mem_univ t)).trans (Finset.le_sup (f := fun e => Finset.univ.sup (s e)) he)

/-- One more block: the maximum. -/
theorem topOf_insert (S : Finset ι) (s : ι → Fin n → EReal) (e : ι) :
    max (topOf S s) (Finset.univ.sup (s e)) = topOf (insert e S) s := by
  unfold topOf; rw [Finset.sup_insert]; exact max_comm _ _

/-- Moving the sum of exponentials to a larger bound. -/
theorem massOf_rebase (S : Finset ι) (s : ι → Fin n → EReal) {M : EReal} (h : topOf S s ≤ M) :
    massOf S s (topOf S s) * Ideal.exp (topOf S s - M) = massOf S s M := by
  unfold massOf
  rw [sum_mul_fin S _ (exp_nonneg _) (exp_ne_top h)]
  refine Finset.sum_congr rfl fun e he => ?_
  rw [sum_mul_fin _ _ (exp_nonneg _) (exp_ne_top h)]
  exact Finset.sum_congr rfl fun t _ => exp_rebase (le_topOf S s he t) h

/-- Moving the weighted sum to a larger bound. -/
theorem wsumOf_rebase (S : Finset ι) (s v : ι → Fin n → EReal) {M : EReal} (h : topOf S s ≤ M) :
    wsumOf S s v (topOf S s) * Ideal.exp (topOf S s - M) = wsumOf S s v M := by
  unfold wsumOf
  rw [sum_mul_fin S _ (exp_nonneg _) (exp_ne_top h)]
  refine Finset.sum_congr rfl fun e he => ?_
  rw [sum_mul_fin _ _ (exp_nonneg _) (exp_ne_top h)]
  refine Finset.sum_congr rfl fun t _ => ?_
  rw [mul_right_comm, exp_rebase (le_topOf S s he t) h]

/-- One more block: the sum of exponentials. -/
theorem massOf_insert (S : Finset ι) (s : ι → Fin n → EReal) {e : ι} (he : e ∉ S) {M : EReal} (h : topOf S s ≤ M) :
    massOf S s (topOf S s) * Ideal.exp (topOf S s - M) + ∑ t, Ideal.exp (s e t - M) = massOf (insert e S) s M := by
  rw [massOf_rebase S s h]; unfold massOf; rw [Finset.sum_insert he]; exact add_comm _ _

/-- One more block: the weighted sum. -/
theorem wsumOf_insert (S : Finset ι) (s v : ι → Fin n → EReal) {e : ι} (he : e ∉ S) {M : EReal} (h : topOf S s ≤ M) :
    wsumOf S s v (topOf S s) * Ideal.exp (topOf S s - M) + ∑ t, Ideal.exp (s e t - M) * v e t
      = wsumOf (insert e S) s v M := by
  rw [wsumOf_rebase S s v h]; unfold wsumOf; rw [Finset.sum_insert he]; exact add_comm _ _

end Blocks

end Cert.RingProof

end
-- ==== Proof.Read.lean ====
/-
# The kernel's values element by element

What one block's step of the running softmax makes of each element, over the extended reals.
-/
module

public import proofs.«01_k».proof.Proof.Loop
public import proofs.«01_k».proof.Proof.Softmax
public import Idealize.ShloMosaic.Lib.Pointwise

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The matrix of a block of keys or values, read at an element. -/
theorem block_apply {α : Type} (kk : S1x1x1x16x64x512.Idx → α) (H) (h : Fin 16) (d : Fin 64) (t : Fin 512) :
    shapeCast S16x64x512 kk H (ix3 h d t) = kk (ix6 0 0 0 h d t) := by
  pointwise

/-- The product of the queries with a block of keys, read at an element. -/
theorem qk_apply (q : FVec Ideal S16x256x64 .bf16) (kk : FVec Ideal S16x64x512 .bf16) (h : Fin 16) (i : Fin 256) (t : Fin 512) :
    matmul (F := Ideal) dot_S16x256x64_S16x64x512_S16x256x512_2_1_1_2_0_0 none q kk (constant S16x256x512 .f32 0x00000000#32) (ix3 h i t)
      = ∑ d : Fin 64, q (ix3 h i d) * kk (ix3 h d t) := by
  pointwise

/-- The product of the weights with a block of values, read at an element. -/
theorem pv_apply (p : FVec Ideal S16x256x512 .bf16) (vv : FVec Ideal S16x64x512 .bf16) (h : Fin 16) (i : Fin 256) (d : Fin 64) :
    matmul (F := Ideal) dot_S16x256x512_S16x64x512_S16x256x64_2_2_1_1_0_0 none p vv (constant S16x256x64 .f32 0x00000000#32) (ix3 h i d)
      = ∑ t : Fin 512, p (ix3 h i t) * vv (ix3 h d t) := by
  pointwise

/-- A row's maximum, read at an element. -/
theorem rowmax_apply (s : FVec Ideal S16x256x512 .f32) (h : Fin 16) (i : Fin 256) :
    shapeCast S16x256x1 (multiReduction .maximumf [2] S16x256 s 0xFF800000#32 reduces_S16x256x512_S16x256 (.inl rfl) rfl)
        shapeCasts_S16x256_S16x256x1 (ix3 h i 0)
      = Finset.univ.fold max (Ideal.ofBits .f32 0xFF800000#32) fun t : Fin 512 => s (ix3 h i t) := by
  pointwise

/-- A row's sum, read at an element. -/
theorem rowsum_apply (s : FVec Ideal S16x256x512 .f32) (h : Fin 16) (i : Fin 256) :
    shapeCast S16x256x1 (multiReduction .add [2] S16x256 s 0x00000000#32 reduces_S16x256x512_S16x256 (.inl rfl) rfl)
        shapeCasts_S16x256_S16x256x1 (ix3 h i 0)
      = ∑ t : Fin 512, s (ix3 h i t) := by
  pointwise

/-- A column spread over the keys, read at an element. -/
theorem spread_key (s : FVec Ideal S16x256x1 .f32) (h : Fin 16) (i : Fin 256) (t : Fin 512) :
    broadcastTo S16x256x512 s broadcasts_S16x256x1_S16x256x512 (ix3 h i t) = s (ix3 h i 0) := by
  pointwise

/-- A column spread over the features, read at an element. -/
theorem spread_feat (s : FVec Ideal S16x256x1 .f32) (h : Fin 16) (i : Fin 256) (d : Fin 64) :
    broadcastTo S16x256x64 s broadcasts_S16x256x1_S16x256x64 (ix3 h i d) = s (ix3 h i 0) := by
  pointwise

/-- The word of the scale. -/
abbrev scl : EReal := Ideal.ofBits .f32 0x3E000000#32

/-- The scaled score of query row `(h, i)` against key `t` of a block. -/
def scoreOf (q : FVec Ideal S16x256x64 .bf16) (kk : Vec Ideal S1x1x1x16x64x512 .bf16) (h : Fin 16) (i : Fin 256) (t : Fin 512) : EReal :=
  (∑ d : Fin 64, q (ix3 h i d) * kk (ix6 0 0 0 h d t)) * scl

/-- An element of a block's scores. -/
theorem score_apply (q : FVec Ideal S16x256x64 .bf16) (kk : Vec Ideal S1x1x1x16x64x512 .bf16) (h : Fin 16) (i : Fin 256) (t : Fin 512) :
    k0_pay119 (F := Ideal) q kk (ix3 h i t) = scoreOf q kk h i t :=
  congrArg (· * scl) ((qk_apply q _ h i t).trans (Finset.sum_congr rfl fun d _ => congrArg (q (ix3 h i d) * ·) (block_apply kk _ h d t)))

/-- Minus infinity is the neutral word of a maximum. -/
theorem ofBits_neg_inf : Ideal.ofBits .f32 0xFF800000#32 = (⊥ : EReal) := by
  simp [Ideal.ofBits, Ideal.ieee]

/-- The zero word is zero. -/
theorem ofBits_zero : Ideal.ofBits .f32 0x00000000#32 = (0 : EReal) := by
  simp [Ideal.ofBits, Ideal.ieee]

/-- The new maximum of row `(h, i)`. -/
theorem top_apply (q : FVec Ideal S16x256x64 .bf16) (mx : FVec Ideal S16x256x1 .f32) (kk : Vec Ideal S1x1x1x16x64x512 .bf16)
    (h : Fin 16) (i : Fin 256) :
    k0_pay120 (F := Ideal) q mx kk (ix3 h i 0) = max (mx (ix3 h i 0)) (Finset.univ.sup (scoreOf q kk h i)) := by
  refine congrArg (max (mx (ix3 h i 0))) ((rowmax_apply (k0_pay119 q kk) h i).trans ?_)
  rw [ofBits_neg_inf, Finset.sup_def, funext fun t => score_apply q kk h i t]
  rfl

/-- What the old sums of row `(h, i)` are scaled by. -/
theorem scale_apply (q : FVec Ideal S16x256x64 .bf16) (mx : FVec Ideal S16x256x1 .f32) (kk : Vec Ideal S1x1x1x16x64x512 .bf16)
    (h : Fin 16) (i : Fin 256) :
    k0_pay121 (F := Ideal) q mx kk (ix3 h i 0) = Ideal.exp (mx (ix3 h i 0) - max (mx (ix3 h i 0)) (Finset.univ.sup (scoreOf q kk h i))) :=
  congrArg (fun z => Ideal.exp (mx (ix3 h i 0) - z)) (top_apply q mx kk h i)

/-- The weight of key `t` of the block in row `(h, i)`. -/
theorem weight_apply (q : FVec Ideal S16x256x64 .bf16) (mx : FVec Ideal S16x256x1 .f32) (kk : Vec Ideal S1x1x1x16x64x512 .bf16)
    (h : Fin 16) (i : Fin 256) (t : Fin 512) :
    k0_pay122 (F := Ideal) q mx kk (ix3 h i t)
      = Ideal.exp (scoreOf q kk h i t - max (mx (ix3 h i 0)) (Finset.univ.sup (scoreOf q kk h i))) :=
  congrArg₂ (fun y z : EReal => Ideal.exp (y - z)) (score_apply q kk h i t)
    ((spread_key (k0_pay120 q mx kk) h i t).trans (top_apply q mx kk h i))

/-- The new sum of the weights of row `(h, i)`. -/
theorem mass_apply (q : FVec Ideal S16x256x64 .bf16) (mx l : FVec Ideal S16x256x1 .f32) (kk : Vec Ideal S1x1x1x16x64x512 .bf16)
    (h : Fin 16) (i : Fin 256) :
    k0_pay123 (F := Ideal) q mx l kk (ix3 h i 0)
      = l (ix3 h i 0) * Ideal.exp (mx (ix3 h i 0) - max (mx (ix3 h i 0)) (Finset.univ.sup (scoreOf q kk h i)))
        + ∑ t : Fin 512, Ideal.exp (scoreOf q kk h i t - max (mx (ix3 h i 0)) (Finset.univ.sup (scoreOf q kk h i))) :=
  congrArg₂ (fun y z : EReal => l (ix3 h i 0) * y + z) (scale_apply q mx kk h i)
    ((rowsum_apply (k0_pay122 q mx kk) h i).trans (Finset.sum_congr rfl fun t _ => weight_apply q mx kk h i t))

/-- The new weighted sum of feature `d` of row `(h, i)`. -/
theorem wsum_apply (q : FVec Ideal S16x256x64 .bf16) (mx : FVec Ideal S16x256x1 .f32) (a : FVec Ideal S16x256x64 .f32)
    (kk vv : Vec Ideal S1x1x1x16x64x512 .bf16) (h : Fin 16) (i : Fin 256) (d : Fin 64) :
    k0_pay124 (F := Ideal) q mx a kk vv (ix3 h i d)
      = a (ix3 h i d) * Ideal.exp (mx (ix3 h i 0) - max (mx (ix3 h i 0)) (Finset.univ.sup (scoreOf q kk h i)))
        + ∑ t : Fin 512, Ideal.exp (scoreOf q kk h i t - max (mx (ix3 h i 0)) (Finset.univ.sup (scoreOf q kk h i)))
            * vv (ix6 0 0 0 h d t) :=
  congrArg₂ (fun y z : EReal => a (ix3 h i d) * y + z)
    ((spread_feat (k0_pay121 q mx kk) h i d).trans (scale_apply q mx kk h i))
    ((pv_apply _ _ h i d).trans (Finset.sum_congr rfl fun t _ =>
      congrArg₂ (fun y z : EReal => y * z) (weight_apply q mx kk h i t) (block_apply vv _ h d t)))

/-- The running softmax holds exactly the blocks of `S`, of those `kc` and `vc` name. -/
def AccIs (q : FVec Ideal S16x256x64 .bf16) (kc vc : Dev nD → S1x1x1x16x64x512.Idx → EReal) (S : Finset (Dev nD)) (a : Acc Ideal) : Prop :=
  ∀ (h : Fin 16) (i : Fin 256),
    a.1 (ix3 h i 0) = topOf S (fun e => scoreOf q (kc e) h i)
    ∧ a.2.1 (ix3 h i 0) = massOf S (fun e => scoreOf q (kc e) h i) (topOf S fun e => scoreOf q (kc e) h i)
    ∧ ∀ d : Fin 64, a.2.2 (ix3 h i d)
        = wsumOf S (fun e => scoreOf q (kc e) h i) (fun e t => vc e (ix6 0 0 0 h d t)) (topOf S fun e => scoreOf q (kc e) h i)

/-- What the running softmax starts from holds no block. -/
theorem accIs_empty (q : FVec Ideal S16x256x64 .bf16) (kc vc : Dev nD → S1x1x1x16x64x512.Idx → EReal) :
    AccIs q kc vc ∅ (k0_pay116, k0_pay117, k0_pay118) := by
  intro h i
  refine ⟨?_, ?_, fun d => ?_⟩
  · exact ofBits_neg_inf.trans rfl
  · exact ofBits_zero.trans Finset.sum_empty.symm
  · exact ofBits_zero.trans Finset.sum_empty.symm

/-- One more block taken in. -/
theorem accIs_step (q : FVec Ideal S16x256x64 .bf16) (kc vc : Dev nD → S1x1x1x16x64x512.Idx → EReal) {S : Finset (Dev nD)}
    {a : Acc Ideal} (H : AccIs q kc vc S a) {e : Dev nD} (he : e ∉ S) :
    AccIs q kc vc (insert e S) (kstep q a (kc e) (vc e)) := by
  intro h i
  obtain ⟨h1, h2, h3⟩ := H h i
  have hM := topOf_insert S (fun e => scoreOf q (kc e) h i) e
  have hle : topOf S (fun e => scoreOf q (kc e) h i) ≤ topOf (insert e S) (fun e => scoreOf q (kc e) h i) :=
    hM ▸ le_max_left _ _
  refine ⟨?_, ?_, fun d => ?_⟩
  · refine (top_apply q a.1 (kc e) h i).trans ?_
    rw [h1]; exact hM
  · refine (mass_apply q a.1 a.2.1 (kc e) h i).trans ?_
    rw [h1, h2, hM]; exact massOf_insert S _ he hle
  · refine (wsum_apply q a.1 a.2.2 (kc e) (vc e) h i d).trans ?_
    rw [h1, h3 d, hM]; exact wsumOf_insert S _ _ he hle

end Cert.RingProof

end
-- ==== Proof.Heads.lean ====
/-
# Heads laid side by side

How the kernel splits the projected queries into heads and lays the heads of the result side by side.
-/
module

public import proofs.«01_k».proof.Proof.Common
public import Idealize.ShloMosaic.Lib.Pipeline.Value
public import Idealize.ShloMosaic.Lib.Pointwise

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Sixteen matrices stacked, read at an element. -/
theorem stack_apply {α : Type} (P : Fin 16 → S1x256x64.Idx → α) (h : Fin 16) (i : Fin 256) (d : Fin 64) :
    concatenate S16x256x64 0 [⟨S1x256x64, P 0⟩, ⟨S1x256x64, P 1⟩, ⟨S1x256x64, P 2⟩, ⟨S1x256x64, P 3⟩, ⟨S1x256x64, P 4⟩, ⟨S1x256x64, P 5⟩, ⟨S1x256x64, P 6⟩, ⟨S1x256x64, P 7⟩, ⟨S1x256x64, P 8⟩, ⟨S1x256x64, P 9⟩, ⟨S1x256x64, P 10⟩, ⟨S1x256x64, P 11⟩, ⟨S1x256x64, P 12⟩, ⟨S1x256x64, P 13⟩, ⟨S1x256x64, P 14⟩, ⟨S1x256x64, P 15⟩] concatenates_S1x256x64_S1x256x64_S1x256x64_S1x256x64_S1x256x64_S1x256x64_S1x256x64_S1x256x64_S1x256x64_S1x256x64_S1x256x64_S1x256x64_S1x256x64_S1x256x64_S1x256x64_S1x256x64_S16x256x64_d0 (ix3 h i d) = P h (ix3 0 i d) := by
  refine concatenate_ofFn_unit_apply (t := S16x256x64) (s₁ := S1x256x64) 0 P concatenates_S1x256x64_S1x256x64_S1x256x64_S1x256x64_S1x256x64_S1x256x64_S1x256x64_S1x256x64_S1x256x64_S1x256x64_S1x256x64_S1x256x64_S1x256x64_S1x256x64_S1x256x64_S1x256x64_S16x256x64_d0 rfl rfl (ix3 h i d) h rfl (ix3 0 i d) fun b hb => ?_
  match b with
  | ⟨0, _⟩ => exact absurd rfl hb
  | ⟨1, _⟩ => rfl
  | ⟨2, _⟩ => rfl

/-- Eight matrices side by side, read at an element. -/
theorem side_apply {α : Type} (P : Fin 8 → S256x64.Idx → α) (i : Fin 256) (k : Fin 512) :
    concatenate S256x512 1 [⟨S256x64, P 0⟩, ⟨S256x64, P 1⟩, ⟨S256x64, P 2⟩, ⟨S256x64, P 3⟩, ⟨S256x64, P 4⟩, ⟨S256x64, P 5⟩, ⟨S256x64, P 6⟩, ⟨S256x64, P 7⟩] concatenates_S256x64_S256x64_S256x64_S256x64_S256x64_S256x64_S256x64_S256x64_S256x512_d1 (ix2 i k) = P ⟨k.val / 64, by omega⟩ (ix2 i ⟨k.val % 64, by omega⟩) := by
  refine concatenate_ofFn_apply (t := S256x512) (s₁ := S256x64) 1 P concatenates_S256x64_S256x64_S256x64_S256x64_S256x64_S256x64_S256x64_S256x64_S256x512_d1 rfl 64 rfl (ix2 i k) ⟨k.val / 64, by omega⟩ rfl
    (ix2 i ⟨k.val % 64, by omega⟩) rfl fun b hb => ?_
  match b with
  | ⟨0, _⟩ => rfl
  | ⟨1, _⟩ => exact absurd rfl hb

/-- One head cut out of the projected queries, read at an element. -/
theorem cut_apply {α : Type} (y : S512x512.Idx → α) (o1 o2 : ℕ) (hs : S512x512.Slices ![o1, o2] S256x64) (hc : S256x64.ShapeCasts S1x256x64)
    (i : Fin 256) (d : Fin 64) (r k : Fin 512) (hr : o1 + i.val = r.val) (hk : o2 + d.val = k.val) :
    shapeCast S1x256x64 (extractStridedSlice S256x64 ![o1, o2] y hs) hc (ix3 0 i d) = y (ix2 r k) := by
  have h1 : shapeCast S1x256x64 (extractStridedSlice S256x64 ![o1, o2] y hs) hc (ix3 0 i d)
      = extractStridedSlice S256x64 ![o1, o2] y hs (ix2 i d) := by pointwise
  rw [h1]
  refine congrArg y (funext fun b => Fin.ext ?_)
  match b with
  | ⟨0, _⟩ => exact hr
  | ⟨1, _⟩ => exact hk

/-- One head cut out of the attention's result, read at an element. -/
theorem pick_apply {α : Type} (a : S16x256x64.Idx → α) (o : ℕ) (hs : S16x256x64.Slices ![o, 0, 0] S1x256x64) (hc : S1x256x64.ShapeCasts S256x64)
    (i : Fin 256) (d : Fin 64) (r : Fin 16) (hr : o = r.val) :
    shapeCast S256x64 (extractStridedSlice S1x256x64 ![o, 0, 0] a hs) hc (ix2 i d) = a (ix3 r i d) := by
  have h1 : shapeCast S256x64 (extractStridedSlice S1x256x64 ![o, 0, 0] a hs) hc (ix2 i d)
      = extractStridedSlice S1x256x64 ![o, 0, 0] a hs (ix3 0 i d) := by pointwise
  rw [h1]
  refine congrArg a (funext fun b => Fin.ext ?_)
  match b with
  | ⟨0, _⟩ => exact hr
  | ⟨1, _⟩ => exact Nat.zero_add _
  | ⟨2, _⟩ => exact Nat.zero_add _

/-- The projected queries, row `i` of both batches one after the other. -/
def projOf (x : Vec Ideal S2x256x768 .bf16) (wq : Vec Ideal S768x512 .bf16) : FVec Ideal S512x512 .bf16 :=
  truncf .bf16 (matmul (φ₁ := .bf16) (φ₂ := .bf16) dot_S512x768_S768x512_S512x512_1_0_0_1_n_n none
    (shapeCast S512x768 (shapeCast S2x256x768 x shapeCasts_S2x256x768_S2x256x768) shapeCasts_S2x256x768_S512x768)
    (shapeCast S768x512 wq shapeCasts_S768x512_S768x512) (constant S512x512 .f32 0x00000000#32)) bitsLt_bf16_f32

/-- One element of the projected queries. -/
def queryOf (x : S2x256x768.Idx → EReal) (wq : S768x512.Idx → EReal) (b : Fin 2) (i : Fin 256) (k : Fin 512) : EReal :=
  ∑ j : Fin 768, x (ix3 b i j) * wq (ix2 j k)

/-- An element of the two-dimensional projection, by its row. -/
theorem projOf_at (x : Vec Ideal S2x256x768 .bf16) (wq : Vec Ideal S768x512 .bf16) (r k : Fin 512) :
    projOf x wq (ix2 r k) = queryOf x wq ⟨r.val / 256, by omega⟩ ⟨r.val % 256, by omega⟩ k := by
  unfold queryOf projOf
  pointwise

/-- An element of the two-dimensional projection, by batch entry and query. -/
theorem projOf_apply (x : Vec Ideal S2x256x768 .bf16) (wq : Vec Ideal S768x512 .bf16) (b : Fin 2) (i : Fin 256) (r k : Fin 512)
    (hr : 256 * b.val + i.val = r.val) : projOf x wq (ix2 r k) = queryOf x wq b i k := by
  refine (projOf_at x wq r k).trans (congrArg₂ (fun b i => queryOf x wq b i k) (Fin.ext ?_) (Fin.ext ?_))
  · show r.val / 256 = b.val; omega
  · show r.val % 256 = i.val; omega

/-- The sixteen heads of the projected queries. -/
def cuts (y : S512x512.Idx → EReal) : Fin 16 → S1x256x64.Idx → EReal := ![shapeCast S1x256x64 (extractStridedSlice S256x64 ![0, 0] y slices_S512x512_o0_0_S256x64) shapeCasts_S256x64_S1x256x64, shapeCast S1x256x64 (extractStridedSlice S256x64 ![0, 64] y slices_S512x512_o0_64_S256x64) shapeCasts_S256x64_S1x256x64, shapeCast S1x256x64 (extractStridedSlice S256x64 ![0, 128] y slices_S512x512_o0_128_S256x64) shapeCasts_S256x64_S1x256x64, shapeCast S1x256x64 (extractStridedSlice S256x64 ![0, 192] y slices_S512x512_o0_192_S256x64) shapeCasts_S256x64_S1x256x64, shapeCast S1x256x64 (extractStridedSlice S256x64 ![0, 256] y slices_S512x512_o0_256_S256x64) shapeCasts_S256x64_S1x256x64, shapeCast S1x256x64 (extractStridedSlice S256x64 ![0, 320] y slices_S512x512_o0_320_S256x64) shapeCasts_S256x64_S1x256x64, shapeCast S1x256x64 (extractStridedSlice S256x64 ![0, 384] y slices_S512x512_o0_384_S256x64) shapeCasts_S256x64_S1x256x64, shapeCast S1x256x64 (extractStridedSlice S256x64 ![0, 448] y slices_S512x512_o0_448_S256x64) shapeCasts_S256x64_S1x256x64, shapeCast S1x256x64 (extractStridedSlice S256x64 ![256, 0] y slices_S512x512_o256_0_S256x64) shapeCasts_S256x64_S1x256x64, shapeCast S1x256x64 (extractStridedSlice S256x64 ![256, 64] y slices_S512x512_o256_64_S256x64) shapeCasts_S256x64_S1x256x64, shapeCast S1x256x64 (extractStridedSlice S256x64 ![256, 128] y slices_S512x512_o256_128_S256x64) shapeCasts_S256x64_S1x256x64, shapeCast S1x256x64 (extractStridedSlice S256x64 ![256, 192] y slices_S512x512_o256_192_S256x64) shapeCasts_S256x64_S1x256x64, shapeCast S1x256x64 (extractStridedSlice S256x64 ![256, 256] y slices_S512x512_o256_256_S256x64) shapeCasts_S256x64_S1x256x64, shapeCast S1x256x64 (extractStridedSlice S256x64 ![256, 320] y slices_S512x512_o256_320_S256x64) shapeCasts_S256x64_S1x256x64, shapeCast S1x256x64 (extractStridedSlice S256x64 ![256, 384] y slices_S512x512_o256_384_S256x64) shapeCasts_S256x64_S1x256x64, shapeCast S1x256x64 (extractStridedSlice S256x64 ![256, 448] y slices_S512x512_o256_448_S256x64) shapeCasts_S256x64_S1x256x64]

/-- The queries, head `h` of sixteen (eight of the first batch, then eight of the second), read at an element. -/
theorem query_apply (x : Vec Ideal S2x256x768 .bf16) (wq : Vec Ideal S768x512 .bf16) (h : Fin 16) (i : Fin 256) (d : Fin 64) :
    k0_pay115 (F := Ideal) x wq (ix3 h i d)
      = queryOf x wq ⟨h.val / 8, by omega⟩ i ⟨(h.val % 8) * 64 + d.val, by omega⟩ := by
  have hP : k0_pay115 (F := Ideal) x wq (ix3 h i d)
      = cuts (projOf x wq) h (ix3 0 i d) :=
    stack_apply (cuts (projOf x wq)) h i d
  rw [hP]
  rw [← projOf_apply x wq ⟨h.val / 8, by omega⟩ i ⟨256 * (h.val / 8) + i.val, by omega⟩ ⟨(h.val % 8) * 64 + d.val, by omega⟩ rfl]
  generalize projOf x wq = y
  fin_cases h
  · exact cut_apply y 0 0 slices_S512x512_o0_0_S256x64 shapeCasts_S256x64_S1x256x64 i d _ _ rfl rfl
  · exact cut_apply y 0 64 slices_S512x512_o0_64_S256x64 shapeCasts_S256x64_S1x256x64 i d _ _ rfl rfl
  · exact cut_apply y 0 128 slices_S512x512_o0_128_S256x64 shapeCasts_S256x64_S1x256x64 i d _ _ rfl rfl
  · exact cut_apply y 0 192 slices_S512x512_o0_192_S256x64 shapeCasts_S256x64_S1x256x64 i d _ _ rfl rfl
  · exact cut_apply y 0 256 slices_S512x512_o0_256_S256x64 shapeCasts_S256x64_S1x256x64 i d _ _ rfl rfl
  · exact cut_apply y 0 320 slices_S512x512_o0_320_S256x64 shapeCasts_S256x64_S1x256x64 i d _ _ rfl rfl
  · exact cut_apply y 0 384 slices_S512x512_o0_384_S256x64 shapeCasts_S256x64_S1x256x64 i d _ _ rfl rfl
  · exact cut_apply y 0 448 slices_S512x512_o0_448_S256x64 shapeCasts_S256x64_S1x256x64 i d _ _ rfl rfl
  · exact cut_apply y 256 0 slices_S512x512_o256_0_S256x64 shapeCasts_S256x64_S1x256x64 i d _ _ rfl rfl
  · exact cut_apply y 256 64 slices_S512x512_o256_64_S256x64 shapeCasts_S256x64_S1x256x64 i d _ _ rfl rfl
  · exact cut_apply y 256 128 slices_S512x512_o256_128_S256x64 shapeCasts_S256x64_S1x256x64 i d _ _ rfl rfl
  · exact cut_apply y 256 192 slices_S512x512_o256_192_S256x64 shapeCasts_S256x64_S1x256x64 i d _ _ rfl rfl
  · exact cut_apply y 256 256 slices_S512x512_o256_256_S256x64 shapeCasts_S256x64_S1x256x64 i d _ _ rfl rfl
  · exact cut_apply y 256 320 slices_S512x512_o256_320_S256x64 shapeCasts_S256x64_S1x256x64 i d _ _ rfl rfl
  · exact cut_apply y 256 384 slices_S512x512_o256_384_S256x64 shapeCasts_S256x64_S1x256x64 i d _ _ rfl rfl
  · exact cut_apply y 256 448 slices_S512x512_o256_448_S256x64 shapeCasts_S256x64_S1x256x64 i d _ _ rfl rfl

/-- The eight heads of a batch of the attention's result, from head `8 * b` on. -/
def picks (a : S16x256x64.Idx → EReal) (b : Fin 2) : Fin 8 → S256x64.Idx → EReal :=
  if b.val = 0 then ![shapeCast S256x64 (extractStridedSlice S1x256x64 ![0, 0, 0] a slices_S16x256x64_o0_0_0_S1x256x64) shapeCasts_S1x256x64_S256x64, shapeCast S256x64 (extractStridedSlice S1x256x64 ![1, 0, 0] a slices_S16x256x64_o1_0_0_S1x256x64) shapeCasts_S1x256x64_S256x64, shapeCast S256x64 (extractStridedSlice S1x256x64 ![2, 0, 0] a slices_S16x256x64_o2_0_0_S1x256x64) shapeCasts_S1x256x64_S256x64, shapeCast S256x64 (extractStridedSlice S1x256x64 ![3, 0, 0] a slices_S16x256x64_o3_0_0_S1x256x64) shapeCasts_S1x256x64_S256x64, shapeCast S256x64 (extractStridedSlice S1x256x64 ![4, 0, 0] a slices_S16x256x64_o4_0_0_S1x256x64) shapeCasts_S1x256x64_S256x64, shapeCast S256x64 (extractStridedSlice S1x256x64 ![5, 0, 0] a slices_S16x256x64_o5_0_0_S1x256x64) shapeCasts_S1x256x64_S256x64, shapeCast S256x64 (extractStridedSlice S1x256x64 ![6, 0, 0] a slices_S16x256x64_o6_0_0_S1x256x64) shapeCasts_S1x256x64_S256x64, shapeCast S256x64 (extractStridedSlice S1x256x64 ![7, 0, 0] a slices_S16x256x64_o7_0_0_S1x256x64) shapeCasts_S1x256x64_S256x64] else ![shapeCast S256x64 (extractStridedSlice S1x256x64 ![8, 0, 0] a slices_S16x256x64_o8_0_0_S1x256x64) shapeCasts_S1x256x64_S256x64, shapeCast S256x64 (extractStridedSlice S1x256x64 ![9, 0, 0] a slices_S16x256x64_o9_0_0_S1x256x64) shapeCasts_S1x256x64_S256x64, shapeCast S256x64 (extractStridedSlice S1x256x64 ![10, 0, 0] a slices_S16x256x64_o10_0_0_S1x256x64) shapeCasts_S1x256x64_S256x64, shapeCast S256x64 (extractStridedSlice S1x256x64 ![11, 0, 0] a slices_S16x256x64_o11_0_0_S1x256x64) shapeCasts_S1x256x64_S256x64, shapeCast S256x64 (extractStridedSlice S1x256x64 ![12, 0, 0] a slices_S16x256x64_o12_0_0_S1x256x64) shapeCasts_S1x256x64_S256x64, shapeCast S256x64 (extractStridedSlice S1x256x64 ![13, 0, 0] a slices_S16x256x64_o13_0_0_S1x256x64) shapeCasts_S1x256x64_S256x64, shapeCast S256x64 (extractStridedSlice S1x256x64 ![14, 0, 0] a slices_S16x256x64_o14_0_0_S1x256x64) shapeCasts_S1x256x64_S256x64, shapeCast S256x64 (extractStridedSlice S1x256x64 ![15, 0, 0] a slices_S16x256x64_o15_0_0_S1x256x64) shapeCasts_S1x256x64_S256x64]

/-- An element of one head of one batch entry of the attention. -/
theorem picks_apply (a : S16x256x64.Idx → EReal) (b : Fin 2) (h : Fin 8) (i : Fin 256) (d : Fin 64) :
    picks a b h (ix2 i d) = a (ix3 ⟨8 * b.val + h.val, by omega⟩ i d) := by
  fin_cases b <;> fin_cases h
  · exact pick_apply a 0 slices_S16x256x64_o0_0_0_S1x256x64 shapeCasts_S1x256x64_S256x64 i d _ rfl
  · exact pick_apply a 1 slices_S16x256x64_o1_0_0_S1x256x64 shapeCasts_S1x256x64_S256x64 i d _ rfl
  · exact pick_apply a 2 slices_S16x256x64_o2_0_0_S1x256x64 shapeCasts_S1x256x64_S256x64 i d _ rfl
  · exact pick_apply a 3 slices_S16x256x64_o3_0_0_S1x256x64 shapeCasts_S1x256x64_S256x64 i d _ rfl
  · exact pick_apply a 4 slices_S16x256x64_o4_0_0_S1x256x64 shapeCasts_S1x256x64_S256x64 i d _ rfl
  · exact pick_apply a 5 slices_S16x256x64_o5_0_0_S1x256x64 shapeCasts_S1x256x64_S256x64 i d _ rfl
  · exact pick_apply a 6 slices_S16x256x64_o6_0_0_S1x256x64 shapeCasts_S1x256x64_S256x64 i d _ rfl
  · exact pick_apply a 7 slices_S16x256x64_o7_0_0_S1x256x64 shapeCasts_S1x256x64_S256x64 i d _ rfl
  · exact pick_apply a 8 slices_S16x256x64_o8_0_0_S1x256x64 shapeCasts_S1x256x64_S256x64 i d _ rfl
  · exact pick_apply a 9 slices_S16x256x64_o9_0_0_S1x256x64 shapeCasts_S1x256x64_S256x64 i d _ rfl
  · exact pick_apply a 10 slices_S16x256x64_o10_0_0_S1x256x64 shapeCasts_S1x256x64_S256x64 i d _ rfl
  · exact pick_apply a 11 slices_S16x256x64_o11_0_0_S1x256x64 shapeCasts_S1x256x64_S256x64 i d _ rfl
  · exact pick_apply a 12 slices_S16x256x64_o12_0_0_S1x256x64 shapeCasts_S1x256x64_S256x64 i d _ rfl
  · exact pick_apply a 13 slices_S16x256x64_o13_0_0_S1x256x64 shapeCasts_S1x256x64_S256x64 i d _ rfl
  · exact pick_apply a 14 slices_S16x256x64_o14_0_0_S1x256x64 shapeCasts_S1x256x64_S256x64 i d _ rfl
  · exact pick_apply a 15 slices_S16x256x64_o15_0_0_S1x256x64 shapeCasts_S1x256x64_S256x64 i d _ rfl

/-- The output projection of one batch's heads, before the cast to the stored shape. -/
def outOf (a : S16x256x64.Idx → EReal) (wo : S512x768.Idx → EReal) (b : Fin 2) (i : Fin 256) (e : Fin 768) : EReal :=
  ∑ k : Fin 512, a (ix3 ⟨8 * b.val + k.val / 64, by omega⟩ i ⟨k.val % 64, by omega⟩) * wo (ix2 k e)

/-- The product with the output projection, read at an element. -/
theorem wo_apply (a : FVec Ideal S256x512 .f32) (wo : Vec Ideal S512x768 .bf16) (i : Fin 256) (e : Fin 768) :
    shapeCast S1x256x768 (matmul (F := Ideal) (φ₁ := .bf16) (φ₂ := .bf16) dot_S256x512_S512x768_S256x768_1_0_0_1_n_n none
        (truncf .bf16 a bitsLt_bf16_f32) (shapeCast S512x768 wo shapeCasts_S512x768_S512x768) (constant S256x768 .f32 0x00000000#32))
        shapeCasts_S256x768_S1x256x768 (ix3 0 i e)
      = ∑ k : Fin 512, a (ix2 i k) * wo (ix2 k e) := by
  pointwise

/-- The heads of a batch laid side by side and projected. -/
theorem out_apply (a : S16x256x64.Idx → EReal) (wo : Vec Ideal S512x768 .bf16) (b : Fin 2) (i : Fin 256) (e : Fin 768) :
    shapeCast S1x256x768 (matmul (F := Ideal) (φ₁ := .bf16) (φ₂ := .bf16) dot_S256x512_S512x768_S256x768_1_0_0_1_n_n none
        (truncf .bf16 (φ := .f32) (concatenate S256x512 1 [⟨S256x64, picks a b 0⟩, ⟨S256x64, picks a b 1⟩, ⟨S256x64, picks a b 2⟩, ⟨S256x64, picks a b 3⟩, ⟨S256x64, picks a b 4⟩, ⟨S256x64, picks a b 5⟩, ⟨S256x64, picks a b 6⟩, ⟨S256x64, picks a b 7⟩] concatenates_S256x64_S256x64_S256x64_S256x64_S256x64_S256x64_S256x64_S256x64_S256x512_d1) bitsLt_bf16_f32)
        (shapeCast S512x768 wo shapeCasts_S512x768_S512x768) (constant S256x768 .f32 0x00000000#32))
        shapeCasts_S256x768_S1x256x768 (ix3 0 i e)
      = outOf a wo b i e :=
  (wo_apply _ wo i e).trans (Finset.sum_congr rfl fun k _ => congrArg (· * wo (ix2 k e))
    ((side_apply (picks a b) i k).trans (picks_apply a b ⟨k.val / 64, by omega⟩ i ⟨k.val % 64, by omega⟩)))

/-- The first batch's rows of the result. -/
theorem batch0_apply (a : FVec Ideal S16x256x64 .f32) (n l : FVec Ideal S16x256x1 .f32) (p : FVec Ideal S16x256x512 .bf16)
    (vc : Vec Ideal S1x1x1x16x64x512 .bf16) (wo : Vec Ideal S512x768 .bf16) (i : Fin 256) (e : Fin 768) :
    k0_pay148 (F := Ideal) a n l p vc wo (ix3 0 i e) = outOf (k0_pay147 (F := Ideal) a n l p vc) wo 0 i e :=
  out_apply (k0_pay147 (F := Ideal) a n l p vc) wo 0 i e

/-- The second batch's rows of the result. -/
theorem batch1_apply (a : FVec Ideal S16x256x64 .f32) (n l : FVec Ideal S16x256x1 .f32) (p : FVec Ideal S16x256x512 .bf16)
    (vc : Vec Ideal S1x1x1x16x64x512 .bf16) (wo : Vec Ideal S512x768 .bf16) (i : Fin 256) (e : Fin 768) :
    k0_pay1 (F := Ideal) (k0_pay147 a n l p vc) (k0_pay149 a n l p vc) (k0_pay150 a n l p vc) (k0_pay151 a n l p vc)
        (k0_pay152 a n l p vc) (k0_pay153 a n l p vc) (k0_pay154 a n l p vc) (k0_pay155 a n l p vc) wo (ix3 0 i e)
      = outOf (k0_pay147 (F := Ideal) a n l p vc) wo 1 i e :=
  out_apply (k0_pay147 (F := Ideal) a n l p vc) wo 1 i e

end Cert.RingProof

end
-- ==== Proof.Fold.lean ====
/-
# Sixteen blocks make one softmax

The running softmax after all sixteen blocks of keys, and what the kernel's result is in terms of it.
-/
module

public import proofs.«01_k».proof.Proof.Body
public import proofs.«01_k».proof.Proof.Read
public import proofs.«01_k».proof.Proof.Heads

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt Ideal) ℓ) (ρ : Dev nD → PrngReg)

/-- The devices whose blocks have been taken in on device `c` after `r` rounds. -/
def seen (c : Dev nD) : ℕ → Finset (Dev nD)
  | 0 => insert c ∅
  | r + 1 => insert (srcAt 1 c (r + 1)) (insert (srcAt 0 c (r + 1)) (seen c r))

/-- The block that lands from below in a round has not been taken in before. -/
theorem seen_up : ∀ (c : Dev nD) (r : Fin 8), srcAt 0 c (r.val + 1) ∉ seen c r.val := by decide
/-- Nor has the block that lands from above, after it. -/
theorem seen_down : ∀ (c : Dev nD) (r : Fin 7), srcAt 1 c (r.val + 1) ∉ insert (srcAt 0 c (r.val + 1)) (seen c r.val) := by decide
/-- With the eighth block from below every device's block has been taken in. -/
theorem seen_all : ∀ c : Dev nD, insert (srcAt 0 c 8) (seen c 7) = Finset.univ := by decide

/-- The keys of every device, as the kernel's blocks hold them. -/
abbrev keysOf (e : Dev nD) : S1x1x1x16x64x512.Idx → EReal := kvChunk (F := Ideal) m ρ e 0
/-- The values of every device, as the kernel's blocks hold them. -/
abbrev valsOf (e : Dev nD) : S1x1x1x16x64x512.Idx → EReal := kvChunk (F := Ideal) m ρ e 1

/-- After `r` rounds the running softmax holds the blocks seen. -/
theorem kfold_acc (q : FVec Ideal S16x256x64 .bf16) (c : Dev nD) (r : ℕ) (hr : r ≤ 7) :
    AccIs q (keysOf m ρ) (valsOf m ρ) (seen c r) (kfold m ρ q c r) := by
  induction r with
  | zero => exact accIs_step q _ _ (accIs_empty q _ _) (Finset.notMem_empty c)
  | succ r ih =>
    exact accIs_step q _ _ (accIs_step q _ _ (ih (by omega)) (seen_up c ⟨r, by omega⟩)) (seen_down c ⟨r, by omega⟩)

/-- With the last block every device's is in. -/
theorem kfold_all (q : FVec Ideal S16x256x64 .bf16) (c : Dev nD) :
    AccIs q (keysOf m ρ) (valsOf m ρ) Finset.univ (kstepAt m ρ q (srcAt 0 c 8) (kfold m ρ q c 7)) :=
  seen_all c ▸ accIs_step q _ _ (kfold_acc m ρ q c 7 (le_refl 7)) (seen_up c ⟨7, by decide⟩)

/-- One element of the attention's result: the weighted sum over the sum of the weights, all blocks taken against the one maximum. -/
def attnOf (q : FVec Ideal S16x256x64 .bf16) (kc vc : Dev nD → S1x1x1x16x64x512.Idx → EReal) : S16x256x64.Idx → EReal := fun j =>
  Ideal.div (wsumOf Finset.univ (fun e => scoreOf q (kc e) (j 0) (j 1)) (fun e t => vc e (ix6 0 0 0 (j 0) (j 2) t))
      (topOf Finset.univ fun e => scoreOf q (kc e) (j 0) (j 1)))
    (massOf Finset.univ (fun e => scoreOf q (kc e) (j 0) (j 1)) (topOf Finset.univ fun e => scoreOf q (kc e) (j 0) (j 1)))

/-- The quotient of the last step, over the running softmax with that step taken. -/
theorem quotient_eq (q : FVec Ideal S16x256x64 .bf16) (a : Acc Ideal) (kk vv : Vec Ideal S1x1x1x16x64x512 .bf16) :
    k0_pay147 (F := Ideal) a.2.2 (k0_pay142 q a.1 kk) (k0_pay145 a.2.1 (k0_pay140 q kk) (k0_pay142 q a.1 kk) (k0_pay143 q a.1 kk))
        (k0_pay146 (k0_pay140 q kk) (k0_pay143 q a.1 kk)) vv
      = divf (kstep q a kk vv).2.2 (broadcastTo S16x256x64 (kstep q a kk vv).2.1 broadcasts_S16x256x1_S16x256x64) := rfl

/-- The kernel's quotient after the last block is one softmax over all the devices' keys, applied to their values. -/
theorem attn_eq (q : FVec Ideal S16x256x64 .bf16) (c : Dev nD) :
    divf (F := Ideal) (kstepAt m ρ q (srcAt 0 c 8) (kfold m ρ q c 7)).2.2
        (broadcastTo S16x256x64 (kstepAt m ρ q (srcAt 0 c 8) (kfold m ρ q c 7)).2.1 broadcasts_S16x256x1_S16x256x64)
      = attnOf q (keysOf m ρ) (valsOf m ρ) := by
  funext j
  obtain ⟨h, i, d, rfl⟩ : ∃ (h : Fin 16) (i : Fin 256) (d : Fin 64), j = ix3 h i d := ⟨j 0, j 1, j 2, eq_ix3 j⟩
  obtain ⟨-, h2, h3⟩ := kfold_all m ρ q c h i
  exact congrArg₂ Ideal.div (h3 d) ((spread_feat _ h i d).trans h2)

/-- The kernel's result on device `c`, element by element. -/
theorem outB_apply (c : Dev nD) (b : Fin 2) (i : Fin 256) (e : Fin 768) :
    outB (F := Ideal) m ρ c (ix3 b i e) = outOf (attnOf (qOf m ρ c) (keysOf m ρ) (valsOf m ρ)) (wostg m ρ c) b i e := by
  have hi : inBatch (ix3 b i e) = ix3 0 i e := by
    funext a
    match a with
    | ⟨0, _⟩ => rfl
    | ⟨1, _⟩ => rfl
    | ⟨2, _⟩ => rfl
  rw [← attn_eq]
  unfold outB
  dsimp only
  rw [hi]
  fin_cases b
  · exact (batch0_apply _ _ _ _ _ _ i e).trans rfl
  · exact (batch1_apply _ _ _ _ _ _ i e).trans rfl

end Cert.RingProof

end
-- ==== Proof.RefRead.lean ====
/-
# The reference element by element

What each operation of the reference makes of each element, over the extended reals.
-/
module

public import proofs.«01_k».proof.Proof.Softmax
public import proofs.«01_k».proof.Proof.Gen.ReferenceIdeal.Run
public import Idealize.ShloMosaic.Lib.Pointwise

@[expose] public section

noncomputable section

namespace Cert.RefRead

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

/-- The reference's queries. -/
def rQ (x : FVec Ideal S2x256x768 .bf16) (wq : FVec Ideal S768x512 .bf16) : FVec Ideal S2x256x8x64 .f32 :=
  shapeCast S2x256x8x64 (Host.dotGeneral dot_S2x256x768_S768x512_S2x256x512_2_0_01_1_n_n none (extf .f32 x bitsLt_bf16_f32) (extf .f32 wq bitsLt_bf16_f32))
    shapeCasts_S2x256x512_S2x256x8x64
/-- The reference's scaled scores. -/
def rS (q : FVec Ideal S2x256x8x64 .f32) (K : FVec Ideal S2x8192x8x64 .bf16) : FVec Ideal S2x8x256x8192 .f32 :=
  mulf (Host.dotGeneral dot_S2x256x8x64_S2x8192x8x64_S2x8x256x8192_3_3_1_1_02_02 none q (extf .f32 K bitsLt_bf16_f32))
    (broadcastInDim S2x8x256x8192 ![] bcast_S_S2x8x256x8192 (constant S_ .f32 0x3E000000#32))
/-- The reference's weights. -/
def rP (s : FVec Ideal S2x8x256x8192 .f32) : FVec Ideal S2x8x256x8192 .f32 :=
  Host.exp (subf s (broadcastInDim S2x8x256x8192 ![0, 1, 2, 3] bcast_S2x8x256x1_S2x8x256x8192_0_1_2_3
    (broadcastInDim S2x8x256x1 ![0, 1, 2] bcast_S2x8x256_S2x8x256x1_0_1_2
      (Host.reduce FloatOps.maximumf s (constant S_ .f32 0xFF800000#32) reducesTo_S2x8x256x8192_S2x8x256_d3 h_S_))))
/-- The reference's sums of weights, spread over the features. -/
def rL (p : FVec Ideal S2x8x256x8192 .f32) : FVec Ideal S2x256x8x64 .f32 :=
  broadcastInDim S2x256x8x64 ![0, 1, 2, 3] bcast_S2x256x8x1_S2x256x8x64_0_1_2_3
    (transpose S2x256x8x1 [0, 2, 1, 3] (broadcastInDim S2x8x256x1 ![0, 1, 2] bcast_S2x8x256_S2x8x256x1_0_1_2
      (Host.reduceAdd p (constant S_ .f32 0x00000000#32) reducesTo_S2x8x256x8192_S2x8x256_d3 h_S_)) transposes_S2x8x256x1_S2x256x8x1_0_2_1_3)
/-- The reference's weighted sums of values. -/
def rA (V : FVec Ideal S2x8192x8x64 .bf16) (p : FVec Ideal S2x8x256x8192 .f32) : FVec Ideal S2x256x8x64 .f32 :=
  transpose S2x256x8x64 [0, 3, 1, 2] (Host.dotGeneral dot_S2x8192x8x64_S2x8x256x8192_S2x8x64x256_1_3_3_2_02_01 none (extf .f32 V bitsLt_bf16_f32) p)
    transposes_S2x8x64x256_S2x256x8x64_0_3_1_2
/-- The reference's result. -/
def rO (a l : FVec Ideal S2x256x8x64 .f32) (wo : FVec Ideal S512x768 .bf16) : FVec Ideal S2x256x768 .f32 :=
  Host.dotGeneral dot_S2x256x512_S512x768_S2x256x768_2_0_01_1_n_n none (shapeCast S2x256x512 (Host.divf a l) shapeCasts_S2x256x8x64_S2x256x512)
    (extf .f32 wo bitsLt_bf16_f32)

/-- A query: a row of the inputs times a column of the projection. -/
theorem rQ_apply (x : FVec Ideal S2x256x768 .bf16) (wq : FVec Ideal S768x512 .bf16) (b : Fin 2) (i : Fin 256) (h : Fin 8) (d : Fin 64) :
    rQ x wq (ix4 b i h d) = ∑ j : Fin 768, x (ix3 b i j) * wq (ix2 j ⟨h.val * 64 + d.val, by omega⟩) := by
  pointwise [rQ]

/-- A score: a query times a key, scaled. -/
theorem rS_apply (q : FVec Ideal S2x256x8x64 .f32) (K : FVec Ideal S2x8192x8x64 .bf16) (b : Fin 2) (h : Fin 8) (i : Fin 256) (j : Fin 8192) :
    rS q K (ix4 b h i j) = (∑ d : Fin 64, q (ix4 b i h d) * K (ix4 b j h d)) * Ideal.ofBits .f32 0x3E000000#32 := by
  pointwise [rS]

/-- A weight: the exponential of a score less the largest of its row. -/
theorem rP_apply (s : FVec Ideal S2x8x256x8192 .f32) (b : Fin 2) (h : Fin 8) (i : Fin 256) (j : Fin 8192) :
    rP s (ix4 b h i j) = Ideal.exp (s (ix4 b h i j)
      - Finset.univ.fold max (Ideal.ofBits .f32 0xFF800000#32) fun t : Fin 8192 => s (ix4 b h i t)) := by
  pointwise [rP]

/-- The sum of a row's weights. -/
theorem rL_apply (p : FVec Ideal S2x8x256x8192 .f32) (b : Fin 2) (i : Fin 256) (h : Fin 8) (d : Fin 64) :
    rL p (ix4 b i h d) = ∑ t : Fin 8192, p (ix4 b h i t) := by
  pointwise [rL]

/-- The values weighted and summed. -/
theorem rA_apply (V : FVec Ideal S2x8192x8x64 .bf16) (p : FVec Ideal S2x8x256x8192 .f32) (b : Fin 2) (i : Fin 256) (h : Fin 8) (d : Fin 64) :
    rA V p (ix4 b i h d) = ∑ t : Fin 8192, V (ix4 b t h d) * p (ix4 b h i t) := by
  pointwise [rA]

/-- A result: the quotients times a column of the output projection. -/
theorem rO_apply (a l : FVec Ideal S2x256x8x64 .f32) (wo : FVec Ideal S512x768 .bf16) (b : Fin 2) (i : Fin 256) (e : Fin 768) :
    rO a l wo (ix3 b i e) = ∑ k : Fin 512, Ideal.div (a (ix4 b i ⟨k.val / 64, by omega⟩ ⟨k.val % 64, by omega⟩))
      (l (ix4 b i ⟨k.val / 64, by omega⟩ ⟨k.val % 64, by omega⟩)) * wo (ix2 k e) := by
  pointwise [rO]

/-- The reference as the printed program composes it. -/
def refTerm (x : FVec Ideal S2x256x768 .bf16) (wq : FVec Ideal S768x512 .bf16) (K V : FVec Ideal S2x8192x8x64 .bf16)
    (wo : FVec Ideal S512x768 .bf16) : FVec Ideal S2x256x768 .f32 :=
  rO (rA V (rP (rS (rQ x wq) K))) (rL (rP (rS (rQ x wq) K))) wo

end Cert.RefRead

end
-- ==== Proof.Bridge.lean ====
/-
# Sixteen blocks of 512 keys are the 8192 keys

The attention of a device, which takes the keys block by block, is the reference's softmax over all the keys.
-/
module

public import proofs.«01_k».proof.Proof.Fold
public import proofs.«01_k».proof.Proof.RefRead

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Cert.RefRead
open Cert.ReferenceIdeal (S2x8192x8x64 S2x256x8x64)

/-- Key `t` of block `e` among all the keys. -/
def keyAt (e : Fin 16) (t : Fin 512) : Fin 8192 := ⟨e.val * 512 + t.val, by omega⟩

/-- A sum block by block is the sum over all the keys. -/
theorem sum_blocks (f : Fin 8192 → EReal) : ∑ e : Fin 16, ∑ t : Fin 512, f (keyAt e t) = ∑ j : Fin 8192, f j := by
  rw [← Fintype.sum_prod_type' (f := fun (e : Fin 16) (t : Fin 512) => f (keyAt e t))]
  refine Fintype.sum_equiv (finProdFinEquiv (m := 16) (n := 512)) _ _ fun p => congrArg f (Fin.ext ?_)
  show p.1.val * 512 + p.2.val = p.2.val + 512 * p.1.val
  omega

/-- The largest of the largest of each part is the largest of all, when the parts cover the whole. -/
theorem sup_parts {ι τ κ : Type} [Fintype ι] [Fintype τ] [Fintype κ] (g : ι → τ → κ) (hg : ∀ j, ∃ e t, g e t = j) (f : κ → EReal) :
    (Finset.univ.sup fun e : ι => Finset.univ.sup fun t : τ => f (g e t)) = Finset.univ.sup f := by
  refine le_antisymm (Finset.sup_le fun e _ => Finset.sup_le fun t _ => Finset.le_sup (f := f) (Finset.mem_univ _)) (Finset.sup_le fun j _ => ?_)
  obtain ⟨e, t, rfl⟩ := hg j
  exact (Finset.le_sup (f := fun t : τ => f (g e t)) (Finset.mem_univ t)).trans
    (Finset.le_sup (f := fun e : ι => Finset.univ.sup fun t : τ => f (g e t)) (Finset.mem_univ e))

/-- Every key is in a block. -/
theorem keyAt_cover (j : Fin 8192) : ∃ e t, keyAt e t = j :=
  ⟨⟨j.val / 512, by omega⟩, ⟨j.val % 512, by omega⟩, Fin.ext (Nat.div_add_mod' j.val 512)⟩

/-- The largest of the largest of each block is the largest of all. -/
theorem sup_blocks (f : Fin 8192 → EReal) :
    (Finset.univ.sup fun e : Fin 16 => Finset.univ.sup fun t : Fin 512 => f (keyAt e t)) = Finset.univ.sup f :=
  sup_parts keyAt keyAt_cover f

/-- The largest score as the reference takes it, starting at minus infinity. -/
theorem fold_max (f : Fin 8192 → EReal) : (Finset.univ.fold max (Ideal.ofBits .f32 0xFF800000#32) fun t : Fin 8192 => f t) = Finset.univ.sup f := by
  rw [ofBits_neg_inf, Finset.sup_def]; rfl

section
variable (x : FVec Ideal S2x256x768 .bf16) (wq : FVec Ideal S768x512 .bf16) (K V : FVec Ideal S2x8192x8x64 .bf16) (wo : FVec Ideal S512x768 .bf16)
  (q : S16x256x64.Idx → EReal) (kc vc : Fin 16 → S1x1x1x16x64x512.Idx → EReal)

/-- The batch entry of row `h` of the sixteen batch entry and head pairs. -/
abbrev bOf (h : Fin 16) : Fin 2 := ⟨h.val / 8, by omega⟩
/-- The head of row `h`. -/
abbrev hOf (h : Fin 16) : Fin 8 := ⟨h.val % 8, by omega⟩

/-- The scores of block `e` are the reference's scores of its keys. -/
theorem score_ref (Q : FVec Ideal S2x256x8x64 .f32) (hq : ∀ h i d, q (ix3 h i d) = Q (ix4 (bOf h) i (hOf h) d))
    (hk : ∀ e h d t, kc e (ix6 0 0 0 h d t) = K (ix4 (bOf h) (keyAt e t) (hOf h) d)) (e : Fin 16) (h : Fin 16) (i : Fin 256) (t : Fin 512) :
    scoreOf q (kc e) h i t = rS Q K (ix4 (bOf h) (hOf h) i (keyAt e t)) := by
  rw [rS_apply]
  unfold scoreOf scl
  exact congrArg (· * _) (Finset.sum_congr rfl fun d _ => by rw [hq, hk])

/-- The attention of a device is the reference's quotient. -/
theorem attn_ref (Q : FVec Ideal S2x256x8x64 .f32) (hq : ∀ h i d, q (ix3 h i d) = Q (ix4 (bOf h) i (hOf h) d))
    (hk : ∀ e h d t, kc e (ix6 0 0 0 h d t) = K (ix4 (bOf h) (keyAt e t) (hOf h) d))
    (hv : ∀ e h d t, vc e (ix6 0 0 0 h d t) = V (ix4 (bOf h) (keyAt e t) (hOf h) d)) (h : Fin 16) (i : Fin 256) (d : Fin 64) :
    attnOf q kc vc (ix3 h i d) = Ideal.div (rA V (rP (rS Q K)) (ix4 (bOf h) i (hOf h) d)) (rL (rP (rS Q K)) (ix4 (bOf h) i (hOf h) d)) := by
  have hs : (fun e => scoreOf q (kc e) h i) = fun e t => rS Q K (ix4 (bOf h) (hOf h) i (keyAt e t)) :=
    funext fun e => funext fun t => score_ref K q kc Q hq hk e h i t
  have hvv : (fun (e : Fin 16) (t : Fin 512) => vc e (ix6 0 0 0 h d t)) = fun e t => V (ix4 (bOf h) (keyAt e t) (hOf h) d) :=
    funext fun e => funext fun t => hv e h d t
  have ht : topOf Finset.univ (fun e => scoreOf q (kc e) h i)
      = Finset.univ.fold max (Ideal.ofBits .f32 0xFF800000#32) fun t : Fin 8192 => rS Q K (ix4 (bOf h) (hOf h) i t) := by
    rw [hs, fold_max (fun t => rS Q K (ix4 (bOf h) (hOf h) i t)), ← sup_blocks]; rfl
  show Ideal.div (wsumOf Finset.univ (fun e => scoreOf q (kc e) h i) (fun e t => vc e (ix6 0 0 0 h d t)) (topOf Finset.univ fun e => scoreOf q (kc e) h i))
    (massOf Finset.univ (fun e => scoreOf q (kc e) h i) (topOf Finset.univ fun e => scoreOf q (kc e) h i)) = _
  rw [ht, hs, hvv, rA_apply, rL_apply]
  refine congrArg₂ Ideal.div ?_ ?_
  · rw [← sum_blocks fun j => V (ix4 (bOf h) j (hOf h) d) * rP (rS Q K) (ix4 (bOf h) (hOf h) i j)]
    exact Finset.sum_congr rfl fun e _ => Finset.sum_congr rfl fun t _ => by rw [rP_apply, mul_comm]
  · rw [← sum_blocks fun j => rP (rS Q K) (ix4 (bOf h) (hOf h) i j)]
    exact Finset.sum_congr rfl fun e _ => Finset.sum_congr rfl fun t _ => by rw [rP_apply]

/-- A device's result is the reference's. -/
theorem out_ref (hq : ∀ h i d, q (ix3 h i d) = queryOf x wq (bOf h) i ⟨(h.val % 8) * 64 + d.val, by omega⟩)
    (hk : ∀ e h d t, kc e (ix6 0 0 0 h d t) = K (ix4 (bOf h) (keyAt e t) (hOf h) d))
    (hv : ∀ e h d t, vc e (ix6 0 0 0 h d t) = V (ix4 (bOf h) (keyAt e t) (hOf h) d)) (b : Fin 2) (i : Fin 256) (e : Fin 768) :
    outOf (attnOf q kc vc) wo b i e = refTerm x wq K V wo (ix3 b i e) := by
  have hQ : ∀ h i d, q (ix3 h i d) = rQ x wq (ix4 (bOf h) i (hOf h) d) := fun h i d => by
    rw [hq, rQ_apply]; unfold queryOf; rfl
  unfold refTerm
  rw [rO_apply]
  unfold outOf
  refine Finset.sum_congr rfl fun k _ => ?_
  rw [attn_ref K V q kc vc (rQ x wq) hQ hk hv]
  have hb : bOf ⟨8 * b.val + k.val / 64, by omega⟩ = b := Fin.ext (by show (8 * b.val + k.val / 64) / 8 = b.val; omega)
  have hh : hOf ⟨8 * b.val + k.val / 64, by omega⟩ = ⟨k.val / 64, by omega⟩ := Fin.ext (by show (8 * b.val + k.val / 64) % 8 = k.val / 64; omega)
  rw [hb, hh]
end

end Cert.RingProof

end
-- ==== Proof.Results.lean ====
/-
# What the devices end with

Each device stages its arguments whole; its result array ends at the result of its body, which is the reference's.
-/
module

public import proofs.«01_k».proof.Proof.Launch
public import proofs.«01_k».proof.Proof.Bridge

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Window 0 stages argument 0 whole. -/
theorem xstg_eq (c : Dev nD) : xstg m ρ c = m ((c : Thread nD τ).loc main_arg0) :=
  Memref.read_access_unit_zero (Elt F) main_arg0 (off := fun a => (win0_0.index (0 : Fin 1)) a * main_arg0.ty.shape.size a)
    (funext fun a => by fin_cases a <;> decide) (fun a => by fin_cases a <;> decide) _

/-- Window 1 stages argument 1 whole. -/
theorem wqstg_eq (c : Dev nD) : wqstg m ρ c = m ((c : Thread nD τ).loc main_arg1) :=
  Memref.read_access_unit_zero (Elt F) main_arg1 (off := fun a => (win0_1.index (0 : Fin 1)) a * main_arg1.ty.shape.size a)
    (funext fun a => by fin_cases a <;> decide) (fun a => by fin_cases a <;> decide) _

/-- Window 2 stages argument 4 whole. -/
theorem wostg_eq (c : Dev nD) : wostg m ρ c = m ((c : Thread nD τ).loc main_arg4) :=
  Memref.read_access_unit_zero (Elt F) main_arg4 (off := fun a => (win0_2.index (0 : Fin 1)) a * main_arg4.ty.shape.size a)
    (funext fun a => by fin_cases a <;> decide) (fun a => by fin_cases a <;> decide) _

/-- Window 3 stages argument 2 whole. -/
theorem kstg_eq (c : Dev nD) : kstg m ρ c = m ((c : Thread nD τ).loc main_arg2) :=
  Memref.read_access_unit_zero (Elt F) main_arg2 (off := fun a => (win0_3.index (0 : Fin 1)) a * main_arg2.ty.shape.size a)
    (funext fun a => by fin_cases a <;> decide) (fun a => by fin_cases a <;> decide) _

/-- Window 4 stages argument 3 whole. -/
theorem vstg_eq (c : Dev nD) : vstg m ρ c = m ((c : Thread nD τ).loc main_arg3) :=
  Memref.read_access_unit_zero (Elt F) main_arg3 (off := fun a => (win0_4.index (0 : Fin 1)) a * main_arg3.ty.shape.size a)
    (funext fun a => by fin_cases a <;> decide) (fun a => by fin_cases a <;> decide) _

/-- The result array ends at the body's result. -/
theorem finalA_out (c : Dev nD) : finalA m ρ c (5 : Fin 6) = outB m ρ c := by
  have h : (win0_5.blk (0 : Fin 1)).view.read (Elt F) (finalA m ρ c (5 : Fin 6)) = outB m ρ c := by
    unfold finalA
    rw [show cfg0.N = ((0 : Fin 1) : Fin cfg0.N).val + 1 from rfl, (dats m ρ 0 c).arrAt_succ (5 : Fin 6) (0 : Fin 1)]
    rw [show (cfg0.win (5 : Fin 6)).flush (0 : Fin 1) = true from by decide, if_pos rfl]
    exact View.read_write_univ _ _
  exact (Memref.read_access_unit_zero (Elt F) main_v1 (off := fun a => (win0_5.index (0 : Fin 1)) a * main_v1.ty.shape.size a)
    (funext fun a => by fin_cases a <;> decide) (fun a => by fin_cases a <;> decide) _).symm.trans h

open Cert.RefRead
open Cert.ReferenceIdeal (S2x8192x8x64 S2x256x8x64)

/-- A block of a device's keys, or of its values, at an index of the communicated layout. -/
theorem chunk_block (X : S2x8192x8x64.Idx → EReal) (e : Fin 16) (h : Fin 16) (d : Fin 64) (t : Fin 512) :
    chunk (F := Ideal) (Layout.block ⟨4, ![2, 512, 8, 64]⟩ ⟨4, ![2, 8192, 8, 64]⟩ 1 16 e X) (ix6 0 0 0 h d t)
      = X (ix4 (bOf h) (keyAt e t) (hOf h) d) := by
  unfold chunk
  rw [Layout.block_apply]
  refine congrArg X (funext fun a => Fin.ext ?_)
  rw [Layout.Tiles.idx_val]
  fin_cases a <;> rfl

/-- The result of every device is the reference's, from the arguments the claim relates. -/
theorem outB_ref (m : (ℓ : Loc nD τ sig) → Buf (Elt Ideal) ℓ) (x : S2x256x768.Idx → EReal) (wq : S768x512.Idx → EReal)
    (K V : S2x8192x8x64.Idx → EReal) (wo : S512x768.Idx → EReal)
    (hx : ∀ c : Dev nD, m ((c : Thread nD τ).loc main_arg0) = x) (hwq : ∀ c : Dev nD, m ((c : Thread nD τ).loc main_arg1) = wq)
    (hK : ∀ c : Dev nD, m ((c : Thread nD τ).loc main_arg2) = Layout.block ⟨4, ![2, 512, 8, 64]⟩ ⟨4, ![2, 8192, 8, 64]⟩ 1 16 c K)
    (hV : ∀ c : Dev nD, m ((c : Thread nD τ).loc main_arg3) = Layout.block ⟨4, ![2, 512, 8, 64]⟩ ⟨4, ![2, 8192, 8, 64]⟩ 1 16 c V)
    (hwo : ∀ c : Dev nD, m ((c : Thread nD τ).loc main_arg4) = wo) (c : Dev nD) :
    outB m ρ c = refTerm x wq K V wo := by
  refine funext fun j => ?_
  obtain ⟨b, i, e, rfl⟩ : ∃ b i e, j = ix3 b i e := ⟨j 0, j 1, j 2, funext fun a => by fin_cases a <;> rfl⟩
  rw [outB_apply, wostg_eq, hwo]
  refine out_ref x wq K V wo (qOf m ρ c) (keysOf m ρ) (valsOf m ρ) (fun h i d => ?_) (fun e h d t => ?_) (fun e h d t => ?_) b i e
  · unfold qOf
    rw [query_apply, xstg_eq, wqstg_eq, hx, hwq]
  · unfold keysOf kvChunk
    rw [if_pos rfl, kstg_eq, hK]
    exact chunk_block K e h d t
  · unfold valsOf kvChunk
    rw [if_neg (by decide), vstg_eq, hV]
    exact chunk_block V e h d t

end Cert.RingProof

end
-- ==== Proof.Value.lean ====
/-
# The value

Every device's result is the reference's result on the whole keys and values.
-/
module

public import proofs.«01_k».proof.Proof.Frames
public import proofs.«01_k».proof.Proof.Results

@[expose] public section

noncomputable section

namespace Cert.Proof

open Idealize.ShloMosaic Idealize.ShloMosaic.TcCoe Idealize.SL.Sem
open Cert.RingProof Cert.RefRead

/-- The idealized kernel and the reference compute one value: the kernel's result array on every device ends at the
    reference's result, and both leave their arguments as they were. -/
theorem value : Cert.algebraic_KernelIdeal_ReferenceIdeal := by
  intro m ρ m' ρ' _ hagree
  refine ⟨refTerm (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3))
    (m' (((0 : Dev Cert.ReferenceIdeal.nD).tc : Thread Cert.ReferenceIdeal.nD Cert.ReferenceIdeal.τ).loc Cert.ReferenceIdeal.main_arg4)), ?_, ?_⟩
  · refine (θ_run Cert.KernelIdeal.defs _ _).mono (fun r h c => ⟨((h.1 c (5 : Fin 6)).trans (finalA_out m ρ c)).trans ?_, args_kept m ρ r h.1 c⟩)
      (run_main (F := Ideal) m ρ)
    exact outB_ref ρ m _ _ _ _ _ (fun c => (hagree c).1) (fun c => (hagree c).2.1) (fun c => (hagree c).2.2.1) (fun c => (hagree c).2.2.2.1)
      (fun c => (hagree c).2.2.2.2) c
  · exact (θ_run Cert.ReferenceIdeal.defs _ _).mono (fun _ h => h 0) (Cert.ReferenceIdeal.Value.run (F := Ideal) m' ρ')

end Cert.Proof

end
-- ==== Proof.lean ====
/-
The claims about the ring attention kernel and its reference, put together from Proof/Frames.lean and Proof/Value.lean.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Value

@[expose] public section

noncomputable section

namespace Cert.Proof

open Idealize.ShloMosaic Idealize.SL.Sem

/-- The certificate's claim. -/
theorem claim : Cert.Claim := ⟨Cert.Kernel.Gen.facts, Cert.KernelIdeal.Gen.facts, Cert.ReferenceIdeal.Gen.facts,
  frame_kernel, frame_ideal, frame_reference, trivial, value⟩

end Cert.Proof

end
